-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 4096]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x1024 : Shape := ⟨2, ![4096, 1024]⟩
abbrev S4x3x128x1024 : Shape := ⟨4, ![4, 3, 128, 1024]⟩
abbrev S4x128x1024 : Shape := ⟨3, ![4, 128, 1024]⟩
abbrev S4 : Shape := ⟨1, ![4]⟩
abbrev S4x3 : Shape := ⟨2, ![4, 3]⟩
abbrev S4x4 : Shape := ⟨2, ![4, 4]⟩
abbrev S_ : Shape := ⟨0, ![]⟩
abbrev S1x1 : Shape := ⟨2, ![1, 1]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .local _ .vmem, ⟨0, _⟩ => ⟨S4096x1024, .f32⟩
  | .local _ .vmem, ⟨1, _⟩ => ⟨S4x3x128x1024, .f32⟩
  | .local _ .vmem, ⟨2, _⟩ => ⟨S4x128x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  (ofTc nBuf bufTy 1 109 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_18 : BitVec 32 := 16#32
  let v36 : BitVec 32 := Scalar.muli v2 c16_i32_18
  let v37 : BitVec 32 := Scalar.addi c0_i32_19 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_20 : BitVec 32 := 4#32
  let v38 : BitVec 32 := Scalar.muli v31 c4_i32_20
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v40 : BitVec 32 := Scalar.muli v8 c1_i32_21
  let v41 : BitVec 32 := Scalar.addi v39 v40
  v41.toNat
def k0_dev2 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v42 : BitVec 32 := Scalar.muli v2 c16_i32_23
  let v43 : BitVec 32 := Scalar.addi c0_i32_24 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_25 : BitVec 32 := 4#32
  let v44 : BitVec 32 := Scalar.muli v19 c4_i32_25
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.muli v8 c1_i32_26
  let v47 : BitVec 32 := Scalar.addi v45 v46
  v47.toNat
def k0_dev3 (d0 : Dev nD) : Nat :=
  let c0_i32_30 : BitVec 32 := 0#32
  let c1_i32_27 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v48 : BitVec 32 := Scalar.subi c1_i32_27 v2
  let c16_i32_29 : BitVec 32 := 16#32
  let v49 : BitVec 32 := Scalar.muli v48 c16_i32_29
  let v50 : BitVec 32 := Scalar.addi c0_i32_30 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v51 : BitVec 32 := Scalar.muli v5 c4_i32_31
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v53 : BitVec 32 := Scalar.muli v8 c1_i32_32
  let v54 : BitVec 32 := Scalar.addi v52 v53
  v54.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_33 : BitVec 32 := 0#32
  let v55 : BitVec 1 := Scalar.cmpi .sgt v8 c0_i32_33
  let v56 : BitVec 32 := Scalar.extui v55
  let c0_i32_34 : BitVec 32 := 0#32
  let v57 : BitVec 1 := Scalar.cmpi .ne v56 c0_i32_34
  v57

def k0_dev4 (d0 : Dev nD) : Nat :=
  let c0_i32_1886 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1885 : BitVec 32 := 16#32
  let v2004 : BitVec 32 := Scalar.muli v2 c16_i32_1885
  let v2005 : BitVec 32 := Scalar.addi c0_i32_1886 v2004
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1887 : BitVec 32 := 4#32
  let v2006 : BitVec 32 := Scalar.muli v5 c4_i32_1887
  let v2007 : BitVec 32 := Scalar.addi v2005 v2006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c1_i32_1888 : BitVec 32 := 1#32
  let v2008 : BitVec 32 := Scalar.muli v2003 c1_i32_1888
  let v2009 : BitVec 32 := Scalar.addi v2007 v2008
  v2009.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v58 : BitVec 1 := Scalar.cmpi .slt v8 c3_i32
  let v59 : BitVec 32 := Scalar.extui v58
  let c0_i32_35 : BitVec 32 := 0#32
  let v60 : BitVec 1 := Scalar.cmpi .ne v59 c0_i32_35
  v60

def k0_dev5 (d0 : Dev nD) : Nat :=
  let c0_i32_1886 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1885 : BitVec 32 := 16#32
  let v2004 : BitVec 32 := Scalar.muli v2 c16_i32_1885
  let v2005 : BitVec 32 := Scalar.addi c0_i32_1886 v2004
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1887 : BitVec 32 := 4#32
  let v2006 : BitVec 32 := Scalar.muli v5 c4_i32_1887
  let v2007 : BitVec 32 := Scalar.addi v2005 v2006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c1_i32_1888 : BitVec 32 := 1#32
  let v2008 : BitVec 32 := Scalar.muli v2003 c1_i32_1888
  let v2009 : BitVec 32 := Scalar.addi v2007 v2008
  v2009.toNat
def k0_amt1 (d0 : Dev nD) : BitVec 32 :=
  let c3_i32_37 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_36 : BitVec 32 := 0#32
  let v61 : BitVec 1 := Scalar.cmpi .sgt v8 c0_i32_36
  let v62 : BitVec 32 := Scalar.extui v61
  let v63 : BitVec 32 := Scalar.addi c3_i32_37 v62
  let c3_i32_38 : BitVec 32 := 3#32
  let v64 : BitVec 1 := Scalar.cmpi .slt v8 c3_i32_38
  let v65 : BitVec 32 := Scalar.extui v64
  let v66 : BitVec 32 := Scalar.addi v63 v65
  v66

def k0_off1 (d0 : Dev nD) (c0_i32_39 : BitVec 32) (c0_i32_42 : BitVec 32) : Fin 3 → Nat :=
  let c0_i32_49 : BitVec 32 := 0#32
  let c4_i32_16 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c4_i32_16 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v33 : BitVec 32 := Scalar.addi v32 v8
  let c512_i32 : BitVec 32 := 512#32
  let v34 : BitVec 32 := Scalar.muli v33 c512_i32
  let v67 : BitVec 32 := Scalar.addi v34 c0_i32_39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v68 : BitVec 32 := Scalar.addi v5 c4_i32_40
  let c1_i32_41 : BitVec 32 := 1#32
  let v69 : BitVec 32 := Scalar.subi v68 c1_i32_41
  let v70 : BitVec 32 := Scalar.subi v69 c0_i32_42
  let c4_i32_43 : BitVec 32 := 4#32
  let c0_i32_44 : BitVec 32 := 0#32
  let v71 : BitVec 1 := Scalar.cmpi .eq c4_i32_43 c0_i32_44
  let c1_i32_45 : BitVec 32 := 1#32
  let v72 : BitVec 32 := Scalar.select v71 c1_i32_45 c4_i32_43
  let v73 : BitVec 32 := Scalar.remsi v70 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let c1024_i32 : BitVec 32 := 1024#32
  let v81 : BitVec 32 := Scalar.muli v80 c1024_i32
  ![0, v67.toNat, v81.toNat]
def k0_dev6 (d0 : Dev nD) : Nat :=
  let c0_i32_57 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_56 : BitVec 32 := 16#32
  let v82 : BitVec 32 := Scalar.muli v2 c16_i32_56
  let v83 : BitVec 32 := Scalar.addi c0_i32_57 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_58 : BitVec 32 := 4#32
  let v84 : BitVec 32 := Scalar.muli v19 c4_i32_58
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v86 : BitVec 32 := Scalar.muli v8 c1_i32_59
  let v87 : BitVec 32 := Scalar.addi v85 v86
  v87.toNat
def k0_dev7 (d0 : Dev nD) : Nat :=
  let c0_i32_147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_146 : BitVec 32 := 16#32
  let v179 : BitVec 32 := Scalar.muli v2 c16_i32_146
  let v180 : BitVec 32 := Scalar.addi c0_i32_147 v179
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_148 : BitVec 32 := 4#32
  let v181 : BitVec 32 := Scalar.muli v19 c4_i32_148
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v183 : BitVec 32 := Scalar.muli v8 c1_i32_149
  let v184 : BitVec 32 := Scalar.addi v182 v183
  v184.toNat
def k0_dev8 (d0 : Dev nD) : Nat :=
  let c0_i32_234 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_233 : BitVec 32 := 16#32
  let v261 : BitVec 32 := Scalar.muli v2 c16_i32_233
  let v262 : BitVec 32 := Scalar.addi c0_i32_234 v261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_235 : BitVec 32 := 4#32
  let v263 : BitVec 32 := Scalar.muli v19 c4_i32_235
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v265 : BitVec 32 := Scalar.muli v8 c1_i32_236
  let v266 : BitVec 32 := Scalar.addi v264 v265
  v266.toNat
def k0_off2 (d0 : Dev nD) (c0_i32_286 : BitVec 32) : Fin 3 → Nat :=
  let c0_i32_288 : BitVec 32 := 0#32
  let c4_i32_16 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c4_i32_16 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v33 : BitVec 32 := Scalar.addi v32 v8
  let c512_i32 : BitVec 32 := 512#32
  let v34 : BitVec 32 := Scalar.muli v33 c512_i32
  let v314 : BitVec 32 := Scalar.addi v34 c0_i32_286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_287 : BitVec 32 := 1024#32
  let v315 : BitVec 32 := Scalar.muli v5 c1024_i32_287
  ![0, v314.toNat, v315.toNat]
def k0_off3 (d0 : Dev nD) (c0_i32_299 : BitVec 32) : Fin 2 → Nat :=
  let c4_i32_16 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.muli c4_i32_16 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v33 : BitVec 32 := Scalar.addi v32 v8
  let c512_i32 : BitVec 32 := 512#32
  let v34 : BitVec 32 := Scalar.muli v33 c512_i32
  let v327 : BitVec 32 := Scalar.addi v34 c0_i32_299
  let v328 : Index := Scalar.indexCast v327
  let c0_300 : Index := 0#32
  ![v328.toNat, 0]
def k0_off4 (d0 : Dev nD) : Fin 2 → Nat :=
  let c0_i32_309 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off5 (d0 : Dev nD) (c0_i32_306 : BitVec 32) : Fin 2 → Nat :=
  let c4_i32_304 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v334 : BitVec 32 := Scalar.muli c4_i32_304 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v335 : BitVec 32 := Scalar.addi v334 v8
  let c512_i32_305 : BitVec 32 := 512#32
  let v336 : BitVec 32 := Scalar.muli v335 c512_i32_305
  let v337 : BitVec 32 := Scalar.addi v336 c0_i32_306
  let c0_i32_314 : BitVec 32 := 0#32
  ![v337.toNat, 0]
def k0_dev9 (d0 : Dev nD) : Nat :=
  let c0_i32_311 : BitVec 32 := 0#32
  let c1_i32_307 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v338 : BitVec 32 := Scalar.subi c1_i32_307 v2
  let c16_i32_310 : BitVec 32 := 16#32
  let v339 : BitVec 32 := Scalar.muli v338 c16_i32_310
  let v340 : BitVec 32 := Scalar.addi c0_i32_311 v339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_312 : BitVec 32 := 4#32
  let v341 : BitVec 32 := Scalar.muli v5 c4_i32_312
  let v342 : BitVec 32 := Scalar.addi v340 v341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v343 : BitVec 32 := Scalar.muli v8 c1_i32_313
  let v344 : BitVec 32 := Scalar.addi v342 v343
  v344.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_316 : BitVec 32 := 3#32
  let v351 : BitVec 1 := Scalar.cmpi .slt v8 c3_i32_316
  let c0_i32_317 : BitVec 32 := 0#32
  let v352 : BitVec 1 := Scalar.cmpi .sge v8 c0_i32_317
  let v353 : BitVec 1 := Scalar.andi v351 v352
  let v354 : BitVec 32 := Scalar.extui v353
  let c0_i32_318 : BitVec 32 := 0#32
  let v355 : BitVec 1 := Scalar.cmpi .ne v354 c0_i32_318
  v355

def k0_off6 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2009 : BitVec 32 := Scalar.addi v2008 v2003
  let c512_i32_1888 : BitVec 32 := 512#32
  let v2010 : BitVec 32 := Scalar.muli v2009 c512_i32_1888
  let c0_i32_1889 : BitVec 32 := 0#32
  let v2011 : BitVec 32 := Scalar.addi v2010 c0_i32_1889
  let c0_i32_1899 : BitVec 32 := 0#32
  ![v2011.toNat, 0]
def k0_dev10 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_319 : BitVec 32 := 0#32
  let v356 : BitVec 1 := Scalar.cmpi .sgt v8 c0_i32_319
  let c0_i32_320 : BitVec 32 := 0#32
  let v357 : BitVec 32 := Scalar.addi v8 c0_i32_320
  let c3_i32_321 : BitVec 32 := 3#32
  let v358 : BitVec 1 := Scalar.cmpi .sle v357 c3_i32_321
  let v359 : BitVec 1 := Scalar.andi v356 v358
  let v360 : BitVec 32 := Scalar.extui v359
  let c0_i32_322 : BitVec 32 := 0#32
  let v361 : BitVec 1 := Scalar.cmpi .ne v360 c0_i32_322
  v361

def k0_off7 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2009 : BitVec 32 := Scalar.addi v2008 v2003
  let c512_i32_1888 : BitVec 32 := 512#32
  let v2010 : BitVec 32 := Scalar.muli v2009 c512_i32_1888
  let c0_i32_1889 : BitVec 32 := 0#32
  let v2011 : BitVec 32 := Scalar.addi v2010 c0_i32_1889
  let c0_i32_1898 : BitVec 32 := 0#32
  ![v2011.toNat, 0]
def k0_dev11 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev12 (d0 : Dev nD) : Nat :=
  let c0_i32_341 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_340 : BitVec 32 := 16#32
  let v377 : BitVec 32 := Scalar.muli v2 c16_i32_340
  let v378 : BitVec 32 := Scalar.addi c0_i32_341 v377
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_342 : BitVec 32 := 4#32
  let v379 : BitVec 32 := Scalar.muli v19 c4_i32_342
  let v380 : BitVec 32 := Scalar.addi v378 v379
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v381 : BitVec 32 := Scalar.muli v8 c1_i32_343
  let v382 : BitVec 32 := Scalar.addi v380 v381
  v382.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v412 : BitVec 1 := Scalar.cmpi .sge v8 c1_i32_362
  let v413 : BitVec 32 := Scalar.extui v412
  let c0_i32_363 : BitVec 32 := 0#32
  let v414 : BitVec 1 := Scalar.cmpi .ne v413 c0_i32_363
  v414

def k0_off8 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c0_i32_1884 : BitVec 32 := 0#32
  let v2004 : BitVec 32 := Scalar.subi v2003 c0_i32_1884
  let v2010 : BitVec 32 := Scalar.addi v2009 v2004
  let c512_i32_1889 : BitVec 32 := 512#32
  let v2011 : BitVec 32 := Scalar.muli v2010 c512_i32_1889
  let c0_i32_1890 : BitVec 32 := 0#32
  let v2012 : BitVec 32 := Scalar.addi v2011 c0_i32_1890
  let c0_i32_1899 : BitVec 32 := 0#32
  ![v2012.toNat, 0]
def k0_off9 (d0 : Dev nD) : Fin 2 → Nat :=
  let c0_i32_1911 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c0_i32_1902 : BitVec 32 := 0#32
  let v2025 : BitVec 32 := Scalar.subi v2024 c0_i32_1902
  ![0, v2025.toNat]
def k0_dev13 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_364 : BitVec 32 := 2#32
  let v415 : BitVec 1 := Scalar.cmpi .sle v8 c2_i32_364
  let v416 : BitVec 32 := Scalar.extui v415
  let c0_i32_365 : BitVec 32 := 0#32
  let v417 : BitVec 1 := Scalar.cmpi .ne v416 c0_i32_365
  v417

def k0_off10 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c0_i32_1884 : BitVec 32 := 0#32
  let v2004 : BitVec 32 := Scalar.addi v2003 c0_i32_1884
  let v2010 : BitVec 32 := Scalar.addi v2009 v2004
  let c512_i32_1889 : BitVec 32 := 512#32
  let v2011 : BitVec 32 := Scalar.muli v2010 c512_i32_1889
  let c0_i32_1890 : BitVec 32 := 0#32
  let v2012 : BitVec 32 := Scalar.addi v2011 c0_i32_1890
  let c0_i32_1900 : BitVec 32 := 0#32
  ![v2012.toNat, 0]
def k0_off11 (d0 : Dev nD) : Fin 2 → Nat :=
  let c0_i32_1912 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c0_i32_1903 : BitVec 32 := 0#32
  let v2025 : BitVec 32 := Scalar.addi v2024 c0_i32_1903
  ![0, v2025.toNat]
def k0_dev14 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_366 : BitVec 32 := 3#32
  let v418 : BitVec 1 := Scalar.cmpi .slt v8 c3_i32_366
  let c0_i32_367 : BitVec 32 := 0#32
  let v419 : BitVec 1 := Scalar.cmpi .sge v8 c0_i32_367
  let v420 : BitVec 1 := Scalar.andi v418 v419
  let v421 : BitVec 32 := Scalar.extui v420
  let c0_i32_368 : BitVec 32 := 0#32
  let v422 : BitVec 1 := Scalar.cmpi .ne v421 c0_i32_368
  v422

def k0_off12 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2005 : BitVec 32 := Scalar.addi v2004 v2003
  let c512_i32_1885 : BitVec 32 := 512#32
  let v2006 : BitVec 32 := Scalar.muli v2005 c512_i32_1885
  let c0_i32_1886 : BitVec 32 := 0#32
  let v2007 : BitVec 32 := Scalar.addi v2006 c0_i32_1886
  let c0_i32_1896 : BitVec 32 := 0#32
  ![v2007.toNat, 0]
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_369 : BitVec 32 := 0#32
  let v423 : BitVec 1 := Scalar.cmpi .sgt v8 c0_i32_369
  let c0_i32_370 : BitVec 32 := 0#32
  let v424 : BitVec 32 := Scalar.addi v8 c0_i32_370
  let c3_i32_371 : BitVec 32 := 3#32
  let v425 : BitVec 1 := Scalar.cmpi .sle v424 c3_i32_371
  let v426 : BitVec 1 := Scalar.andi v423 v425
  let v427 : BitVec 32 := Scalar.extui v426
  let c0_i32_372 : BitVec 32 := 0#32
  let v428 : BitVec 1 := Scalar.cmpi .ne v427 c0_i32_372
  v428

def k0_off13 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2005 : BitVec 32 := Scalar.addi v2004 v2003
  let c512_i32_1885 : BitVec 32 := 512#32
  let v2006 : BitVec 32 := Scalar.muli v2005 c512_i32_1885
  let c0_i32_1886 : BitVec 32 := 0#32
  let v2007 : BitVec 32 := Scalar.addi v2006 c0_i32_1886
  let c0_i32_1895 : BitVec 32 := 0#32
  ![v2007.toNat, 0]
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_373 : BitVec 32 := 3#32
  let v429 : BitVec 1 := Scalar.cmpi .slt v8 c3_i32_373
  let c1_i32_374 : BitVec 32 := 1#32
  let v430 : BitVec 1 := Scalar.cmpi .sge v8 c1_i32_374
  let v431 : BitVec 1 := Scalar.andi v429 v430
  let v432 : BitVec 32 := Scalar.extui v431
  let c0_i32_375 : BitVec 32 := 0#32
  let v433 : BitVec 1 := Scalar.cmpi .ne v432 c0_i32_375
  v433

def k0_off14 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2009 : BitVec 32 := Scalar.addi v2008 v2003
  let c512_i32_1888 : BitVec 32 := 512#32
  let v2010 : BitVec 32 := Scalar.muli v2009 c512_i32_1888
  let c0_i32_1889 : BitVec 32 := 0#32
  let v2011 : BitVec 32 := Scalar.addi v2010 c0_i32_1889
  let c0_i32_1899 : BitVec 32 := 0#32
  ![v2011.toNat, 0]
def k0_dev15 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_376 : BitVec 32 := 0#32
  let v434 : BitVec 1 := Scalar.cmpi .sgt v8 c0_i32_376
  let c1_i32_377 : BitVec 32 := 1#32
  let v435 : BitVec 32 := Scalar.addi v8 c1_i32_377
  let c3_i32_378 : BitVec 32 := 3#32
  let v436 : BitVec 1 := Scalar.cmpi .sle v435 c3_i32_378
  let v437 : BitVec 1 := Scalar.andi v434 v436
  let v438 : BitVec 32 := Scalar.extui v437
  let c0_i32_379 : BitVec 32 := 0#32
  let v439 : BitVec 1 := Scalar.cmpi .ne v438 c0_i32_379
  v439

def k0_off15 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2009 : BitVec 32 := Scalar.addi v2008 v2003
  let c512_i32_1888 : BitVec 32 := 512#32
  let v2010 : BitVec 32 := Scalar.muli v2009 c512_i32_1888
  let c0_i32_1889 : BitVec 32 := 0#32
  let v2011 : BitVec 32 := Scalar.addi v2010 c0_i32_1889
  let c0_i32_1898 : BitVec 32 := 0#32
  ![v2011.toNat, 0]
def k0_dev16 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev17 (d0 : Dev nD) : Nat :=
  let c0_i32_450 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_449 : BitVec 32 := 16#32
  let v502 : BitVec 32 := Scalar.muli v2 c16_i32_449
  let v503 : BitVec 32 := Scalar.addi c0_i32_450 v502
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_451 : BitVec 32 := 4#32
  let v504 : BitVec 32 := Scalar.muli v19 c4_i32_451
  let v505 : BitVec 32 := Scalar.addi v503 v504
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_452 : BitVec 32 := 1#32
  let v506 : BitVec 32 := Scalar.muli v8 c1_i32_452
  let v507 : BitVec 32 := Scalar.addi v505 v506
  v507.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_473 : BitVec 32 := 2#32
  let v537 : BitVec 1 := Scalar.cmpi .sge v8 c2_i32_473
  let v538 : BitVec 32 := Scalar.extui v537
  let c0_i32_474 : BitVec 32 := 0#32
  let v539 : BitVec 1 := Scalar.cmpi .ne v538 c0_i32_474
  v539

def k0_off16 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c1_i32_1884 : BitVec 32 := 1#32
  let v2004 : BitVec 32 := Scalar.subi v2003 c1_i32_1884
  let v2010 : BitVec 32 := Scalar.addi v2009 v2004
  let c512_i32_1889 : BitVec 32 := 512#32
  let v2011 : BitVec 32 := Scalar.muli v2010 c512_i32_1889
  let c0_i32_1890 : BitVec 32 := 0#32
  let v2012 : BitVec 32 := Scalar.addi v2011 c0_i32_1890
  let c0_i32_1899 : BitVec 32 := 0#32
  ![v2012.toNat, 0]
def k0_off17 (d0 : Dev nD) : Fin 2 → Nat :=
  let c0_i32_1911 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c1_i32_1902 : BitVec 32 := 1#32
  let v2025 : BitVec 32 := Scalar.subi v2024 c1_i32_1902
  ![0, v2025.toNat]
def k0_dev18 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475 : BitVec 32 := 1#32
  let v540 : BitVec 1 := Scalar.cmpi .sle v8 c1_i32_475
  let v541 : BitVec 32 := Scalar.extui v540
  let c0_i32_476 : BitVec 32 := 0#32
  let v542 : BitVec 1 := Scalar.cmpi .ne v541 c0_i32_476
  v542

def k0_off18 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c1_i32_1884 : BitVec 32 := 1#32
  let v2004 : BitVec 32 := Scalar.addi v2003 c1_i32_1884
  let v2010 : BitVec 32 := Scalar.addi v2009 v2004
  let c512_i32_1889 : BitVec 32 := 512#32
  let v2011 : BitVec 32 := Scalar.muli v2010 c512_i32_1889
  let c0_i32_1890 : BitVec 32 := 0#32
  let v2012 : BitVec 32 := Scalar.addi v2011 c0_i32_1890
  let c0_i32_1900 : BitVec 32 := 0#32
  ![v2012.toNat, 0]
def k0_off19 (d0 : Dev nD) : Fin 2 → Nat :=
  let c0_i32_1912 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c1_i32_1903 : BitVec 32 := 1#32
  let v2025 : BitVec 32 := Scalar.addi v2024 c1_i32_1903
  ![0, v2025.toNat]
def k0_dev19 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_477 : BitVec 32 := 3#32
  let v543 : BitVec 1 := Scalar.cmpi .slt v8 c3_i32_477
  let c1_i32_478 : BitVec 32 := 1#32
  let v544 : BitVec 1 := Scalar.cmpi .sge v8 c1_i32_478
  let v545 : BitVec 1 := Scalar.andi v543 v544
  let v546 : BitVec 32 := Scalar.extui v545
  let c0_i32_479 : BitVec 32 := 0#32
  let v547 : BitVec 1 := Scalar.cmpi .ne v546 c0_i32_479
  v547

def k0_off20 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2005 : BitVec 32 := Scalar.addi v2004 v2003
  let c512_i32_1885 : BitVec 32 := 512#32
  let v2006 : BitVec 32 := Scalar.muli v2005 c512_i32_1885
  let c0_i32_1886 : BitVec 32 := 0#32
  let v2007 : BitVec 32 := Scalar.addi v2006 c0_i32_1886
  let c0_i32_1896 : BitVec 32 := 0#32
  ![v2007.toNat, 0]
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_480 : BitVec 32 := 0#32
  let v548 : BitVec 1 := Scalar.cmpi .sgt v8 c0_i32_480
  let c1_i32_481 : BitVec 32 := 1#32
  let v549 : BitVec 32 := Scalar.addi v8 c1_i32_481
  let c3_i32_482 : BitVec 32 := 3#32
  let v550 : BitVec 1 := Scalar.cmpi .sle v549 c3_i32_482
  let v551 : BitVec 1 := Scalar.andi v548 v550
  let v552 : BitVec 32 := Scalar.extui v551
  let c0_i32_483 : BitVec 32 := 0#32
  let v553 : BitVec 1 := Scalar.cmpi .ne v552 c0_i32_483
  v553

def k0_off21 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2005 : BitVec 32 := Scalar.addi v2004 v2003
  let c512_i32_1885 : BitVec 32 := 512#32
  let v2006 : BitVec 32 := Scalar.muli v2005 c512_i32_1885
  let c0_i32_1886 : BitVec 32 := 0#32
  let v2007 : BitVec 32 := Scalar.addi v2006 c0_i32_1886
  let c0_i32_1895 : BitVec 32 := 0#32
  ![v2007.toNat, 0]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_484 : BitVec 32 := 3#32
  let v554 : BitVec 1 := Scalar.cmpi .slt v8 c3_i32_484
  let c2_i32_485 : BitVec 32 := 2#32
  let v555 : BitVec 1 := Scalar.cmpi .sge v8 c2_i32_485
  let v556 : BitVec 1 := Scalar.andi v554 v555
  let v557 : BitVec 32 := Scalar.extui v556
  let c0_i32_486 : BitVec 32 := 0#32
  let v558 : BitVec 1 := Scalar.cmpi .ne v557 c0_i32_486
  v558

def k0_off22 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2009 : BitVec 32 := Scalar.addi v2008 v2003
  let c512_i32_1888 : BitVec 32 := 512#32
  let v2010 : BitVec 32 := Scalar.muli v2009 c512_i32_1888
  let c0_i32_1889 : BitVec 32 := 0#32
  let v2011 : BitVec 32 := Scalar.addi v2010 c0_i32_1889
  let c0_i32_1899 : BitVec 32 := 0#32
  ![v2011.toNat, 0]
def k0_dev20 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_487 : BitVec 32 := 0#32
  let v559 : BitVec 1 := Scalar.cmpi .sgt v8 c0_i32_487
  let c2_i32_488 : BitVec 32 := 2#32
  let v560 : BitVec 32 := Scalar.addi v8 c2_i32_488
  let c3_i32_489 : BitVec 32 := 3#32
  let v561 : BitVec 1 := Scalar.cmpi .sle v560 c3_i32_489
  let v562 : BitVec 1 := Scalar.andi v559 v561
  let v563 : BitVec 32 := Scalar.extui v562
  let c0_i32_490 : BitVec 32 := 0#32
  let v564 : BitVec 1 := Scalar.cmpi .ne v563 c0_i32_490
  v564

def k0_off23 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2009 : BitVec 32 := Scalar.addi v2008 v2003
  let c512_i32_1888 : BitVec 32 := 512#32
  let v2010 : BitVec 32 := Scalar.muli v2009 c512_i32_1888
  let c0_i32_1889 : BitVec 32 := 0#32
  let v2011 : BitVec 32 := Scalar.addi v2010 c0_i32_1889
  let c0_i32_1898 : BitVec 32 := 0#32
  ![v2011.toNat, 0]
def k0_dev21 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev22 (d0 : Dev nD) : Nat :=
  let c0_i32_556 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_555 : BitVec 32 := 16#32
  let v612 : BitVec 32 := Scalar.muli v2 c16_i32_555
  let v613 : BitVec 32 := Scalar.addi c0_i32_556 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_557 : BitVec 32 := 4#32
  let v614 : BitVec 32 := Scalar.muli v19 c4_i32_557
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_558 : BitVec 32 := 1#32
  let v616 : BitVec 32 := Scalar.muli v8 c1_i32_558
  let v617 : BitVec 32 := Scalar.addi v615 v616
  v617.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_579 : BitVec 32 := 3#32
  let v647 : BitVec 1 := Scalar.cmpi .sge v8 c3_i32_579
  let v648 : BitVec 32 := Scalar.extui v647
  let c0_i32_580 : BitVec 32 := 0#32
  let v649 : BitVec 1 := Scalar.cmpi .ne v648 c0_i32_580
  v649

def k0_off24 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c2_i32_1884 : BitVec 32 := 2#32
  let v2004 : BitVec 32 := Scalar.subi v2003 c2_i32_1884
  let v2010 : BitVec 32 := Scalar.addi v2009 v2004
  let c512_i32_1889 : BitVec 32 := 512#32
  let v2011 : BitVec 32 := Scalar.muli v2010 c512_i32_1889
  let c0_i32_1890 : BitVec 32 := 0#32
  let v2012 : BitVec 32 := Scalar.addi v2011 c0_i32_1890
  let c0_i32_1899 : BitVec 32 := 0#32
  ![v2012.toNat, 0]
def k0_off25 (d0 : Dev nD) : Fin 2 → Nat :=
  let c0_i32_1911 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c2_i32_1902 : BitVec 32 := 2#32
  let v2025 : BitVec 32 := Scalar.subi v2024 c2_i32_1902
  ![0, v2025.toNat]
def k0_dev23 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_581 : BitVec 32 := 0#32
  let v650 : BitVec 1 := Scalar.cmpi .sle v8 c0_i32_581
  let v651 : BitVec 32 := Scalar.extui v650
  let c0_i32_582 : BitVec 32 := 0#32
  let v652 : BitVec 1 := Scalar.cmpi .ne v651 c0_i32_582
  v652

def k0_off26 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c2_i32_1884 : BitVec 32 := 2#32
  let v2004 : BitVec 32 := Scalar.addi v2003 c2_i32_1884
  let v2010 : BitVec 32 := Scalar.addi v2009 v2004
  let c512_i32_1889 : BitVec 32 := 512#32
  let v2011 : BitVec 32 := Scalar.muli v2010 c512_i32_1889
  let c0_i32_1890 : BitVec 32 := 0#32
  let v2012 : BitVec 32 := Scalar.addi v2011 c0_i32_1890
  let c0_i32_1900 : BitVec 32 := 0#32
  ![v2012.toNat, 0]
def k0_off27 (d0 : Dev nD) : Fin 2 → Nat :=
  let c0_i32_1912 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c2_i32_1903 : BitVec 32 := 2#32
  let v2025 : BitVec 32 := Scalar.addi v2024 c2_i32_1903
  ![0, v2025.toNat]
def k0_dev24 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_583 : BitVec 32 := 3#32
  let v653 : BitVec 1 := Scalar.cmpi .slt v8 c3_i32_583
  let c2_i32_584 : BitVec 32 := 2#32
  let v654 : BitVec 1 := Scalar.cmpi .sge v8 c2_i32_584
  let v655 : BitVec 1 := Scalar.andi v653 v654
  let v656 : BitVec 32 := Scalar.extui v655
  let c0_i32_585 : BitVec 32 := 0#32
  let v657 : BitVec 1 := Scalar.cmpi .ne v656 c0_i32_585
  v657

def k0_off28 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2005 : BitVec 32 := Scalar.addi v2004 v2003
  let c512_i32_1885 : BitVec 32 := 512#32
  let v2006 : BitVec 32 := Scalar.muli v2005 c512_i32_1885
  let c0_i32_1886 : BitVec 32 := 0#32
  let v2007 : BitVec 32 := Scalar.addi v2006 c0_i32_1886
  let c0_i32_1896 : BitVec 32 := 0#32
  ![v2007.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_586 : BitVec 32 := 0#32
  let v658 : BitVec 1 := Scalar.cmpi .sgt v8 c0_i32_586
  let c2_i32_587 : BitVec 32 := 2#32
  let v659 : BitVec 32 := Scalar.addi v8 c2_i32_587
  let c3_i32_588 : BitVec 32 := 3#32
  let v660 : BitVec 1 := Scalar.cmpi .sle v659 c3_i32_588
  let v661 : BitVec 1 := Scalar.andi v658 v660
  let v662 : BitVec 32 := Scalar.extui v661
  let c0_i32_589 : BitVec 32 := 0#32
  let v663 : BitVec 1 := Scalar.cmpi .ne v662 c0_i32_589
  v663

def k0_off29 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2005 : BitVec 32 := Scalar.addi v2004 v2003
  let c512_i32_1885 : BitVec 32 := 512#32
  let v2006 : BitVec 32 := Scalar.muli v2005 c512_i32_1885
  let c0_i32_1886 : BitVec 32 := 0#32
  let v2007 : BitVec 32 := Scalar.addi v2006 c0_i32_1886
  let c0_i32_1895 : BitVec 32 := 0#32
  ![v2007.toNat, 0]
def k0_off30 (d0 : Dev nD) : Fin 2 → Nat :=
  let c1_i32_643 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_dev25 (d0 : Dev nD) : Nat :=
  let c0_i32_645 : BitVec 32 := 0#32
  let c1_i32_641 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v706 : BitVec 32 := Scalar.subi c1_i32_641 v2
  let c16_i32_644 : BitVec 32 := 16#32
  let v707 : BitVec 32 := Scalar.muli v706 c16_i32_644
  let v708 : BitVec 32 := Scalar.addi c0_i32_645 v707
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_646 : BitVec 32 := 4#32
  let v709 : BitVec 32 := Scalar.muli v5 c4_i32_646
  let v710 : BitVec 32 := Scalar.addi v708 v709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_647 : BitVec 32 := 1#32
  let v711 : BitVec 32 := Scalar.muli v8 c1_i32_647
  let v712 : BitVec 32 := Scalar.addi v710 v711
  v712.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_650 : BitVec 32 := 3#32
  let v719 : BitVec 1 := Scalar.cmpi .slt v8 c3_i32_650
  let c0_i32_651 : BitVec 32 := 0#32
  let v720 : BitVec 1 := Scalar.cmpi .sge v8 c0_i32_651
  let v721 : BitVec 1 := Scalar.andi v719 v720
  let v722 : BitVec 32 := Scalar.extui v721
  let c0_i32_652 : BitVec 32 := 0#32
  let v723 : BitVec 1 := Scalar.cmpi .ne v722 c0_i32_652
  v723

def k0_off31 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2009 : BitVec 32 := Scalar.addi v2008 v2003
  let c512_i32_1888 : BitVec 32 := 512#32
  let v2010 : BitVec 32 := Scalar.muli v2009 c512_i32_1888
  let c128_i32_1889 : BitVec 32 := 128#32
  let v2011 : BitVec 32 := Scalar.addi v2010 c128_i32_1889
  let c0_i32_1899 : BitVec 32 := 0#32
  ![v2011.toNat, 0]
def k0_dev26 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_653 : BitVec 32 := 0#32
  let v724 : BitVec 1 := Scalar.cmpi .sgt v8 c0_i32_653
  let c0_i32_654 : BitVec 32 := 0#32
  let v725 : BitVec 32 := Scalar.addi v8 c0_i32_654
  let c3_i32_655 : BitVec 32 := 3#32
  let v726 : BitVec 1 := Scalar.cmpi .sle v725 c3_i32_655
  let v727 : BitVec 1 := Scalar.andi v724 v726
  let v728 : BitVec 32 := Scalar.extui v727
  let c0_i32_656 : BitVec 32 := 0#32
  let v729 : BitVec 1 := Scalar.cmpi .ne v728 c0_i32_656
  v729

def k0_off32 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2009 : BitVec 32 := Scalar.addi v2008 v2003
  let c512_i32_1888 : BitVec 32 := 512#32
  let v2010 : BitVec 32 := Scalar.muli v2009 c512_i32_1888
  let c128_i32_1889 : BitVec 32 := 128#32
  let v2011 : BitVec 32 := Scalar.addi v2010 c128_i32_1889
  let c0_i32_1898 : BitVec 32 := 0#32
  ![v2011.toNat, 0]
def k0_dev27 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev28 (d0 : Dev nD) : Nat :=
  let c0_i32_675 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_674 : BitVec 32 := 16#32
  let v745 : BitVec 32 := Scalar.muli v2 c16_i32_674
  let v746 : BitVec 32 := Scalar.addi c0_i32_675 v745
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_676 : BitVec 32 := 4#32
  let v747 : BitVec 32 := Scalar.muli v19 c4_i32_676
  let v748 : BitVec 32 := Scalar.addi v746 v747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_677 : BitVec 32 := 1#32
  let v749 : BitVec 32 := Scalar.muli v8 c1_i32_677
  let v750 : BitVec 32 := Scalar.addi v748 v749
  v750.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_696 : BitVec 32 := 1#32
  let v780 : BitVec 1 := Scalar.cmpi .sge v8 c1_i32_696
  let v781 : BitVec 32 := Scalar.extui v780
  let c0_i32_697 : BitVec 32 := 0#32
  let v782 : BitVec 1 := Scalar.cmpi .ne v781 c0_i32_697
  v782

def k0_off33 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c0_i32_1884 : BitVec 32 := 0#32
  let v2004 : BitVec 32 := Scalar.subi v2003 c0_i32_1884
  let v2010 : BitVec 32 := Scalar.addi v2009 v2004
  let c512_i32_1889 : BitVec 32 := 512#32
  let v2011 : BitVec 32 := Scalar.muli v2010 c512_i32_1889
  let c128_i32_1890 : BitVec 32 := 128#32
  let v2012 : BitVec 32 := Scalar.addi v2011 c128_i32_1890
  let c0_i32_1899 : BitVec 32 := 0#32
  ![v2012.toNat, 0]
def k0_off34 (d0 : Dev nD) : Fin 2 → Nat :=
  let c1_i32_1911 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c0_i32_1902 : BitVec 32 := 0#32
  let v2025 : BitVec 32 := Scalar.subi v2024 c0_i32_1902
  ![1, v2025.toNat]
def k0_dev29 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_698 : BitVec 32 := 2#32
  let v783 : BitVec 1 := Scalar.cmpi .sle v8 c2_i32_698
  let v784 : BitVec 32 := Scalar.extui v783
  let c0_i32_699 : BitVec 32 := 0#32
  let v785 : BitVec 1 := Scalar.cmpi .ne v784 c0_i32_699
  v785

def k0_off35 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c0_i32_1884 : BitVec 32 := 0#32
  let v2004 : BitVec 32 := Scalar.addi v2003 c0_i32_1884
  let v2010 : BitVec 32 := Scalar.addi v2009 v2004
  let c512_i32_1889 : BitVec 32 := 512#32
  let v2011 : BitVec 32 := Scalar.muli v2010 c512_i32_1889
  let c128_i32_1890 : BitVec 32 := 128#32
  let v2012 : BitVec 32 := Scalar.addi v2011 c128_i32_1890
  let c0_i32_1900 : BitVec 32 := 0#32
  ![v2012.toNat, 0]
def k0_off36 (d0 : Dev nD) : Fin 2 → Nat :=
  let c1_i32_1912 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c0_i32_1903 : BitVec 32 := 0#32
  let v2025 : BitVec 32 := Scalar.addi v2024 c0_i32_1903
  ![1, v2025.toNat]
def k0_dev30 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_700 : BitVec 32 := 3#32
  let v786 : BitVec 1 := Scalar.cmpi .slt v8 c3_i32_700
  let c0_i32_701 : BitVec 32 := 0#32
  let v787 : BitVec 1 := Scalar.cmpi .sge v8 c0_i32_701
  let v788 : BitVec 1 := Scalar.andi v786 v787
  let v789 : BitVec 32 := Scalar.extui v788
  let c0_i32_702 : BitVec 32 := 0#32
  let v790 : BitVec 1 := Scalar.cmpi .ne v789 c0_i32_702
  v790

def k0_off37 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2005 : BitVec 32 := Scalar.addi v2004 v2003
  let c512_i32_1885 : BitVec 32 := 512#32
  let v2006 : BitVec 32 := Scalar.muli v2005 c512_i32_1885
  let c128_i32_1886 : BitVec 32 := 128#32
  let v2007 : BitVec 32 := Scalar.addi v2006 c128_i32_1886
  let c0_i32_1896 : BitVec 32 := 0#32
  ![v2007.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_703 : BitVec 32 := 0#32
  let v791 : BitVec 1 := Scalar.cmpi .sgt v8 c0_i32_703
  let c0_i32_704 : BitVec 32 := 0#32
  let v792 : BitVec 32 := Scalar.addi v8 c0_i32_704
  let c3_i32_705 : BitVec 32 := 3#32
  let v793 : BitVec 1 := Scalar.cmpi .sle v792 c3_i32_705
  let v794 : BitVec 1 := Scalar.andi v791 v793
  let v795 : BitVec 32 := Scalar.extui v794
  let c0_i32_706 : BitVec 32 := 0#32
  let v796 : BitVec 1 := Scalar.cmpi .ne v795 c0_i32_706
  v796

def k0_off38 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2005 : BitVec 32 := Scalar.addi v2004 v2003
  let c512_i32_1885 : BitVec 32 := 512#32
  let v2006 : BitVec 32 := Scalar.muli v2005 c512_i32_1885
  let c128_i32_1886 : BitVec 32 := 128#32
  let v2007 : BitVec 32 := Scalar.addi v2006 c128_i32_1886
  let c0_i32_1895 : BitVec 32 := 0#32
  ![v2007.toNat, 0]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_707 : BitVec 32 := 3#32
  let v797 : BitVec 1 := Scalar.cmpi .slt v8 c3_i32_707
  let c1_i32_708 : BitVec 32 := 1#32
  let v798 : BitVec 1 := Scalar.cmpi .sge v8 c1_i32_708
  let v799 : BitVec 1 := Scalar.andi v797 v798
  let v800 : BitVec 32 := Scalar.extui v799
  let c0_i32_709 : BitVec 32 := 0#32
  let v801 : BitVec 1 := Scalar.cmpi .ne v800 c0_i32_709
  v801

def k0_off39 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2009 : BitVec 32 := Scalar.addi v2008 v2003
  let c512_i32_1888 : BitVec 32 := 512#32
  let v2010 : BitVec 32 := Scalar.muli v2009 c512_i32_1888
  let c128_i32_1889 : BitVec 32 := 128#32
  let v2011 : BitVec 32 := Scalar.addi v2010 c128_i32_1889
  let c0_i32_1899 : BitVec 32 := 0#32
  ![v2011.toNat, 0]
def k0_dev31 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_710 : BitVec 32 := 0#32
  let v802 : BitVec 1 := Scalar.cmpi .sgt v8 c0_i32_710
  let c1_i32_711 : BitVec 32 := 1#32
  let v803 : BitVec 32 := Scalar.addi v8 c1_i32_711
  let c3_i32_712 : BitVec 32 := 3#32
  let v804 : BitVec 1 := Scalar.cmpi .sle v803 c3_i32_712
  let v805 : BitVec 1 := Scalar.andi v802 v804
  let v806 : BitVec 32 := Scalar.extui v805
  let c0_i32_713 : BitVec 32 := 0#32
  let v807 : BitVec 1 := Scalar.cmpi .ne v806 c0_i32_713
  v807

def k0_off40 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2009 : BitVec 32 := Scalar.addi v2008 v2003
  let c512_i32_1888 : BitVec 32 := 512#32
  let v2010 : BitVec 32 := Scalar.muli v2009 c512_i32_1888
  let c128_i32_1889 : BitVec 32 := 128#32
  let v2011 : BitVec 32 := Scalar.addi v2010 c128_i32_1889
  let c0_i32_1898 : BitVec 32 := 0#32
  ![v2011.toNat, 0]
def k0_dev32 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev33 (d0 : Dev nD) : Nat :=
  let c0_i32_784 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_783 : BitVec 32 := 16#32
  let v870 : BitVec 32 := Scalar.muli v2 c16_i32_783
  let v871 : BitVec 32 := Scalar.addi c0_i32_784 v870
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_785 : BitVec 32 := 4#32
  let v872 : BitVec 32 := Scalar.muli v19 c4_i32_785
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_786 : BitVec 32 := 1#32
  let v874 : BitVec 32 := Scalar.muli v8 c1_i32_786
  let v875 : BitVec 32 := Scalar.addi v873 v874
  v875.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_807 : BitVec 32 := 2#32
  let v905 : BitVec 1 := Scalar.cmpi .sge v8 c2_i32_807
  let v906 : BitVec 32 := Scalar.extui v905
  let c0_i32_808 : BitVec 32 := 0#32
  let v907 : BitVec 1 := Scalar.cmpi .ne v906 c0_i32_808
  v907

def k0_off41 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c1_i32_1884 : BitVec 32 := 1#32
  let v2004 : BitVec 32 := Scalar.subi v2003 c1_i32_1884
  let v2010 : BitVec 32 := Scalar.addi v2009 v2004
  let c512_i32_1889 : BitVec 32 := 512#32
  let v2011 : BitVec 32 := Scalar.muli v2010 c512_i32_1889
  let c128_i32_1890 : BitVec 32 := 128#32
  let v2012 : BitVec 32 := Scalar.addi v2011 c128_i32_1890
  let c0_i32_1899 : BitVec 32 := 0#32
  ![v2012.toNat, 0]
def k0_off42 (d0 : Dev nD) : Fin 2 → Nat :=
  let c1_i32_1911 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c1_i32_1902 : BitVec 32 := 1#32
  let v2025 : BitVec 32 := Scalar.subi v2024 c1_i32_1902
  ![1, v2025.toNat]
def k0_dev34 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_809 : BitVec 32 := 1#32
  let v908 : BitVec 1 := Scalar.cmpi .sle v8 c1_i32_809
  let v909 : BitVec 32 := Scalar.extui v908
  let c0_i32_810 : BitVec 32 := 0#32
  let v910 : BitVec 1 := Scalar.cmpi .ne v909 c0_i32_810
  v910

def k0_off43 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c1_i32_1884 : BitVec 32 := 1#32
  let v2004 : BitVec 32 := Scalar.addi v2003 c1_i32_1884
  let v2010 : BitVec 32 := Scalar.addi v2009 v2004
  let c512_i32_1889 : BitVec 32 := 512#32
  let v2011 : BitVec 32 := Scalar.muli v2010 c512_i32_1889
  let c128_i32_1890 : BitVec 32 := 128#32
  let v2012 : BitVec 32 := Scalar.addi v2011 c128_i32_1890
  let c0_i32_1900 : BitVec 32 := 0#32
  ![v2012.toNat, 0]
def k0_off44 (d0 : Dev nD) : Fin 2 → Nat :=
  let c1_i32_1912 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c1_i32_1903 : BitVec 32 := 1#32
  let v2025 : BitVec 32 := Scalar.addi v2024 c1_i32_1903
  ![1, v2025.toNat]
def k0_dev35 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_811 : BitVec 32 := 3#32
  let v911 : BitVec 1 := Scalar.cmpi .slt v8 c3_i32_811
  let c1_i32_812 : BitVec 32 := 1#32
  let v912 : BitVec 1 := Scalar.cmpi .sge v8 c1_i32_812
  let v913 : BitVec 1 := Scalar.andi v911 v912
  let v914 : BitVec 32 := Scalar.extui v913
  let c0_i32_813 : BitVec 32 := 0#32
  let v915 : BitVec 1 := Scalar.cmpi .ne v914 c0_i32_813
  v915

def k0_off45 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2005 : BitVec 32 := Scalar.addi v2004 v2003
  let c512_i32_1885 : BitVec 32 := 512#32
  let v2006 : BitVec 32 := Scalar.muli v2005 c512_i32_1885
  let c128_i32_1886 : BitVec 32 := 128#32
  let v2007 : BitVec 32 := Scalar.addi v2006 c128_i32_1886
  let c0_i32_1896 : BitVec 32 := 0#32
  ![v2007.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_814 : BitVec 32 := 0#32
  let v916 : BitVec 1 := Scalar.cmpi .sgt v8 c0_i32_814
  let c1_i32_815 : BitVec 32 := 1#32
  let v917 : BitVec 32 := Scalar.addi v8 c1_i32_815
  let c3_i32_816 : BitVec 32 := 3#32
  let v918 : BitVec 1 := Scalar.cmpi .sle v917 c3_i32_816
  let v919 : BitVec 1 := Scalar.andi v916 v918
  let v920 : BitVec 32 := Scalar.extui v919
  let c0_i32_817 : BitVec 32 := 0#32
  let v921 : BitVec 1 := Scalar.cmpi .ne v920 c0_i32_817
  v921

def k0_off46 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2005 : BitVec 32 := Scalar.addi v2004 v2003
  let c512_i32_1885 : BitVec 32 := 512#32
  let v2006 : BitVec 32 := Scalar.muli v2005 c512_i32_1885
  let c128_i32_1886 : BitVec 32 := 128#32
  let v2007 : BitVec 32 := Scalar.addi v2006 c128_i32_1886
  let c0_i32_1895 : BitVec 32 := 0#32
  ![v2007.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_818 : BitVec 32 := 3#32
  let v922 : BitVec 1 := Scalar.cmpi .slt v8 c3_i32_818
  let c2_i32_819 : BitVec 32 := 2#32
  let v923 : BitVec 1 := Scalar.cmpi .sge v8 c2_i32_819
  let v924 : BitVec 1 := Scalar.andi v922 v923
  let v925 : BitVec 32 := Scalar.extui v924
  let c0_i32_820 : BitVec 32 := 0#32
  let v926 : BitVec 1 := Scalar.cmpi .ne v925 c0_i32_820
  v926

def k0_off47 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2009 : BitVec 32 := Scalar.addi v2008 v2003
  let c512_i32_1888 : BitVec 32 := 512#32
  let v2010 : BitVec 32 := Scalar.muli v2009 c512_i32_1888
  let c128_i32_1889 : BitVec 32 := 128#32
  let v2011 : BitVec 32 := Scalar.addi v2010 c128_i32_1889
  let c0_i32_1899 : BitVec 32 := 0#32
  ![v2011.toNat, 0]
def k0_dev36 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_821 : BitVec 32 := 0#32
  let v927 : BitVec 1 := Scalar.cmpi .sgt v8 c0_i32_821
  let c2_i32_822 : BitVec 32 := 2#32
  let v928 : BitVec 32 := Scalar.addi v8 c2_i32_822
  let c3_i32_823 : BitVec 32 := 3#32
  let v929 : BitVec 1 := Scalar.cmpi .sle v928 c3_i32_823
  let v930 : BitVec 1 := Scalar.andi v927 v929
  let v931 : BitVec 32 := Scalar.extui v930
  let c0_i32_824 : BitVec 32 := 0#32
  let v932 : BitVec 1 := Scalar.cmpi .ne v931 c0_i32_824
  v932

def k0_off48 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2009 : BitVec 32 := Scalar.addi v2008 v2003
  let c512_i32_1888 : BitVec 32 := 512#32
  let v2010 : BitVec 32 := Scalar.muli v2009 c512_i32_1888
  let c128_i32_1889 : BitVec 32 := 128#32
  let v2011 : BitVec 32 := Scalar.addi v2010 c128_i32_1889
  let c0_i32_1898 : BitVec 32 := 0#32
  ![v2011.toNat, 0]
def k0_dev37 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev38 (d0 : Dev nD) : Nat :=
  let c0_i32_890 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_889 : BitVec 32 := 16#32
  let v980 : BitVec 32 := Scalar.muli v2 c16_i32_889
  let v981 : BitVec 32 := Scalar.addi c0_i32_890 v980
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_891 : BitVec 32 := 4#32
  let v982 : BitVec 32 := Scalar.muli v19 c4_i32_891
  let v983 : BitVec 32 := Scalar.addi v981 v982
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_892 : BitVec 32 := 1#32
  let v984 : BitVec 32 := Scalar.muli v8 c1_i32_892
  let v985 : BitVec 32 := Scalar.addi v983 v984
  v985.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_913 : BitVec 32 := 3#32
  let v1015 : BitVec 1 := Scalar.cmpi .sge v8 c3_i32_913
  let v1016 : BitVec 32 := Scalar.extui v1015
  let c0_i32_914 : BitVec 32 := 0#32
  let v1017 : BitVec 1 := Scalar.cmpi .ne v1016 c0_i32_914
  v1017

def k0_off49 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c2_i32_1884 : BitVec 32 := 2#32
  let v2004 : BitVec 32 := Scalar.subi v2003 c2_i32_1884
  let v2010 : BitVec 32 := Scalar.addi v2009 v2004
  let c512_i32_1889 : BitVec 32 := 512#32
  let v2011 : BitVec 32 := Scalar.muli v2010 c512_i32_1889
  let c128_i32_1890 : BitVec 32 := 128#32
  let v2012 : BitVec 32 := Scalar.addi v2011 c128_i32_1890
  let c0_i32_1899 : BitVec 32 := 0#32
  ![v2012.toNat, 0]
def k0_off50 (d0 : Dev nD) : Fin 2 → Nat :=
  let c1_i32_1911 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c2_i32_1902 : BitVec 32 := 2#32
  let v2025 : BitVec 32 := Scalar.subi v2024 c2_i32_1902
  ![1, v2025.toNat]
def k0_dev39 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_915 : BitVec 32 := 0#32
  let v1018 : BitVec 1 := Scalar.cmpi .sle v8 c0_i32_915
  let v1019 : BitVec 32 := Scalar.extui v1018
  let c0_i32_916 : BitVec 32 := 0#32
  let v1020 : BitVec 1 := Scalar.cmpi .ne v1019 c0_i32_916
  v1020

def k0_off51 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c2_i32_1884 : BitVec 32 := 2#32
  let v2004 : BitVec 32 := Scalar.addi v2003 c2_i32_1884
  let v2010 : BitVec 32 := Scalar.addi v2009 v2004
  let c512_i32_1889 : BitVec 32 := 512#32
  let v2011 : BitVec 32 := Scalar.muli v2010 c512_i32_1889
  let c128_i32_1890 : BitVec 32 := 128#32
  let v2012 : BitVec 32 := Scalar.addi v2011 c128_i32_1890
  let c0_i32_1900 : BitVec 32 := 0#32
  ![v2012.toNat, 0]
def k0_off52 (d0 : Dev nD) : Fin 2 → Nat :=
  let c1_i32_1912 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c2_i32_1903 : BitVec 32 := 2#32
  let v2025 : BitVec 32 := Scalar.addi v2024 c2_i32_1903
  ![1, v2025.toNat]
def k0_dev40 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_917 : BitVec 32 := 3#32
  let v1021 : BitVec 1 := Scalar.cmpi .slt v8 c3_i32_917
  let c2_i32_918 : BitVec 32 := 2#32
  let v1022 : BitVec 1 := Scalar.cmpi .sge v8 c2_i32_918
  let v1023 : BitVec 1 := Scalar.andi v1021 v1022
  let v1024 : BitVec 32 := Scalar.extui v1023
  let c0_i32_919 : BitVec 32 := 0#32
  let v1025 : BitVec 1 := Scalar.cmpi .ne v1024 c0_i32_919
  v1025

def k0_off53 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2005 : BitVec 32 := Scalar.addi v2004 v2003
  let c512_i32_1885 : BitVec 32 := 512#32
  let v2006 : BitVec 32 := Scalar.muli v2005 c512_i32_1885
  let c128_i32_1886 : BitVec 32 := 128#32
  let v2007 : BitVec 32 := Scalar.addi v2006 c128_i32_1886
  let c0_i32_1896 : BitVec 32 := 0#32
  ![v2007.toNat, 0]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_920 : BitVec 32 := 0#32
  let v1026 : BitVec 1 := Scalar.cmpi .sgt v8 c0_i32_920
  let c2_i32_921 : BitVec 32 := 2#32
  let v1027 : BitVec 32 := Scalar.addi v8 c2_i32_921
  let c3_i32_922 : BitVec 32 := 3#32
  let v1028 : BitVec 1 := Scalar.cmpi .sle v1027 c3_i32_922
  let v1029 : BitVec 1 := Scalar.andi v1026 v1028
  let v1030 : BitVec 32 := Scalar.extui v1029
  let c0_i32_923 : BitVec 32 := 0#32
  let v1031 : BitVec 1 := Scalar.cmpi .ne v1030 c0_i32_923
  v1031

def k0_off54 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2005 : BitVec 32 := Scalar.addi v2004 v2003
  let c512_i32_1885 : BitVec 32 := 512#32
  let v2006 : BitVec 32 := Scalar.muli v2005 c512_i32_1885
  let c128_i32_1886 : BitVec 32 := 128#32
  let v2007 : BitVec 32 := Scalar.addi v2006 c128_i32_1886
  let c0_i32_1895 : BitVec 32 := 0#32
  ![v2007.toNat, 0]
def k0_off55 (d0 : Dev nD) : Fin 2 → Nat :=
  let c2_i32_977 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![2, v8.toNat]
def k0_dev41 (d0 : Dev nD) : Nat :=
  let c0_i32_979 : BitVec 32 := 0#32
  let c1_i32_975 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1074 : BitVec 32 := Scalar.subi c1_i32_975 v2
  let c16_i32_978 : BitVec 32 := 16#32
  let v1075 : BitVec 32 := Scalar.muli v1074 c16_i32_978
  let v1076 : BitVec 32 := Scalar.addi c0_i32_979 v1075
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_980 : BitVec 32 := 4#32
  let v1077 : BitVec 32 := Scalar.muli v5 c4_i32_980
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_981 : BitVec 32 := 1#32
  let v1079 : BitVec 32 := Scalar.muli v8 c1_i32_981
  let v1080 : BitVec 32 := Scalar.addi v1078 v1079
  v1080.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_984 : BitVec 32 := 3#32
  let v1087 : BitVec 1 := Scalar.cmpi .slt v8 c3_i32_984
  let c0_i32_985 : BitVec 32 := 0#32
  let v1088 : BitVec 1 := Scalar.cmpi .sge v8 c0_i32_985
  let v1089 : BitVec 1 := Scalar.andi v1087 v1088
  let v1090 : BitVec 32 := Scalar.extui v1089
  let c0_i32_986 : BitVec 32 := 0#32
  let v1091 : BitVec 1 := Scalar.cmpi .ne v1090 c0_i32_986
  v1091

def k0_off56 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2009 : BitVec 32 := Scalar.addi v2008 v2003
  let c512_i32_1888 : BitVec 32 := 512#32
  let v2010 : BitVec 32 := Scalar.muli v2009 c512_i32_1888
  let c256_i32_1889 : BitVec 32 := 256#32
  let v2011 : BitVec 32 := Scalar.addi v2010 c256_i32_1889
  let c0_i32_1899 : BitVec 32 := 0#32
  ![v2011.toNat, 0]
def k0_dev42 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_987 : BitVec 32 := 0#32
  let v1092 : BitVec 1 := Scalar.cmpi .sgt v8 c0_i32_987
  let c0_i32_988 : BitVec 32 := 0#32
  let v1093 : BitVec 32 := Scalar.addi v8 c0_i32_988
  let c3_i32_989 : BitVec 32 := 3#32
  let v1094 : BitVec 1 := Scalar.cmpi .sle v1093 c3_i32_989
  let v1095 : BitVec 1 := Scalar.andi v1092 v1094
  let v1096 : BitVec 32 := Scalar.extui v1095
  let c0_i32_990 : BitVec 32 := 0#32
  let v1097 : BitVec 1 := Scalar.cmpi .ne v1096 c0_i32_990
  v1097

def k0_off57 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2009 : BitVec 32 := Scalar.addi v2008 v2003
  let c512_i32_1888 : BitVec 32 := 512#32
  let v2010 : BitVec 32 := Scalar.muli v2009 c512_i32_1888
  let c256_i32_1889 : BitVec 32 := 256#32
  let v2011 : BitVec 32 := Scalar.addi v2010 c256_i32_1889
  let c0_i32_1898 : BitVec 32 := 0#32
  ![v2011.toNat, 0]
def k0_dev43 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev44 (d0 : Dev nD) : Nat :=
  let c0_i32_1009 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1008 : BitVec 32 := 16#32
  let v1113 : BitVec 32 := Scalar.muli v2 c16_i32_1008
  let v1114 : BitVec 32 := Scalar.addi c0_i32_1009 v1113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1010 : BitVec 32 := 4#32
  let v1115 : BitVec 32 := Scalar.muli v19 c4_i32_1010
  let v1116 : BitVec 32 := Scalar.addi v1114 v1115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1117 : BitVec 32 := Scalar.muli v8 c1_i32_1011
  let v1118 : BitVec 32 := Scalar.addi v1116 v1117
  v1118.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1030 : BitVec 32 := 1#32
  let v1148 : BitVec 1 := Scalar.cmpi .sge v8 c1_i32_1030
  let v1149 : BitVec 32 := Scalar.extui v1148
  let c0_i32_1031 : BitVec 32 := 0#32
  let v1150 : BitVec 1 := Scalar.cmpi .ne v1149 c0_i32_1031
  v1150

def k0_off58 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c0_i32_1884 : BitVec 32 := 0#32
  let v2004 : BitVec 32 := Scalar.subi v2003 c0_i32_1884
  let v2010 : BitVec 32 := Scalar.addi v2009 v2004
  let c512_i32_1889 : BitVec 32 := 512#32
  let v2011 : BitVec 32 := Scalar.muli v2010 c512_i32_1889
  let c256_i32_1890 : BitVec 32 := 256#32
  let v2012 : BitVec 32 := Scalar.addi v2011 c256_i32_1890
  let c0_i32_1899 : BitVec 32 := 0#32
  ![v2012.toNat, 0]
def k0_off59 (d0 : Dev nD) : Fin 2 → Nat :=
  let c2_i32_1911 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c0_i32_1902 : BitVec 32 := 0#32
  let v2025 : BitVec 32 := Scalar.subi v2024 c0_i32_1902
  ![2, v2025.toNat]
def k0_dev45 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1032 : BitVec 32 := 2#32
  let v1151 : BitVec 1 := Scalar.cmpi .sle v8 c2_i32_1032
  let v1152 : BitVec 32 := Scalar.extui v1151
  let c0_i32_1033 : BitVec 32 := 0#32
  let v1153 : BitVec 1 := Scalar.cmpi .ne v1152 c0_i32_1033
  v1153

def k0_off60 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c0_i32_1884 : BitVec 32 := 0#32
  let v2004 : BitVec 32 := Scalar.addi v2003 c0_i32_1884
  let v2010 : BitVec 32 := Scalar.addi v2009 v2004
  let c512_i32_1889 : BitVec 32 := 512#32
  let v2011 : BitVec 32 := Scalar.muli v2010 c512_i32_1889
  let c256_i32_1890 : BitVec 32 := 256#32
  let v2012 : BitVec 32 := Scalar.addi v2011 c256_i32_1890
  let c0_i32_1900 : BitVec 32 := 0#32
  ![v2012.toNat, 0]
def k0_off61 (d0 : Dev nD) : Fin 2 → Nat :=
  let c2_i32_1912 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c0_i32_1903 : BitVec 32 := 0#32
  let v2025 : BitVec 32 := Scalar.addi v2024 c0_i32_1903
  ![2, v2025.toNat]
def k0_dev46 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1034 : BitVec 32 := 3#32
  let v1154 : BitVec 1 := Scalar.cmpi .slt v8 c3_i32_1034
  let c0_i32_1035 : BitVec 32 := 0#32
  let v1155 : BitVec 1 := Scalar.cmpi .sge v8 c0_i32_1035
  let v1156 : BitVec 1 := Scalar.andi v1154 v1155
  let v1157 : BitVec 32 := Scalar.extui v1156
  let c0_i32_1036 : BitVec 32 := 0#32
  let v1158 : BitVec 1 := Scalar.cmpi .ne v1157 c0_i32_1036
  v1158

def k0_off62 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2005 : BitVec 32 := Scalar.addi v2004 v2003
  let c512_i32_1885 : BitVec 32 := 512#32
  let v2006 : BitVec 32 := Scalar.muli v2005 c512_i32_1885
  let c256_i32_1886 : BitVec 32 := 256#32
  let v2007 : BitVec 32 := Scalar.addi v2006 c256_i32_1886
  let c0_i32_1896 : BitVec 32 := 0#32
  ![v2007.toNat, 0]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1037 : BitVec 32 := 0#32
  let v1159 : BitVec 1 := Scalar.cmpi .sgt v8 c0_i32_1037
  let c0_i32_1038 : BitVec 32 := 0#32
  let v1160 : BitVec 32 := Scalar.addi v8 c0_i32_1038
  let c3_i32_1039 : BitVec 32 := 3#32
  let v1161 : BitVec 1 := Scalar.cmpi .sle v1160 c3_i32_1039
  let v1162 : BitVec 1 := Scalar.andi v1159 v1161
  let v1163 : BitVec 32 := Scalar.extui v1162
  let c0_i32_1040 : BitVec 32 := 0#32
  let v1164 : BitVec 1 := Scalar.cmpi .ne v1163 c0_i32_1040
  v1164

def k0_off63 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2005 : BitVec 32 := Scalar.addi v2004 v2003
  let c512_i32_1885 : BitVec 32 := 512#32
  let v2006 : BitVec 32 := Scalar.muli v2005 c512_i32_1885
  let c256_i32_1886 : BitVec 32 := 256#32
  let v2007 : BitVec 32 := Scalar.addi v2006 c256_i32_1886
  let c0_i32_1895 : BitVec 32 := 0#32
  ![v2007.toNat, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1041 : BitVec 32 := 3#32
  let v1165 : BitVec 1 := Scalar.cmpi .slt v8 c3_i32_1041
  let c1_i32_1042 : BitVec 32 := 1#32
  let v1166 : BitVec 1 := Scalar.cmpi .sge v8 c1_i32_1042
  let v1167 : BitVec 1 := Scalar.andi v1165 v1166
  let v1168 : BitVec 32 := Scalar.extui v1167
  let c0_i32_1043 : BitVec 32 := 0#32
  let v1169 : BitVec 1 := Scalar.cmpi .ne v1168 c0_i32_1043
  v1169

def k0_off64 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2009 : BitVec 32 := Scalar.addi v2008 v2003
  let c512_i32_1888 : BitVec 32 := 512#32
  let v2010 : BitVec 32 := Scalar.muli v2009 c512_i32_1888
  let c256_i32_1889 : BitVec 32 := 256#32
  let v2011 : BitVec 32 := Scalar.addi v2010 c256_i32_1889
  let c0_i32_1899 : BitVec 32 := 0#32
  ![v2011.toNat, 0]
def k0_dev47 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1044 : BitVec 32 := 0#32
  let v1170 : BitVec 1 := Scalar.cmpi .sgt v8 c0_i32_1044
  let c1_i32_1045 : BitVec 32 := 1#32
  let v1171 : BitVec 32 := Scalar.addi v8 c1_i32_1045
  let c3_i32_1046 : BitVec 32 := 3#32
  let v1172 : BitVec 1 := Scalar.cmpi .sle v1171 c3_i32_1046
  let v1173 : BitVec 1 := Scalar.andi v1170 v1172
  let v1174 : BitVec 32 := Scalar.extui v1173
  let c0_i32_1047 : BitVec 32 := 0#32
  let v1175 : BitVec 1 := Scalar.cmpi .ne v1174 c0_i32_1047
  v1175

def k0_off65 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2009 : BitVec 32 := Scalar.addi v2008 v2003
  let c512_i32_1888 : BitVec 32 := 512#32
  let v2010 : BitVec 32 := Scalar.muli v2009 c512_i32_1888
  let c256_i32_1889 : BitVec 32 := 256#32
  let v2011 : BitVec 32 := Scalar.addi v2010 c256_i32_1889
  let c0_i32_1898 : BitVec 32 := 0#32
  ![v2011.toNat, 0]
def k0_dev48 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev49 (d0 : Dev nD) : Nat :=
  let c0_i32_1117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1116 : BitVec 32 := 16#32
  let v1238 : BitVec 32 := Scalar.muli v2 c16_i32_1116
  let v1239 : BitVec 32 := Scalar.addi c0_i32_1117 v1238
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1118 : BitVec 32 := 4#32
  let v1240 : BitVec 32 := Scalar.muli v19 c4_i32_1118
  let v1241 : BitVec 32 := Scalar.addi v1239 v1240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1119 : BitVec 32 := 1#32
  let v1242 : BitVec 32 := Scalar.muli v8 c1_i32_1119
  let v1243 : BitVec 32 := Scalar.addi v1241 v1242
  v1243.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1140 : BitVec 32 := 2#32
  let v1273 : BitVec 1 := Scalar.cmpi .sge v8 c2_i32_1140
  let v1274 : BitVec 32 := Scalar.extui v1273
  let c0_i32_1141 : BitVec 32 := 0#32
  let v1275 : BitVec 1 := Scalar.cmpi .ne v1274 c0_i32_1141
  v1275

def k0_off66 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c1_i32_1884 : BitVec 32 := 1#32
  let v2004 : BitVec 32 := Scalar.subi v2003 c1_i32_1884
  let v2010 : BitVec 32 := Scalar.addi v2009 v2004
  let c512_i32_1889 : BitVec 32 := 512#32
  let v2011 : BitVec 32 := Scalar.muli v2010 c512_i32_1889
  let c256_i32_1890 : BitVec 32 := 256#32
  let v2012 : BitVec 32 := Scalar.addi v2011 c256_i32_1890
  let c0_i32_1899 : BitVec 32 := 0#32
  ![v2012.toNat, 0]
def k0_off67 (d0 : Dev nD) : Fin 2 → Nat :=
  let c2_i32_1911 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c1_i32_1902 : BitVec 32 := 1#32
  let v2025 : BitVec 32 := Scalar.subi v2024 c1_i32_1902
  ![2, v2025.toNat]
def k0_dev50 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1142 : BitVec 32 := 1#32
  let v1276 : BitVec 1 := Scalar.cmpi .sle v8 c1_i32_1142
  let v1277 : BitVec 32 := Scalar.extui v1276
  let c0_i32_1143 : BitVec 32 := 0#32
  let v1278 : BitVec 1 := Scalar.cmpi .ne v1277 c0_i32_1143
  v1278

def k0_off68 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c1_i32_1884 : BitVec 32 := 1#32
  let v2004 : BitVec 32 := Scalar.addi v2003 c1_i32_1884
  let v2010 : BitVec 32 := Scalar.addi v2009 v2004
  let c512_i32_1889 : BitVec 32 := 512#32
  let v2011 : BitVec 32 := Scalar.muli v2010 c512_i32_1889
  let c256_i32_1890 : BitVec 32 := 256#32
  let v2012 : BitVec 32 := Scalar.addi v2011 c256_i32_1890
  let c0_i32_1900 : BitVec 32 := 0#32
  ![v2012.toNat, 0]
def k0_off69 (d0 : Dev nD) : Fin 2 → Nat :=
  let c2_i32_1912 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c1_i32_1903 : BitVec 32 := 1#32
  let v2025 : BitVec 32 := Scalar.addi v2024 c1_i32_1903
  ![2, v2025.toNat]
def k0_dev51 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1144 : BitVec 32 := 3#32
  let v1279 : BitVec 1 := Scalar.cmpi .slt v8 c3_i32_1144
  let c1_i32_1145 : BitVec 32 := 1#32
  let v1280 : BitVec 1 := Scalar.cmpi .sge v8 c1_i32_1145
  let v1281 : BitVec 1 := Scalar.andi v1279 v1280
  let v1282 : BitVec 32 := Scalar.extui v1281
  let c0_i32_1146 : BitVec 32 := 0#32
  let v1283 : BitVec 1 := Scalar.cmpi .ne v1282 c0_i32_1146
  v1283

def k0_off70 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2005 : BitVec 32 := Scalar.addi v2004 v2003
  let c512_i32_1885 : BitVec 32 := 512#32
  let v2006 : BitVec 32 := Scalar.muli v2005 c512_i32_1885
  let c256_i32_1886 : BitVec 32 := 256#32
  let v2007 : BitVec 32 := Scalar.addi v2006 c256_i32_1886
  let c0_i32_1896 : BitVec 32 := 0#32
  ![v2007.toNat, 0]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1147 : BitVec 32 := 0#32
  let v1284 : BitVec 1 := Scalar.cmpi .sgt v8 c0_i32_1147
  let c1_i32_1148 : BitVec 32 := 1#32
  let v1285 : BitVec 32 := Scalar.addi v8 c1_i32_1148
  let c3_i32_1149 : BitVec 32 := 3#32
  let v1286 : BitVec 1 := Scalar.cmpi .sle v1285 c3_i32_1149
  let v1287 : BitVec 1 := Scalar.andi v1284 v1286
  let v1288 : BitVec 32 := Scalar.extui v1287
  let c0_i32_1150 : BitVec 32 := 0#32
  let v1289 : BitVec 1 := Scalar.cmpi .ne v1288 c0_i32_1150
  v1289

def k0_off71 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2005 : BitVec 32 := Scalar.addi v2004 v2003
  let c512_i32_1885 : BitVec 32 := 512#32
  let v2006 : BitVec 32 := Scalar.muli v2005 c512_i32_1885
  let c256_i32_1886 : BitVec 32 := 256#32
  let v2007 : BitVec 32 := Scalar.addi v2006 c256_i32_1886
  let c0_i32_1895 : BitVec 32 := 0#32
  ![v2007.toNat, 0]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1151 : BitVec 32 := 3#32
  let v1290 : BitVec 1 := Scalar.cmpi .slt v8 c3_i32_1151
  let c2_i32_1152 : BitVec 32 := 2#32
  let v1291 : BitVec 1 := Scalar.cmpi .sge v8 c2_i32_1152
  let v1292 : BitVec 1 := Scalar.andi v1290 v1291
  let v1293 : BitVec 32 := Scalar.extui v1292
  let c0_i32_1153 : BitVec 32 := 0#32
  let v1294 : BitVec 1 := Scalar.cmpi .ne v1293 c0_i32_1153
  v1294

def k0_off72 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2009 : BitVec 32 := Scalar.addi v2008 v2003
  let c512_i32_1888 : BitVec 32 := 512#32
  let v2010 : BitVec 32 := Scalar.muli v2009 c512_i32_1888
  let c256_i32_1889 : BitVec 32 := 256#32
  let v2011 : BitVec 32 := Scalar.addi v2010 c256_i32_1889
  let c0_i32_1899 : BitVec 32 := 0#32
  ![v2011.toNat, 0]
def k0_dev52 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1154 : BitVec 32 := 0#32
  let v1295 : BitVec 1 := Scalar.cmpi .sgt v8 c0_i32_1154
  let c2_i32_1155 : BitVec 32 := 2#32
  let v1296 : BitVec 32 := Scalar.addi v8 c2_i32_1155
  let c3_i32_1156 : BitVec 32 := 3#32
  let v1297 : BitVec 1 := Scalar.cmpi .sle v1296 c3_i32_1156
  let v1298 : BitVec 1 := Scalar.andi v1295 v1297
  let v1299 : BitVec 32 := Scalar.extui v1298
  let c0_i32_1157 : BitVec 32 := 0#32
  let v1300 : BitVec 1 := Scalar.cmpi .ne v1299 c0_i32_1157
  v1300

def k0_off73 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2009 : BitVec 32 := Scalar.addi v2008 v2003
  let c512_i32_1888 : BitVec 32 := 512#32
  let v2010 : BitVec 32 := Scalar.muli v2009 c512_i32_1888
  let c256_i32_1889 : BitVec 32 := 256#32
  let v2011 : BitVec 32 := Scalar.addi v2010 c256_i32_1889
  let c0_i32_1898 : BitVec 32 := 0#32
  ![v2011.toNat, 0]
def k0_dev53 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_dev54 (d0 : Dev nD) : Nat :=
  let c0_i32_1223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1222 : BitVec 32 := 16#32
  let v1348 : BitVec 32 := Scalar.muli v2 c16_i32_1222
  let v1349 : BitVec 32 := Scalar.addi c0_i32_1223 v1348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1224 : BitVec 32 := 4#32
  let v1350 : BitVec 32 := Scalar.muli v19 c4_i32_1224
  let v1351 : BitVec 32 := Scalar.addi v1349 v1350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1225 : BitVec 32 := 1#32
  let v1352 : BitVec 32 := Scalar.muli v8 c1_i32_1225
  let v1353 : BitVec 32 := Scalar.addi v1351 v1352
  v1353.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1246 : BitVec 32 := 3#32
  let v1383 : BitVec 1 := Scalar.cmpi .sge v8 c3_i32_1246
  let v1384 : BitVec 32 := Scalar.extui v1383
  let c0_i32_1247 : BitVec 32 := 0#32
  let v1385 : BitVec 1 := Scalar.cmpi .ne v1384 c0_i32_1247
  v1385

def k0_off74 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c2_i32_1884 : BitVec 32 := 2#32
  let v2004 : BitVec 32 := Scalar.subi v2003 c2_i32_1884
  let v2010 : BitVec 32 := Scalar.addi v2009 v2004
  let c512_i32_1889 : BitVec 32 := 512#32
  let v2011 : BitVec 32 := Scalar.muli v2010 c512_i32_1889
  let c256_i32_1890 : BitVec 32 := 256#32
  let v2012 : BitVec 32 := Scalar.addi v2011 c256_i32_1890
  let c0_i32_1899 : BitVec 32 := 0#32
  ![v2012.toNat, 0]
def k0_off75 (d0 : Dev nD) : Fin 2 → Nat :=
  let c2_i32_1911 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c2_i32_1902 : BitVec 32 := 2#32
  let v2025 : BitVec 32 := Scalar.subi v2024 c2_i32_1902
  ![2, v2025.toNat]
def k0_dev55 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1248 : BitVec 32 := 0#32
  let v1386 : BitVec 1 := Scalar.cmpi .sle v8 c0_i32_1248
  let v1387 : BitVec 32 := Scalar.extui v1386
  let c0_i32_1249 : BitVec 32 := 0#32
  let v1388 : BitVec 1 := Scalar.cmpi .ne v1387 c0_i32_1249
  v1388

def k0_off76 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c2_i32_1884 : BitVec 32 := 2#32
  let v2004 : BitVec 32 := Scalar.addi v2003 c2_i32_1884
  let v2010 : BitVec 32 := Scalar.addi v2009 v2004
  let c512_i32_1889 : BitVec 32 := 512#32
  let v2011 : BitVec 32 := Scalar.muli v2010 c512_i32_1889
  let c256_i32_1890 : BitVec 32 := 256#32
  let v2012 : BitVec 32 := Scalar.addi v2011 c256_i32_1890
  let c0_i32_1900 : BitVec 32 := 0#32
  ![v2012.toNat, 0]
def k0_off77 (d0 : Dev nD) : Fin 2 → Nat :=
  let c2_i32_1912 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c2_i32_1903 : BitVec 32 := 2#32
  let v2025 : BitVec 32 := Scalar.addi v2024 c2_i32_1903
  ![2, v2025.toNat]
def k0_dev56 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1250 : BitVec 32 := 3#32
  let v1389 : BitVec 1 := Scalar.cmpi .slt v8 c3_i32_1250
  let c2_i32_1251 : BitVec 32 := 2#32
  let v1390 : BitVec 1 := Scalar.cmpi .sge v8 c2_i32_1251
  let v1391 : BitVec 1 := Scalar.andi v1389 v1390
  let v1392 : BitVec 32 := Scalar.extui v1391
  let c0_i32_1252 : BitVec 32 := 0#32
  let v1393 : BitVec 1 := Scalar.cmpi .ne v1392 c0_i32_1252
  v1393

def k0_off78 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2005 : BitVec 32 := Scalar.addi v2004 v2003
  let c512_i32_1885 : BitVec 32 := 512#32
  let v2006 : BitVec 32 := Scalar.muli v2005 c512_i32_1885
  let c256_i32_1886 : BitVec 32 := 256#32
  let v2007 : BitVec 32 := Scalar.addi v2006 c256_i32_1886
  let c0_i32_1896 : BitVec 32 := 0#32
  ![v2007.toNat, 0]
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1253 : BitVec 32 := 0#32
  let v1394 : BitVec 1 := Scalar.cmpi .sgt v8 c0_i32_1253
  let c2_i32_1254 : BitVec 32 := 2#32
  let v1395 : BitVec 32 := Scalar.addi v8 c2_i32_1254
  let c3_i32_1255 : BitVec 32 := 3#32
  let v1396 : BitVec 1 := Scalar.cmpi .sle v1395 c3_i32_1255
  let v1397 : BitVec 1 := Scalar.andi v1394 v1396
  let v1398 : BitVec 32 := Scalar.extui v1397
  let c0_i32_1256 : BitVec 32 := 0#32
  let v1399 : BitVec 1 := Scalar.cmpi .ne v1398 c0_i32_1256
  v1399

def k0_off79 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2005 : BitVec 32 := Scalar.addi v2004 v2003
  let c512_i32_1885 : BitVec 32 := 512#32
  let v2006 : BitVec 32 := Scalar.muli v2005 c512_i32_1885
  let c256_i32_1886 : BitVec 32 := 256#32
  let v2007 : BitVec 32 := Scalar.addi v2006 c256_i32_1886
  let c0_i32_1895 : BitVec 32 := 0#32
  ![v2007.toNat, 0]
def k0_off80 (d0 : Dev nD) : Fin 2 → Nat :=
  let c3_i32_1310 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![3, v8.toNat]
def k0_dev57 (d0 : Dev nD) : Nat :=
  let c0_i32_1312 : BitVec 32 := 0#32
  let c1_i32_1308 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1442 : BitVec 32 := Scalar.subi c1_i32_1308 v2
  let c16_i32_1311 : BitVec 32 := 16#32
  let v1443 : BitVec 32 := Scalar.muli v1442 c16_i32_1311
  let v1444 : BitVec 32 := Scalar.addi c0_i32_1312 v1443
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1313 : BitVec 32 := 4#32
  let v1445 : BitVec 32 := Scalar.muli v5 c4_i32_1313
  let v1446 : BitVec 32 := Scalar.addi v1444 v1445
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1447 : BitVec 32 := Scalar.muli v8 c1_i32_1314
  let v1448 : BitVec 32 := Scalar.addi v1446 v1447
  v1448.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1317 : BitVec 32 := 3#32
  let v1455 : BitVec 1 := Scalar.cmpi .slt v8 c3_i32_1317
  let c0_i32_1318 : BitVec 32 := 0#32
  let v1456 : BitVec 1 := Scalar.cmpi .sge v8 c0_i32_1318
  let v1457 : BitVec 1 := Scalar.andi v1455 v1456
  let v1458 : BitVec 32 := Scalar.extui v1457
  let c0_i32_1319 : BitVec 32 := 0#32
  let v1459 : BitVec 1 := Scalar.cmpi .ne v1458 c0_i32_1319
  v1459

def k0_off81 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2009 : BitVec 32 := Scalar.addi v2008 v2003
  let c512_i32_1888 : BitVec 32 := 512#32
  let v2010 : BitVec 32 := Scalar.muli v2009 c512_i32_1888
  let c384_i32_1889 : BitVec 32 := 384#32
  let v2011 : BitVec 32 := Scalar.addi v2010 c384_i32_1889
  let c0_i32_1899 : BitVec 32 := 0#32
  ![v2011.toNat, 0]
def k0_dev58 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1320 : BitVec 32 := 0#32
  let v1460 : BitVec 1 := Scalar.cmpi .sgt v8 c0_i32_1320
  let c0_i32_1321 : BitVec 32 := 0#32
  let v1461 : BitVec 32 := Scalar.addi v8 c0_i32_1321
  let c3_i32_1322 : BitVec 32 := 3#32
  let v1462 : BitVec 1 := Scalar.cmpi .sle v1461 c3_i32_1322
  let v1463 : BitVec 1 := Scalar.andi v1460 v1462
  let v1464 : BitVec 32 := Scalar.extui v1463
  let c0_i32_1323 : BitVec 32 := 0#32
  let v1465 : BitVec 1 := Scalar.cmpi .ne v1464 c0_i32_1323
  v1465

def k0_off82 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2009 : BitVec 32 := Scalar.addi v2008 v2003
  let c512_i32_1888 : BitVec 32 := 512#32
  let v2010 : BitVec 32 := Scalar.muli v2009 c512_i32_1888
  let c384_i32_1889 : BitVec 32 := 384#32
  let v2011 : BitVec 32 := Scalar.addi v2010 c384_i32_1889
  let c0_i32_1898 : BitVec 32 := 0#32
  ![v2011.toNat, 0]
def k0_dev59 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1324 : BitVec 32 := 1#32
  let v1466 : BitVec 1 := Scalar.cmpi .sge v8 c1_i32_1324
  let v1467 : BitVec 32 := Scalar.extui v1466
  let c0_i32_1325 : BitVec 32 := 0#32
  let v1468 : BitVec 1 := Scalar.cmpi .ne v1467 c0_i32_1325
  v1468

def k0_off83 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c0_i32_1884 : BitVec 32 := 0#32
  let v2004 : BitVec 32 := Scalar.subi v2003 c0_i32_1884
  let v2010 : BitVec 32 := Scalar.addi v2009 v2004
  let c512_i32_1889 : BitVec 32 := 512#32
  let v2011 : BitVec 32 := Scalar.muli v2010 c512_i32_1889
  let c384_i32_1890 : BitVec 32 := 384#32
  let v2012 : BitVec 32 := Scalar.addi v2011 c384_i32_1890
  let c0_i32_1899 : BitVec 32 := 0#32
  ![v2012.toNat, 0]
def k0_off84 (d0 : Dev nD) : Fin 2 → Nat :=
  let c3_i32_1911 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c0_i32_1902 : BitVec 32 := 0#32
  let v2025 : BitVec 32 := Scalar.subi v2024 c0_i32_1902
  ![3, v2025.toNat]
def k0_dev60 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1326 : BitVec 32 := 2#32
  let v1469 : BitVec 1 := Scalar.cmpi .sle v8 c2_i32_1326
  let v1470 : BitVec 32 := Scalar.extui v1469
  let c0_i32_1327 : BitVec 32 := 0#32
  let v1471 : BitVec 1 := Scalar.cmpi .ne v1470 c0_i32_1327
  v1471

def k0_off85 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c0_i32_1884 : BitVec 32 := 0#32
  let v2004 : BitVec 32 := Scalar.addi v2003 c0_i32_1884
  let v2010 : BitVec 32 := Scalar.addi v2009 v2004
  let c512_i32_1889 : BitVec 32 := 512#32
  let v2011 : BitVec 32 := Scalar.muli v2010 c512_i32_1889
  let c384_i32_1890 : BitVec 32 := 384#32
  let v2012 : BitVec 32 := Scalar.addi v2011 c384_i32_1890
  let c0_i32_1900 : BitVec 32 := 0#32
  ![v2012.toNat, 0]
def k0_off86 (d0 : Dev nD) : Fin 2 → Nat :=
  let c3_i32_1912 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c0_i32_1903 : BitVec 32 := 0#32
  let v2025 : BitVec 32 := Scalar.addi v2024 c0_i32_1903
  ![3, v2025.toNat]
def k0_dev61 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1328 : BitVec 32 := 3#32
  let v1472 : BitVec 1 := Scalar.cmpi .slt v8 c3_i32_1328
  let c0_i32_1329 : BitVec 32 := 0#32
  let v1473 : BitVec 1 := Scalar.cmpi .sge v8 c0_i32_1329
  let v1474 : BitVec 1 := Scalar.andi v1472 v1473
  let v1475 : BitVec 32 := Scalar.extui v1474
  let c0_i32_1330 : BitVec 32 := 0#32
  let v1476 : BitVec 1 := Scalar.cmpi .ne v1475 c0_i32_1330
  v1476

def k0_off87 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.subi v8 c0_i32_1883
  let v2005 : BitVec 32 := Scalar.addi v2004 v2003
  let c512_i32_1885 : BitVec 32 := 512#32
  let v2006 : BitVec 32 := Scalar.muli v2005 c512_i32_1885
  let c384_i32_1886 : BitVec 32 := 384#32
  let v2007 : BitVec 32 := Scalar.addi v2006 c384_i32_1886
  let c0_i32_1896 : BitVec 32 := 0#32
  ![v2007.toNat, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1331 : BitVec 32 := 0#32
  let v1477 : BitVec 1 := Scalar.cmpi .sgt v8 c0_i32_1331
  let c0_i32_1332 : BitVec 32 := 0#32
  let v1478 : BitVec 32 := Scalar.addi v8 c0_i32_1332
  let c3_i32_1333 : BitVec 32 := 3#32
  let v1479 : BitVec 1 := Scalar.cmpi .sle v1478 c3_i32_1333
  let v1480 : BitVec 1 := Scalar.andi v1477 v1479
  let v1481 : BitVec 32 := Scalar.extui v1480
  let c0_i32_1334 : BitVec 32 := 0#32
  let v1482 : BitVec 1 := Scalar.cmpi .ne v1481 c0_i32_1334
  v1482

def k0_off88 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1883 : BitVec 32 := 0#32
  let v2003 : BitVec 32 := Scalar.addi v8 c0_i32_1883
  let v2005 : BitVec 32 := Scalar.addi v2004 v2003
  let c512_i32_1885 : BitVec 32 := 512#32
  let v2006 : BitVec 32 := Scalar.muli v2005 c512_i32_1885
  let c384_i32_1886 : BitVec 32 := 384#32
  let v2007 : BitVec 32 := Scalar.addi v2006 c384_i32_1886
  let c0_i32_1895 : BitVec 32 := 0#32
  ![v2007.toNat, 0]
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1335 : BitVec 32 := 3#32
  let v1483 : BitVec 1 := Scalar.cmpi .slt v8 c3_i32_1335
  let c1_i32_1336 : BitVec 32 := 1#32
  let v1484 : BitVec 1 := Scalar.cmpi .sge v8 c1_i32_1336
  let v1485 : BitVec 1 := Scalar.andi v1483 v1484
  let v1486 : BitVec 32 := Scalar.extui v1485
  let c0_i32_1337 : BitVec 32 := 0#32
  let v1487 : BitVec 1 := Scalar.cmpi .ne v1486 c0_i32_1337
  v1487

def k0_off89 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2009 : BitVec 32 := Scalar.addi v2008 v2003
  let c512_i32_1888 : BitVec 32 := 512#32
  let v2010 : BitVec 32 := Scalar.muli v2009 c512_i32_1888
  let c384_i32_1889 : BitVec 32 := 384#32
  let v2011 : BitVec 32 := Scalar.addi v2010 c384_i32_1889
  let c0_i32_1899 : BitVec 32 := 0#32
  ![v2011.toNat, 0]
def k0_dev62 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1338 : BitVec 32 := 0#32
  let v1488 : BitVec 1 := Scalar.cmpi .sgt v8 c0_i32_1338
  let c1_i32_1339 : BitVec 32 := 1#32
  let v1489 : BitVec 32 := Scalar.addi v8 c1_i32_1339
  let c3_i32_1340 : BitVec 32 := 3#32
  let v1490 : BitVec 1 := Scalar.cmpi .sle v1489 c3_i32_1340
  let v1491 : BitVec 1 := Scalar.andi v1488 v1490
  let v1492 : BitVec 32 := Scalar.extui v1491
  let c0_i32_1341 : BitVec 32 := 0#32
  let v1493 : BitVec 1 := Scalar.cmpi .ne v1492 c0_i32_1341
  v1493

def k0_off90 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2009 : BitVec 32 := Scalar.addi v2008 v2003
  let c512_i32_1888 : BitVec 32 := 512#32
  let v2010 : BitVec 32 := Scalar.muli v2009 c512_i32_1888
  let c384_i32_1889 : BitVec 32 := 384#32
  let v2011 : BitVec 32 := Scalar.addi v2010 c384_i32_1889
  let c0_i32_1898 : BitVec 32 := 0#32
  ![v2011.toNat, 0]
def k0_dev63 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1342 : BitVec 32 := 2#32
  let v1494 : BitVec 1 := Scalar.cmpi .sge v8 c2_i32_1342
  let v1495 : BitVec 32 := Scalar.extui v1494
  let c0_i32_1343 : BitVec 32 := 0#32
  let v1496 : BitVec 1 := Scalar.cmpi .ne v1495 c0_i32_1343
  v1496

def k0_off91 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c1_i32_1884 : BitVec 32 := 1#32
  let v2004 : BitVec 32 := Scalar.subi v2003 c1_i32_1884
  let v2010 : BitVec 32 := Scalar.addi v2009 v2004
  let c512_i32_1889 : BitVec 32 := 512#32
  let v2011 : BitVec 32 := Scalar.muli v2010 c512_i32_1889
  let c384_i32_1890 : BitVec 32 := 384#32
  let v2012 : BitVec 32 := Scalar.addi v2011 c384_i32_1890
  let c0_i32_1899 : BitVec 32 := 0#32
  ![v2012.toNat, 0]
def k0_off92 (d0 : Dev nD) : Fin 2 → Nat :=
  let c3_i32_1911 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c1_i32_1902 : BitVec 32 := 1#32
  let v2025 : BitVec 32 := Scalar.subi v2024 c1_i32_1902
  ![3, v2025.toNat]
def k0_dev64 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1497 : BitVec 1 := Scalar.cmpi .sle v8 c1_i32_1344
  let v1498 : BitVec 32 := Scalar.extui v1497
  let c0_i32_1345 : BitVec 32 := 0#32
  let v1499 : BitVec 1 := Scalar.cmpi .ne v1498 c0_i32_1345
  v1499

def k0_off93 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c1_i32_1884 : BitVec 32 := 1#32
  let v2004 : BitVec 32 := Scalar.addi v2003 c1_i32_1884
  let v2010 : BitVec 32 := Scalar.addi v2009 v2004
  let c512_i32_1889 : BitVec 32 := 512#32
  let v2011 : BitVec 32 := Scalar.muli v2010 c512_i32_1889
  let c384_i32_1890 : BitVec 32 := 384#32
  let v2012 : BitVec 32 := Scalar.addi v2011 c384_i32_1890
  let c0_i32_1900 : BitVec 32 := 0#32
  ![v2012.toNat, 0]
def k0_off94 (d0 : Dev nD) : Fin 2 → Nat :=
  let c3_i32_1912 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c1_i32_1903 : BitVec 32 := 1#32
  let v2025 : BitVec 32 := Scalar.addi v2024 c1_i32_1903
  ![3, v2025.toNat]
def k0_dev65 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1346 : BitVec 32 := 3#32
  let v1500 : BitVec 1 := Scalar.cmpi .slt v8 c3_i32_1346
  let c1_i32_1347 : BitVec 32 := 1#32
  let v1501 : BitVec 1 := Scalar.cmpi .sge v8 c1_i32_1347
  let v1502 : BitVec 1 := Scalar.andi v1500 v1501
  let v1503 : BitVec 32 := Scalar.extui v1502
  let c0_i32_1348 : BitVec 32 := 0#32
  let v1504 : BitVec 1 := Scalar.cmpi .ne v1503 c0_i32_1348
  v1504

def k0_off95 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let v2005 : BitVec 32 := Scalar.addi v2004 v2003
  let c512_i32_1885 : BitVec 32 := 512#32
  let v2006 : BitVec 32 := Scalar.muli v2005 c512_i32_1885
  let c384_i32_1886 : BitVec 32 := 384#32
  let v2007 : BitVec 32 := Scalar.addi v2006 c384_i32_1886
  let c0_i32_1896 : BitVec 32 := 0#32
  ![v2007.toNat, 0]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1349 : BitVec 32 := 0#32
  let v1505 : BitVec 1 := Scalar.cmpi .sgt v8 c0_i32_1349
  let c1_i32_1350 : BitVec 32 := 1#32
  let v1506 : BitVec 32 := Scalar.addi v8 c1_i32_1350
  let c3_i32_1351 : BitVec 32 := 3#32
  let v1507 : BitVec 1 := Scalar.cmpi .sle v1506 c3_i32_1351
  let v1508 : BitVec 1 := Scalar.andi v1505 v1507
  let v1509 : BitVec 32 := Scalar.extui v1508
  let c0_i32_1352 : BitVec 32 := 0#32
  let v1510 : BitVec 1 := Scalar.cmpi .ne v1509 c0_i32_1352
  v1510

def k0_off96 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let v2005 : BitVec 32 := Scalar.addi v2004 v2003
  let c512_i32_1885 : BitVec 32 := 512#32
  let v2006 : BitVec 32 := Scalar.muli v2005 c512_i32_1885
  let c384_i32_1886 : BitVec 32 := 384#32
  let v2007 : BitVec 32 := Scalar.addi v2006 c384_i32_1886
  let c0_i32_1895 : BitVec 32 := 0#32
  ![v2007.toNat, 0]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1353 : BitVec 32 := 3#32
  let v1511 : BitVec 1 := Scalar.cmpi .slt v8 c3_i32_1353
  let c2_i32_1354 : BitVec 32 := 2#32
  let v1512 : BitVec 1 := Scalar.cmpi .sge v8 c2_i32_1354
  let v1513 : BitVec 1 := Scalar.andi v1511 v1512
  let v1514 : BitVec 32 := Scalar.extui v1513
  let c0_i32_1355 : BitVec 32 := 0#32
  let v1515 : BitVec 1 := Scalar.cmpi .ne v1514 c0_i32_1355
  v1515

def k0_off97 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2009 : BitVec 32 := Scalar.addi v2008 v2003
  let c512_i32_1888 : BitVec 32 := 512#32
  let v2010 : BitVec 32 := Scalar.muli v2009 c512_i32_1888
  let c384_i32_1889 : BitVec 32 := 384#32
  let v2011 : BitVec 32 := Scalar.addi v2010 c384_i32_1889
  let c0_i32_1899 : BitVec 32 := 0#32
  ![v2011.toNat, 0]
def k0_dev66 (d0 : Dev nD) : Nat :=
  let c0_i32_1896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1895 : BitVec 32 := 16#32
  let v2013 : BitVec 32 := Scalar.muli v2 c16_i32_1895
  let v2014 : BitVec 32 := Scalar.addi c0_i32_1896 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1897 : BitVec 32 := 4#32
  let v2015 : BitVec 32 := Scalar.muli v5 c4_i32_1897
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1890 : BitVec 32 := 1#32
  let v2012 : BitVec 32 := Scalar.addi v8 c1_i32_1890
  let c1_i32_1898 : BitVec 32 := 1#32
  let v2017 : BitVec 32 := Scalar.muli v2012 c1_i32_1898
  let v2018 : BitVec 32 := Scalar.addi v2016 v2017
  v2018.toNat
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1356 : BitVec 32 := 0#32
  let v1516 : BitVec 1 := Scalar.cmpi .sgt v8 c0_i32_1356
  let c2_i32_1357 : BitVec 32 := 2#32
  let v1517 : BitVec 32 := Scalar.addi v8 c2_i32_1357
  let c3_i32_1358 : BitVec 32 := 3#32
  let v1518 : BitVec 1 := Scalar.cmpi .sle v1517 c3_i32_1358
  let v1519 : BitVec 1 := Scalar.andi v1516 v1518
  let v1520 : BitVec 32 := Scalar.extui v1519
  let c0_i32_1359 : BitVec 32 := 0#32
  let v1521 : BitVec 1 := Scalar.cmpi .ne v1520 c0_i32_1359
  v1521

def k0_off98 (d0 : Dev nD) : Fin 2 → Nat :=
  let c4_i32_1887 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2008 : BitVec 32 := Scalar.muli c4_i32_1887 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2009 : BitVec 32 := Scalar.addi v2008 v2003
  let c512_i32_1888 : BitVec 32 := 512#32
  let v2010 : BitVec 32 := Scalar.muli v2009 c512_i32_1888
  let c384_i32_1889 : BitVec 32 := 384#32
  let v2011 : BitVec 32 := Scalar.addi v2010 c384_i32_1889
  let c0_i32_1898 : BitVec 32 := 0#32
  ![v2011.toNat, 0]
def k0_dev67 (d0 : Dev nD) : Nat :=
  let c0_i32_1895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1894 : BitVec 32 := 16#32
  let v2013 : BitVec 32 := Scalar.muli v2 c16_i32_1894
  let v2014 : BitVec 32 := Scalar.addi c0_i32_1895 v2013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1896 : BitVec 32 := 4#32
  let v2015 : BitVec 32 := Scalar.muli v5 c4_i32_1896
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v2012 : BitVec 32 := Scalar.addi v8 c_m1_i32
  let c1_i32_1897 : BitVec 32 := 1#32
  let v2017 : BitVec 32 := Scalar.muli v2012 c1_i32_1897
  let v2018 : BitVec 32 := Scalar.addi v2016 v2017
  v2018.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1360 : BitVec 32 := 3#32
  let v1522 : BitVec 1 := Scalar.cmpi .sge v8 c3_i32_1360
  let v1523 : BitVec 32 := Scalar.extui v1522
  let c0_i32_1361 : BitVec 32 := 0#32
  let v1524 : BitVec 1 := Scalar.cmpi .ne v1523 c0_i32_1361
  v1524

def k0_off99 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.subi v8 c1_i32_1883
  let c2_i32_1884 : BitVec 32 := 2#32
  let v2004 : BitVec 32 := Scalar.subi v2003 c2_i32_1884
  let v2010 : BitVec 32 := Scalar.addi v2009 v2004
  let c512_i32_1889 : BitVec 32 := 512#32
  let v2011 : BitVec 32 := Scalar.muli v2010 c512_i32_1889
  let c384_i32_1890 : BitVec 32 := 384#32
  let v2012 : BitVec 32 := Scalar.addi v2011 c384_i32_1890
  let c0_i32_1899 : BitVec 32 := 0#32
  ![v2012.toNat, 0]
def k0_off100 (d0 : Dev nD) : Fin 2 → Nat :=
  let c3_i32_1911 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1901 : BitVec 32 := 1#32
  let v2024 : BitVec 32 := Scalar.subi v8 c1_i32_1901
  let c2_i32_1902 : BitVec 32 := 2#32
  let v2025 : BitVec 32 := Scalar.subi v2024 c2_i32_1902
  ![3, v2025.toNat]
def k0_dev68 (d0 : Dev nD) : Nat :=
  let c0_i32_1913 : BitVec 32 := 0#32
  let c1_i32_1909 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1909 v2
  let c16_i32_1912 : BitVec 32 := 16#32
  let v2035 : BitVec 32 := Scalar.muli v2034 c16_i32_1912
  let v2036 : BitVec 32 := Scalar.addi c0_i32_1913 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1914 : BitVec 32 := 4#32
  let v2037 : BitVec 32 := Scalar.muli v5 c4_i32_1914
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v2039 : BitVec 32 := Scalar.muli v8 c1_i32_1915
  let v2040 : BitVec 32 := Scalar.addi v2038 v2039
  v2040.toNat
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1362 : BitVec 32 := 0#32
  let v1525 : BitVec 1 := Scalar.cmpi .sle v8 c0_i32_1362
  let v1526 : BitVec 32 := Scalar.extui v1525
  let c0_i32_1363 : BitVec 32 := 0#32
  let v1527 : BitVec 1 := Scalar.cmpi .ne v1526 c0_i32_1363
  v1527

def k0_off101 (d0 : Dev nD) : Fin 2 → Nat :=
  let c4_i32_1888 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2009 : BitVec 32 := Scalar.muli c4_i32_1888 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1883 : BitVec 32 := 1#32
  let v2003 : BitVec 32 := Scalar.addi v8 c1_i32_1883
  let c2_i32_1884 : BitVec 32 := 2#32
  let v2004 : BitVec 32 := Scalar.addi v2003 c2_i32_1884
  let v2010 : BitVec 32 := Scalar.addi v2009 v2004
  let c512_i32_1889 : BitVec 32 := 512#32
  let v2011 : BitVec 32 := Scalar.muli v2010 c512_i32_1889
  let c384_i32_1890 : BitVec 32 := 384#32
  let v2012 : BitVec 32 := Scalar.addi v2011 c384_i32_1890
  let c0_i32_1900 : BitVec 32 := 0#32
  ![v2012.toNat, 0]
def k0_off102 (d0 : Dev nD) : Fin 2 → Nat :=
  let c3_i32_1912 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1902 : BitVec 32 := 1#32
  let v2024 : BitVec 32 := Scalar.addi v8 c1_i32_1902
  let c2_i32_1903 : BitVec 32 := 2#32
  let v2025 : BitVec 32 := Scalar.addi v2024 c2_i32_1903
  ![3, v2025.toNat]
def k0_dev69 (d0 : Dev nD) : Nat :=
  let c0_i32_1914 : BitVec 32 := 0#32
  let c1_i32_1910 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2034 : BitVec 32 := Scalar.subi c1_i32_1910 v2
  let c16_i32_1913 : BitVec 32 := 16#32
  let v2035 : BitVec 32 := Scalar.muli v2034 c16_i32_1913
  let v2036 : BitVec 32 := Scalar.addi c0_i32_1914 v2035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1915 : BitVec 32 := 4#32
  let v2037 : BitVec 32 := Scalar.muli v5 c4_i32_1915
  let v2038 : BitVec 32 := Scalar.addi v2036 v2037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1916 : BitVec 32 := 1#32
  let v2039 : BitVec 32 := Scalar.muli v8 c1_i32_1916
  let v2040 : BitVec 32 := Scalar.addi v2038 v2039
  v2040.toNat
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1364 : BitVec 32 := 3#32
  let v1528 : BitVec 1 := Scalar.cmpi .slt v8 c3_i32_1364
  let c2_i32_1365 : BitVec 32 := 2#32
  let v1529 : BitVec 1 := Scalar.cmpi .sge v8 c2_i32_1365
  let v1530 : BitVec 1 := Scalar.andi v1528 v1529
  let v1531 : BitVec 32 := Scalar.extui v1530
  let c0_i32_1366 : BitVec 32 := 0#32
  let v1532 : BitVec 1 := Scalar.cmpi .ne v1531 c0_i32_1366
  v1532

def k0_off103 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.subi v8 c2_i32_1883
  let v2005 : BitVec 32 := Scalar.addi v2004 v2003
  let c512_i32_1885 : BitVec 32 := 512#32
  let v2006 : BitVec 32 := Scalar.muli v2005 c512_i32_1885
  let c384_i32_1886 : BitVec 32 := 384#32
  let v2007 : BitVec 32 := Scalar.addi v2006 c384_i32_1886
  let c0_i32_1896 : BitVec 32 := 0#32
  ![v2007.toNat, 0]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1367 : BitVec 32 := 0#32
  let v1533 : BitVec 1 := Scalar.cmpi .sgt v8 c0_i32_1367
  let c2_i32_1368 : BitVec 32 := 2#32
  let v1534 : BitVec 32 := Scalar.addi v8 c2_i32_1368
  let c3_i32_1369 : BitVec 32 := 3#32
  let v1535 : BitVec 1 := Scalar.cmpi .sle v1534 c3_i32_1369
  let v1536 : BitVec 1 := Scalar.andi v1533 v1535
  let v1537 : BitVec 32 := Scalar.extui v1536
  let c0_i32_1370 : BitVec 32 := 0#32
  let v1538 : BitVec 1 := Scalar.cmpi .ne v1537 c0_i32_1370
  v1538

def k0_off104 (d0 : Dev nD) : Fin 2 → Nat :=
  let c4_i32_1884 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2004 : BitVec 32 := Scalar.muli c4_i32_1884 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1883 : BitVec 32 := 2#32
  let v2003 : BitVec 32 := Scalar.addi v8 c2_i32_1883
  let v2005 : BitVec 32 := Scalar.addi v2004 v2003
  let c512_i32_1885 : BitVec 32 := 512#32
  let v2006 : BitVec 32 := Scalar.muli v2005 c512_i32_1885
  let c384_i32_1886 : BitVec 32 := 384#32
  let v2007 : BitVec 32 := Scalar.addi v2006 c384_i32_1886
  let c0_i32_1895 : BitVec 32 := 0#32
  ![v2007.toNat, 0]
def k0_off105 (d0 : Dev nD) (c0_i32_1373 : BitVec 32) (c0_i32_1375 : BitVec 32) : Fin 2 → Nat :=
  let c4_i32_1372 : BitVec 32 := 4#32
  let c1_i32_1371 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1539 : BitVec 32 := Scalar.subi c1_i32_1371 v2
  let v1540 : BitVec 32 := Scalar.muli c4_i32_1372 v1539
  let v1541 : BitVec 32 := Scalar.addi v1540 c0_i32_1373
  let c512_i32_1374 : BitVec 32 := 512#32
  let v1542 : BitVec 32 := Scalar.muli v1541 c512_i32_1374
  let v1543 : BitVec 32 := Scalar.addi v1542 c0_i32_1375
  let c0_i32_1385 : BitVec 32 := 0#32
  ![v1543.toNat, 0]
def k0_off106 (d0 : Dev nD) (c0_i32_1388 : BitVec 32) (c0_i32_1390 : BitVec 32) : Fin 2 → Nat :=
  let c4_i32_1387 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1555 : BitVec 32 := Scalar.muli c4_i32_1387 v2
  let v1556 : BitVec 32 := Scalar.addi v1555 c0_i32_1388
  let c512_i32_1389 : BitVec 32 := 512#32
  let v1557 : BitVec 32 := Scalar.muli v1556 c512_i32_1389
  let v1558 : BitVec 32 := Scalar.addi v1557 c0_i32_1390
  let c0_i32_1401 : BitVec 32 := 0#32
  ![v1558.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.BaseKernelIdeal.lean ====
/-
# The mesh, the cells, the regions and the contents of the reduce-scatter

The kernel runs on 32 devices, numbered 16 x + 4 y + z on a mesh of 2 x 4 x 4. This module names what the rest of the
proof talks about: the neighbours of a device, the kernel's semaphores, the regions of the three buffers and of the
argument, and what each region holds when it has been filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The mesh -/

/-- A device's coordinate on the axis `z`. -/
abbrev zc (c : Dev nD) : Fin 4 := ⟨c.val % 4, by omega⟩
/-- A device's coordinate on the axis `y`. -/
abbrev yc (c : Dev nD) : Fin 4 := ⟨c.val / 4 % 4, by omega⟩

set_option backward.proofsInPublic true in
/-- The device of coordinates `x`, `y`, `z`. -/
def dv (x y z : ℕ) : Dev nD := ⟨16 * (x % 2) + 4 * (y % 4) + z % 4, by show _ < 32; omega⟩

/-- The next device on the ring over `y`. -/
def right (c : Dev nD) : Dev nD := dv (c.val / 16) (c.val / 4 % 4 + 1) (c.val % 4)
/-- The device before on the ring over `y`. -/
def left (c : Dev nD) : Dev nD := dv (c.val / 16) (c.val / 4 % 4 + 3) (c.val % 4)
/-- The device of the other `x`. -/
def xp (c : Dev nD) : Dev nD := dv (c.val / 16 + 1) (c.val / 4 % 4) (c.val % 4)
/-- The device of the next `z`, cyclically (used where `z < 3`). -/
def up (c : Dev nD) : Dev nD := dv (c.val / 16) (c.val / 4 % 4) (c.val % 4 + 1)
/-- The device of the `z` before, cyclically (used where `0 < z`). -/
def dn (c : Dev nD) : Dev nD := dv (c.val / 16) (c.val / 4 % 4) (c.val % 4 + 3)

/-- The device before the next one on the ring is the device itself. -/
theorem left_right (c : Dev nD) : left (right c) = c := by revert c; decide +kernel
/-- The device after the one before on the ring is the device itself. -/
theorem right_left (c : Dev nD) : right (left c) = c := by revert c; decide +kernel
/-- The partner over `x` of the partner is the device itself. -/
theorem xp_xp (c : Dev nD) : xp (xp c) = c := by revert c; decide +kernel
/-- One place up after one place down is the device itself (cyclically). -/
theorem up_dn (c : Dev nD) : up (dn c) = c := by revert c; decide +kernel
/-- One place down after one place up is the device itself (cyclically). -/
theorem dn_up (c : Dev nD) : dn (up c) = c := by revert c; decide +kernel

/-! ## Which pieces go where

The result of a column `y` is cut in 32 pieces of 128 rows: piece 16 x + 4 z + k is summed on device `(x, y, z)`. -/

/-- The piece `k` of origin `o` on the half of device `c`. -/
def pc (c : Dev nD) (o k : Fin 4) : Fin 32 := ⟨16 * (c.val / 16) + 4 * o.val + k.val, by have := c.isLt; have : nD = 32 := rfl; omega⟩
/-- The chunk of columns device `c` adds in at step `s` of the ring. -/
def ch (c : Dev nD) (s : Fin 4) : Fin 4 := ⟨(c.val / 4 % 4 + 3 - s.val + 4) % 4, by omega⟩

/-- The origin `t` places below `z`, cyclically, -/
def oE (c : Dev nD) (t : Fin 4) : Fin 4 := ⟨(c.val % 4 + 4 - t.val) % 4, by omega⟩
/-- and the origin `t` places above. -/
def oW (c : Dev nD) (t : Fin 4) : Fin 4 := ⟨(c.val % 4 + t.val) % 4, by omega⟩
/-- There is an origin `t` places below `z`, -/
def aE (c : Dev nD) (t : Fin 4) : Bool := decide (t.val ≤ c.val % 4)
/-- and above. -/
def aW (c : Dev nD) (t : Fin 4) : Bool := decide (c.val % 4 + t.val ≤ 3)
/-- Device `c` passes on the piece from `t` below to the next `z`, -/
def sE (c : Dev nD) (t : Fin 3) : Bool := decide (c.val % 4 < 3) && aE c t.castSucc
/-- and the piece from `t` above to the `z` before. -/
def sW (c : Dev nD) (t : Fin 3) : Bool := decide (0 < c.val % 4) && aW c t.castSucc

/-! ## The kernel's semaphores -/

/-- The names of the transfer semaphores: the pipeline's own, and the kernel's nine arrays. -/
inductive CK
  | st
  | cp (k : Fin 4)
  | ps (k : Fin 4) (s : Fin 3) | pr (k : Fin 4) (s : Fin 3)
  | es (k : Fin 4) (t : Fin 3) | er (k : Fin 4) (t : Fin 3)
  | ws (k : Fin 4) (t : Fin 3) | wr (k : Fin 4) (t : Fin 3)
  | xs (k : Fin 4) (o : Fin 4) | xr (k : Fin 4) (o : Fin 4)
  deriving DecidableEq

set_option backward.proofsInPublic true in
/-- Where each name lies in the pool. -/
def ix : CK → DmaSem sig
  | .st => (⟨0, by decide⟩ : Fin 109)
  | .cp k => (⟨1 + k.val, by omega⟩ : Fin 109)
  | .ps k s => (⟨5 + 3 * k.val + s.val, by omega⟩ : Fin 109)
  | .pr k s => (⟨17 + 3 * k.val + s.val, by omega⟩ : Fin 109)
  | .es k t => (⟨29 + 3 * k.val + t.val, by omega⟩ : Fin 109)
  | .er k t => (⟨41 + 3 * k.val + t.val, by omega⟩ : Fin 109)
  | .ws k t => (⟨53 + 3 * k.val + t.val, by omega⟩ : Fin 109)
  | .wr k t => (⟨65 + 3 * k.val + t.val, by omega⟩ : Fin 109)
  | .xs k o => (⟨77 + 4 * k.val + o.val, by omega⟩ : Fin 109)
  | .xr k o => (⟨93 + 4 * k.val + o.val, by omega⟩ : Fin 109)

/-- A number below four. -/
abbrev f4 (n : ℕ) : Fin 4 := ⟨n % 4, Nat.mod_lt _ (by decide)⟩
/-- A number below three. -/
abbrev f3 (n : ℕ) : Fin 3 := ⟨n % 3, Nat.mod_lt _ (by decide)⟩

/-- The name of each semaphore of the pool. -/
def dec (i : ℕ) : CK :=
  if i < 1 then .st else if i < 5 then .cp (f4 (i - 1))
  else if i < 17 then .ps (f4 ((i - 5) / 3)) (f3 (i - 5)) else if i < 29 then .pr (f4 ((i - 17) / 3)) (f3 (i - 17))
  else if i < 41 then .es (f4 ((i - 29) / 3)) (f3 (i - 29)) else if i < 53 then .er (f4 ((i - 41) / 3)) (f3 (i - 41))
  else if i < 65 then .ws (f4 ((i - 53) / 3)) (f3 (i - 53)) else if i < 77 then .wr (f4 ((i - 65) / 3)) (f3 (i - 65))
  else if i < 93 then .xs (f4 ((i - 77) / 4)) (f4 (i - 77)) else .xr (f4 ((i - 93) / 4)) (f4 (i - 93))

/-- The name of the cell with a name's number is that name. -/
theorem dec_ix (q : CK) : dec (ix q).val = q := by
  cases q with
  | st => rfl
  | cp k => revert k; decide +kernel
  | ps k s => revert k s; decide +kernel
  | pr k s => revert k s; decide +kernel
  | es k s => revert k s; decide +kernel
  | er k s => revert k s; decide +kernel
  | ws k s => revert k s; decide +kernel
  | wr k s => revert k s; decide +kernel
  | xs k s => revert k s; decide +kernel
  | xr k s => revert k s; decide +kernel

/-- The number of a number's name is that number. -/
theorem ix_dec : ∀ i : DmaSem sig, ix (dec i.val) = i := by
  show ∀ i : Fin 109, ix (dec i.val) = i
  decide +kernel

/-- Names with the same number are the same. -/
theorem ix_inj {q q' : CK} (h : ix q = ix q') : q = q' := by rw [← dec_ix q, h, dec_ix]

/-- The runtime's barrier semaphore. -/
abbrev barS : Sem sig := (SemArray.scalar (sig.barrier 0 rfl) : Sems sig S_).sem
/-- A device's barrier cell. -/
abbrev barCell (c : Dev nD) : GSem nD τ sig := ((c : Thread nD τ), .reg barS)
/-- A device's cell of a name. -/
abbrev cl (c : Dev nD) (q : CK) : GSem nD τ sig := ((c : Thread nD τ), .dma (ix q))

/-! ## The regions -/

/-- A slot of the landing buffer lies inside it. -/
theorem cM_inb (k : Fin 4) (s : Fin 3) : ∀ a, (![k.val, s.val, 0, 0] : Fin 4 → ℕ) a + S1x1x128x1024.size a ≤ S4x3x128x1024.size a := by
  revert k s; decide +kernel
/-- A slot of the staging buffer lies inside it. -/
theorem sM_inb (k : Fin 4) : ∀ a, (![k.val, 0, 0] : Fin 3 → ℕ) a + S1x128x1024.size a ≤ S4x128x1024.size a := by
  revert k; decide +kernel
/-- A piece of the result lies inside it. -/
theorem oM_inb (n : Fin 32) : ∀ a, (![128 * n.val, 0] : Fin 2 → ℕ) a + S128x1024.size a ≤ S4096x1024.size a := by
  revert n; decide +kernel
/-- A block of the argument lies inside it. -/
theorem aM_inb (n : Fin 32) (j : Fin 4) : ∀ a, (![0, 128 * n.val, 1024 * j.val] : Fin 3 → ℕ) a + S1x128x1024.size a ≤ S1x4096x4096.size a := by
  revert n j; decide +kernel

/-- Slot `(k, s)` of the landing buffer. -/
abbrev cM (k : Fin 4) (s : Fin 3) : Memref sig .tc .vmem S128x1024 .f32 :=
  ((Memref.whole cc0_scratch0 : Memref sig .tc .vmem S4x3x128x1024 .f32).slice
    (Rect.unit (s := S4x3x128x1024) ![k.val, s.val, 0, 0] S1x1x128x1024.size (cM_inb k s)) (fun _ => rfl)).squeeze S128x1024 squeezes_S1x1x128x1024_S128x1024
/-- Slot `k` of the stage. -/
abbrev sM (k : Fin 4) : Memref sig .tc .vmem S128x1024 .f32 :=
  ((Memref.whole cc0_scratch1 : Memref sig .tc .vmem S4x128x1024 .f32).slice
    (Rect.unit (s := S4x128x1024) ![k.val, 0, 0] S1x128x1024.size (sM_inb k)) (fun _ => rfl)).squeeze S128x1024 squeezes_S1x128x1024_S128x1024
/-- Piece `n` of the result. -/
abbrev oM (n : Fin 32) : Memref sig .tc .vmem S128x1024 .f32 :=
  (Memref.whole cc0_stg0_0 : Memref sig .tc .vmem S4096x1024 .f32).slice
    (Rect.unit (s := S4096x1024) ![128 * n.val, 0] S128x1024.size (oM_inb n)) (fun _ => rfl)
/-- Rows of piece `n`, columns of chunk `j`, of the argument. -/
abbrev aM (n : Fin 32) (j : Fin 4) : Memref sig .tc .hbm S128x1024 .f32 :=
  ((Memref.whole main_arg0 : Memref sig .tc .hbm S1x4096x4096 .f32).slice
    (Rect.unit (s := S1x4096x4096) ![0, 128 * n.val, 1024 * j.val] S1x128x1024.size (aM_inb n j)) (fun _ => rfl)).squeeze S128x1024 squeezes_S1x128x1024_S128x1024

/-- What every transfer of the kernel counts. -/
abbrev N : ℕ := 16384
/-- A copy of a slot of the landing buffer counts `N`. -/
theorem N_cM (k : Fin 4) (s : Fin 3) : (cM k s).view.dmaCredit = N := by
  revert k s; decide +kernel
/-- A copy of a slot of the staging buffer counts `N`. -/
theorem N_sM (k : Fin 4) : (sM k).view.dmaCredit = N := by
  revert k; decide +kernel
/-- A copy of a piece of the result counts `N`. -/
theorem N_oM (n : Fin 32) : (oM n).view.dmaCredit = N := by
  revert n; decide +kernel
/-- A copy of a block of the argument counts `N`. -/
theorem N_aM (n : Fin 32) (j : Fin 4) : (aM n j).view.dmaCredit = N := by
  revert n j; decide +kernel

end Cert.KernelIdeal.Rs
-- ==== Proof.SchedKernelIdeal.lean ====
/-
# The schedule of the transfers

What each region holds when it is handed over, which cells are paid in which round and with what, what is owed and in
which order the waits may be met; then the three ways the kernel touches a cell, each once for all cells: a local copy,
a transfer to another device, a wait.
-/
module

public import proofs.«01_k».proof.Proof.BaseKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The ghost state of the schedule's cells: five duties at most in a round. -/
abbrev UB := URounds (GSem nD τ sig) (Fin 5)
/-- The ghost state: the pipeline's beside the schedule's. -/
abbrev UU := UR sig nD τ × UB

variable {F : FTy → Type} [FloatOps F]

local notation "𝕄" => MT nD τ sig Unit (Elt F) ℕ UU ℕ

/-- The pipeline's part of the ghost state. -/
abbrev EP : Emb (UR sig nD τ) (MT nD τ sig Unit (Elt F) ℕ UU ℕ) := embL
/-- The schedule's part of the ghost state. -/
abbrev ER : Emb UB (MT nD τ sig Unit (Elt F) ℕ UU ℕ) := embR

variable (m : (ℓ : Loc nD τ sig) → Buf (Elt F) ℓ)

/-! ## Contents -/

/-- Contents of one region. -/
abbrev Blk (F : FTy → Type) [FloatOps F] : Type := FVec F S128x1024 .f32

/-- The piece a device sums for sub-strip `k`. -/
abbrev nc (c : Dev nD) (k : Fin 4) : Fin 32 := pc c (zc c) k

/-- Rows of piece `n`, columns of chunk `j`, of device `c`'s argument. -/
def A (c : Dev nD) (n : Fin 32) (j : Fin 4) : Blk F := (aM n j).view.read (Elt F) (m ((c : Thread nD τ).loc main_arg0))

/-- What has arrived on device `c` for sub-strip `k` at step `s` of the ring: the sum of `s + 1` blocks. -/
def P (c : Dev nD) (k : Fin 4) : ℕ → Blk F
  | 0 => A m (left c) (nc (left c) k) (ch (left c) 0)
  | s + 1 => addf (P (left c) k s) (A m (left c) (nc (left c) k) (ch (left c) (f4 (s + 1))))

/-- What has arrived with the device's own block added. -/
def U (c : Dev nD) (k : Fin 4) (s : ℕ) : Blk F := addf (P m c k s) (A m c (nc c k) (ch c (f4 (s + 1))))

/-- Piece `n` of column `y` of the result. -/
def rv (y : Fin 4) (n : Fin 32) : Blk F := U m (dv (n.val / 16) y.val (n.val / 4 % 4)) (f4 n.val) 2

/-- What arrives first on the next device is this device's first block. -/
theorem P_right_zero (c : Dev nD) (k : Fin 4) : P m (right c) k 0 = A m c (nc c k) (ch c 0) := by
  show A m (left (right c)) (nc (left (right c)) k) (ch (left (right c)) 0) = _; rw [left_right]
/-- What arrives later on the next device is what this device had after adding its block. -/
theorem P_right_succ (c : Dev nD) (k : Fin 4) (s : ℕ) : P m (right c) k (s + 1) = U m c k s := by
  show addf (P m (left (right c)) k s) (A m (left (right c)) _ _) = _; rw [left_right]; rfl
/-- The piece that a device finishes is what it has after its third addition. -/
theorem rv_own (c : Dev nD) (k : Fin 4) : rv m (yc c) (nc c k) = U m c k 2 := by
  have h1 : ∀ (c : Dev nD) (k : Fin 4), dv ((nc c k).val / 16) (yc c).val ((nc c k).val / 4 % 4) = c := by decide +kernel
  have h2 : ∀ (c : Dev nD) (k : Fin 4), f4 (nc c k).val = k := by decide +kernel
  unfold rv; rw [h1, h2]

/-! ## What is handed over -/

/-- Device `c` holds a region with contents `v`, -/
abbrev hold (c : Dev nD) {sp : Space} (M : Memref sig .tc sp S128x1024 .f32) (q : PosShare TreeShare) (v : Blk F) : sProp 𝕄 :=
  owns (Ix := Unit) (Name := ℕ) (U := UU) (Lvl := ℕ) (Val := Elt F) (c : Thread nD τ) M q v
/-- and with any contents. -/
def any (c : Dev nD) {sp : Space} (M : Memref sig .tc sp S128x1024 .f32) : sProp 𝕄 := iprop(∃ v : Blk F, hold c M fullShare v)

/-- A region held with some contents may be handed over. -/
instance any_storable (c : Dev nD) {sp : Space} (M : Memref sig .tc sp S128x1024 .f32) :
    BI.Storable (upEmb : UEmb _ 𝕄) (any (F := F) c M) := by unfold any; infer_instance

/-- A region whose buffer reads as `v` there is held at `v`. -/
theorem hold_intro (c : Dev nD) {sp : Space} (M : Memref sig .tc sp S128x1024 .f32) (q : PosShare TreeShare) (v : Blk F)
    (f : Buf (Elt F) (M.view.loc (c : Thread nD τ))) (h : M.view.read (Elt F) f = v) :
    (M.view.loc (c : Thread nD τ) ↦[M.view.set]{q} f) ⊢ hold c M q v := by
  subst h; exact owns_intro (c : Thread nD τ) M q f

/-- The shares of a piece of the result: for the transfer across `x`, for the one to the next `z`, for the one to the `z` before. -/
abbrev qX : PosShare TreeShare := fullShare.left
/-- The part of a piece that the copy upwards takes, -/
abbrev qE : PosShare TreeShare := fullShare.right.left
/-- and the part that the copy downwards takes. -/
abbrev qW : PosShare TreeShare := fullShare.right.right

/-- The source of step `s` of the ring: the argument's block at step 0, then the sum so far. -/
def hopSrc (c : Dev nD) (k : Fin 4) (s : Fin 3) : sProp 𝕄 := match s with
  | 0 => hold c (aM (nc c k) (ch c 0)) fullShare (A m c (nc c k) (ch c 0))
  | 1 => hold c (cM k 0) fullShare (U m c k 0)
  | 2 => hold c (cM k 1) fullShare (U m c k 1)

/-- What the cell of each name delivers in round `r`. -/
def pay (c : Dev nD) (q : CK) (r : ℕ) : sProp 𝕄 := match q with
  | .st => iprop(emp)
  | .cp k => iprop(hold c (aM (nc c k) (ch c (f4 (r + 1)))) fullShare (A m c (nc c k) (ch c (f4 (r + 1))))
      ∗ hold c (sM k) fullShare (A m c (nc c k) (ch c (f4 (r + 1)))))
  | .ps k s => hopSrc m c k s
  | .pr k s => hold c (cM k s) fullShare (P m c k s.val)
  | .es k t => hold c (oM (pc c (oE c t.castSucc) k)) qE (rv m (yc c) (pc c (oE c t.castSucc) k))
  | .er k t => hold c (oM (pc c (oE c t.succ) k)) fullShare (rv m (yc c) (pc c (oE c t.succ) k))
  | .ws k t => hold c (oM (pc c (oW c t.castSucc) k)) qW (rv m (yc c) (pc c (oW c t.castSucc) k))
  | .wr k t => hold c (oM (pc c (oW c t.succ) k)) fullShare (rv m (yc c) (pc c (oW c t.succ) k))
  | .xs k o => hold c (oM (pc c o k)) qX (rv m (yc c) (pc c o k))
  | .xr k o => hold c (oM (pc (xp c) o k)) fullShare (rv m (yc c) (pc (xp c) o k))

/-- Whether a cell is used in round `r`. -/
def act (c : Dev nD) (q : CK) (r : ℕ) : Bool := match q with
  | .st => false
  | .cp _ => decide (r < 3)
  | .es _ t => decide (r = 0) && sE c t
  | .er _ t => decide (r = 0) && aE c t.succ
  | .ws _ t => decide (r = 0) && sW c t
  | .wr _ t => decide (r = 0) && aW c t.succ
  | _ => decide (r = 0)

/-- The regions a barrier signal hands over, a sub-strip at a time: the landing slots of the next on the ring; -/
def hDst (c : Dev nD) (k : Fin 4) : sProp 𝕄 := bigSep Finset.univ fun s : Fin 3 => any (F := F) (right c) (cM k s)
/-- the pieces that device `c` fills on the device of the other `x`; -/
def xDst (c : Dev nD) (k : Fin 4) : sProp 𝕄 := bigSep Finset.univ fun o : Fin 4 => any (F := F) (xp c) (oM (pc c o k))
/-- those it fills on the next `z`; -/
def eDst (c : Dev nD) (k : Fin 4) : sProp 𝕄 :=
  bigSep Finset.univ fun t : Fin 3 => if sE c t then any (F := F) (up c) (oM (pc c (oE c t.castSucc) k)) else iprop(emp)
/-- those it fills on the `z` before. -/
def wDst (c : Dev nD) (k : Fin 4) : sProp 𝕄 :=
  bigSep Finset.univ fun t : Fin 3 => if sW c t then any (F := F) (dn c) (oM (pc c (oW c t.castSucc) k)) else iprop(emp)

/-- What the duties of a barrier cell deliver. -/
def barPay (c : Dev nD) (b : Fin 5) : sProp 𝕄 := match b with
  | 0 => bigSep Finset.univ fun k : Fin 4 => hDst (F := F) c k
  | 1 => iprop(emp)
  | 2 => bigSep Finset.univ fun k : Fin 4 => xDst (F := F) c k
  | 3 => bigSep Finset.univ fun k : Fin 4 => wDst (F := F) c k
  | 4 => bigSep Finset.univ fun k : Fin 4 => eDst (F := F) c k

/-- The duties of a barrier cell: the two neighbours on the ring, the device of the other `x`, the neighbours along `z` where
    they exist. -/
def barDuties (c : Dev nD) : Finset (Fin 5) :=
  Finset.univ.filter fun b => b.val < 3 ∨ (b.val = 3 ∧ 0 < c.val % 4) ∨ (b.val = 4 ∧ c.val % 4 < 3)

/-- What may be handed over may be handed over under a condition. -/
instance ite_storable (b : Bool) (X : sProp 𝕄) [BI.Storable (upEmb : UEmb _ 𝕄) X] :
    BI.Storable (upEmb : UEmb _ 𝕄) (if b then X else iprop(emp)) := by split <;> infer_instance
/-- The source of a step of the ring may be handed over. -/
instance hopSrc_storable (c : Dev nD) (k : Fin 4) (s : Fin 3) : BI.Storable (upEmb : UEmb _ 𝕄) (hopSrc m c k s) := by
  unfold hopSrc; fin_cases s <;> infer_instance
/-- What a duty pays may be handed over. -/
instance pay_storable (c : Dev nD) (q : CK) (r : ℕ) : BI.Storable (upEmb : UEmb _ 𝕄) (pay m c q r) := by
  unfold pay; cases q <;> infer_instance
/-- The landing slots for the ring may be handed over, -/
instance hDst_storable (c : Dev nD) (k : Fin 4) : BI.Storable (upEmb : UEmb _ 𝕄) (hDst (F := F) c k) := by unfold hDst; infer_instance
/-- so may the pieces that the partner over `x` fills, -/
instance xDst_storable (c : Dev nD) (k : Fin 4) : BI.Storable (upEmb : UEmb _ 𝕄) (xDst (F := F) c k) := by unfold xDst; infer_instance
/-- those that come from below, -/
instance eDst_storable (c : Dev nD) (k : Fin 4) : BI.Storable (upEmb : UEmb _ 𝕄) (eDst (F := F) c k) := by unfold eDst; infer_instance
/-- and those that come from above. -/
instance wDst_storable (c : Dev nD) (k : Fin 4) : BI.Storable (upEmb : UEmb _ 𝕄) (wDst (F := F) c k) := by unfold wDst; infer_instance
/-- What a signal on the barrier gives may be handed over. -/
instance barPay_storable (c : Dev nD) (b : Fin 5) : BI.Storable (upEmb : UEmb _ 𝕄) (barPay (F := F) c b) := by
  unfold barPay; fin_cases b <;> infer_instance

/-- The schedule: a barrier cell's round 0 has its duties of one unit each; a transfer cell in use has one duty, of a region's count. -/
def Rd : Rounds.Schedule (GSem nD τ sig) (Fin 5) 𝕄 where
  duties g r := match g.2 with
    | .reg _ => if r = 0 then barDuties g.1.1 else ∅
    | .dma i => if act g.1.1 (dec i.val) r then {0} else ∅
  unitless _ := False
  amount g _ _ := match g.2 with | .reg _ => 1 | .dma _ => N
  payload g r d := match g.2 with
    | .reg _ => barPay g.1.1 d
    | .dma i => pay m g.1.1 (dec i.val) r
  amount_pos g _ _ _ := by
    rcases g with ⟨t, _ | _⟩
    · exact Nat.one_pos
    · show 0 < N; decide

/-- Every payload of the schedule may be handed over. -/
instance Rd_payload_storable (g : GSem nD τ sig) (r : ℕ) (d : Fin 5) :
    BI.Storable (upEmb : UEmb _ 𝕄) ((Rd (F := F) m).payload g r d) := by
  rcases g with ⟨t, _ | _⟩
  · exact barPay_storable _ _
  · exact pay_storable m _ _ _

/-- A copy's cell has one duty in an active round and none in another. -/
theorem duties_cl (c : Dev nD) (q : CK) (r : ℕ) : (Rd m).duties (cl c q) r = if act c q r then {0} else ∅ := by
  show (if act c (dec (ix q).val) r then ({0} : Finset (Fin 5)) else ∅) = _; rw [dec_ix]
/-- What a copy's cell pays is what its name says. -/
theorem payload_cl (c : Dev nD) (q : CK) (r : ℕ) (d : Fin 5) : (Rd m).payload (cl c q) r d = pay m c q r := by
  show pay m c (dec (ix q).val) r = _; rw [dec_ix]
/-- Every duty at a copy's cell is `N`. -/
theorem amount_cl (c : Dev nD) (q : CK) (r : ℕ) (d : Fin 5) : (Rd m).amount (cl c q) r d = N := rfl
/-- An active round of a copy's cell expects `N`. -/
theorem expect_cl (c : Dev nD) (q : CK) (r : ℕ) (h : act c q r = true) : (Rd m).expect (cl c q) r = N := by
  unfold Schedule.expect Schedule.amountOf; rw [duties_cl, if_pos h, Finset.sum_singleton, amount_cl]
/-- All the payloads of an active round are its one payload. -/
theorem rest_cl (c : Dev nD) (q : CK) (r : ℕ) (h : act c q r = true) :
    bigSep ((Rd m).duties (cl c q) r \ ∅) (fun d => (Rd m).payload (cl c q) r d) = pay m c q r := by
  rw [Finset.sdiff_empty, duties_cl, if_pos h, bigSep_singleton, payload_cl]
/-- The one duty of an active round is one of its duties. -/
theorem mem_cl (c : Dev nD) (q : CK) (r : ℕ) (h : act c q r = true) : (0 : Fin 5) ∈ (Rd m).duties (cl c q) r := by
  rw [duties_cl, if_pos h]; exact Finset.mem_singleton_self _

/-- The barrier's duties are a device's neighbours. -/
theorem duties_bar (c : Dev nD) : (Rd m).duties (barCell c) 0 = barDuties c := rfl
/-- The barrier expects one from each neighbour. -/
theorem expect_bar (c : Dev nD) : (Rd m).expect (barCell c) 0 = (barDuties c).card := by
  unfold Schedule.expect Schedule.amountOf; rw [duties_bar]
  show (∑ d ∈ barDuties c, 1) = _; rw [Finset.sum_const, smul_eq_mul, Nat.mul_one]

/-! ## What is owed, the levels -/

/-- The classes of promises at a cell: one on a TensorCore, none elsewhere. -/
def L (g : GSem nD τ sig) : Finset Unit := if g.1.2 = .tc then {()} else ∅
/-- No promise is made at cells of other cores. -/
theorem L_of_ne (g : GSem nD τ sig) (h : g.1.2 ≠ .tc) : L g = ∅ := if_neg h
/-- One class of promises at a TensorCore's cells. -/
theorem L_tc (c : Dev nD) (sm : SemLoc sig) : L ((c : Thread nD τ), sm) = {()} := if_pos rfl

/-- The level of each name: the arrivals of the ring first, then those along `z`, then those across `x`. -/
def lvq : CK → ℕ
  | .pr k s => 10 * (3 * k.val + s.val) + 12
  | .er k t | .wr k t => 10 * (3 * k.val + t.val) + 41
  | .xr _ _ => 1000
  | _ => 0
/-- The level of a cell: a wait is allowed below all that is still owed. -/
def lv (g : GSem nD τ sig) (_ : Unit) : ℕ := match g.2 with | .reg _ => 1 | .dma i => lvq (dec i.val)

/-- The level of a copy's cell is the level of its name. -/
theorem lv_cl (c : Dev nD) (q : CK) : lv (cl c q) () = lvq q := by show lvq (dec (ix q).val) = _; rw [dec_ix]

/-- Every cell a device owes to is above level `b`. -/
def Above (b : ℕ) (O : CellTallies nD τ sig Unit) : Prop := ∀ g u, 0 < O g u → g.1.2 = .tc ∧ b < lv g u

/-- Nothing owed lies above every level. -/
theorem Above.zero (b : ℕ) : Above b 0 := fun g u h => absurd h (Nat.lt_irrefl 0)
/-- What lies above a level in two parts lies above it together. -/
theorem Above.add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0
/-- One promise lies above a level if its cell does. -/
theorem Above.tally {b : ℕ} (c : Dev nD) (sm : SemLoc sig) (n : ℕ) (hb : b < lv ((c : Thread nD τ), sm) ()) :
    Above b (tallyAt ((c : Thread nD τ), sm) () n) := fun g u hg => by
  rw [tallyAt_apply] at hg
  by_cases h : g = ((c : Thread nD τ), sm) ∧ u = ()
  · rw [h.1]; exact ⟨rfl, hb⟩
  · rw [if_neg h] at hg; exact absurd hg (Nat.lt_irrefl 0)

/-- A device may wait on a cell below all it owes to. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- A wait at a copy's cell is allowed if all that is owed lies above it. -/
theorem mayWait_cl (c : Dev nD) (q : CK) (O : CellTallies nD τ sig Unit) (h : Above (lvq q) O) :
    (levAts L lv : sProp 𝕄) ⊢ MayWait (c : Thread nD τ) (.dma (ix q)) () O :=
  mayWait c (.dma (ix q)) O (lv_cl c q ▸ h)

/-! ## The cells' records -/

/-- The kernel's cells on device `c`: index 0 is the barrier's, the others are the transfer semaphores'. -/
def kcell (ci : Dev nD × Fin 109) : GSem nD τ sig := if ci.2 = 0 then barCell ci.1 else ((ci.1 : Thread nD τ), .dma ci.2)

/-- The first of a device's cells is its barrier's. -/
theorem kcell_zero (c : Dev nD) : kcell (c, 0) = barCell c := rfl
/-- The others are the copies' cells. -/
theorem kcell_ix (c : Dev nD) (q : CK) (h : q ≠ .st) : kcell (c, ix q) = cl c q := by
  unfold kcell; rw [if_neg]; intro h'; exact h (ix_inj (q' := .st) h')

/-- The names the cells' invariants were allocated at. -/
abbrev Names := Dev nD × Fin 109 → ℕ

variable (K : Names)

/-- What every device knows: each cell's invariant, that its round 0 is open, and the levels. -/
def Rec : sProp 𝕄 :=
  iprop((bigSep Finset.univ fun ci : Dev nD × Fin 109 => iprop(cellInv ER (Rd m) (K ci) (kcell ci) ∗ reached ER (kcell ci) 0)) ∗ levAts L lv)

/-- The invariants are shared by all devices. -/
instance Rec_persistent : BI.Persistent (Rec m K) := by unfold Rec; infer_instance

/-- The invariant and the first round of any cell. -/
theorem Rec_at (ci : Dev nD × Fin 109) : Rec m K ⊢ iprop(cellInv ER (Rd m) (K ci) (kcell ci) ∗ reached ER (kcell ci) 0) :=
  (show Rec m K ⊢ _ from sep_elim_left).trans (bigSep_elim (Finset.mem_univ ci))

/-- The invariant of a copy's cell. -/
theorem Rec_inv (c : Dev nD) (q : CK) (h : q ≠ .st) : Rec m K ⊢ cellInv ER (Rd m) (K (c, ix q)) (cl c q) := by
  rw [← kcell_ix c q h]; exact (Rec_at m K _).trans sep_elim_left
/-- A copy's cell has reached its first round. -/
theorem Rec_reached (c : Dev nD) (q : CK) (h : q ≠ .st) : Rec m K ⊢ reached ER (cl c q) 0 := by
  rw [← kcell_ix c q h]; exact (Rec_at m K _).trans sep_elim_right
/-- The levels are known. -/
theorem Rec_lev : Rec m K ⊢ levAts L lv := sep_elim_right

set_option maxRecDepth 65536 in
/-- With the invariants at hand, a wait is allowed if all that is owed lies above it. -/
theorem Rec_mayWait (c : Dev nD) (q : CK) (O : CellTallies nD τ sig Unit) (h : Above (lvq q) O) :
    Rec m K ⊢ MayWait (c : Thread nD τ) (.dma (ix q)) () O := (Rec_lev m K).trans (mayWait_cl c q O h)

/-! ## The three uses of a cell -/

/-- No loop variants. -/
abbrev 𝒱₀ : Variants := Variants.none
/-- Running a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The right to pay a cell's round `r`. -/
abbrev tok (c : Dev nD) (q : CK) (r : ℕ) : sProp 𝕄 := dutyTok (ER (F := F)) (cl c q) r (0 : Fin 5)
/-- The owner's place at a cell: round `r` is next. -/
abbrev pos (c : Dev nD) (q : CK) (r : ℕ) : sProp 𝕄 := atPos (ER (F := F)) (cl c q) r ∅ 0
/-- That round `r` of a cell is open. -/
abbrev opn (c : Dev nD) (q : CK) (r : ℕ) : sProp 𝕄 := reached (ER (F := F)) (cl c q) r
/-- A cell's promised count. -/
abbrev crd (c : Dev nD) (q : CK) : sProp 𝕄 := cred (tallyAt (cl c q) () N)

/-- A wait on a cell in use, met for what its round delivers. -/
theorem wait_cell {c : Dev nD} {q : CK} {r : ℕ} (ha : act c q r = true) (hq : q ≠ .st) {O : CellTallies nD τ sig Unit} (hO : Above (lvq q) O)
    {sp sp' : Space} {s s' : Shape} {e e' : EltTy} {sem : DmaSem sig} (hs : sem = ix q)
    {src : Memref sig .tc sp' s' e'} {dst : Memref sig .tc sp s e} {hsrc : src.view.WordExact} {hdst : dst.view.WordExact}
    (hN : dst.view.dmaCredit = N) {α : Type} {Q : α → sProp 𝕄} {k : PUnit → Prog (TpuEff nD τ sig (Elt F) Λ₀ .tc) α} :
    iprop(Rec m K ∗ (∃ W, owes (c : Thread nD τ) O W) ∗ pos c q r ∗ crd c q)
      ⊢ iprop(((∃ W, owes (c : Thread nD τ) O W) ∗ pos c q (r + 1) ∗ opn c q (r + 1) ∗ pay m c q r -∗ run c (k ⟨⟩) Q)
          -∗ run c (.op (.waitDma2 sem src dst hsrc hdst) k) Q) := by
  subst hs
  iintro ⟨#HR, ⟨%W, HO⟩, Hat, Hc⟩ Hk
  iapply (Rounds.wp_wait_rest_token 𝒱₀ ER (Rd m) (c : Thread nD τ) none (κ := K (c, ix q))
      (wpE_waitDma2_eq 𝒱₀ (c : Thread nD τ) none Set.univ) (Set.mem_univ _) () (O := O) (W := W) (R := r) (m := 0) (T := ∅)
      (by rw [Nat.zero_add, hN]; exact (expect_cl m c q r ha).symm)) $$ [HO Hat Hc]
  · isplitr; · iapply (Rec_inv m K c q hq) $$ HR
    rw [hN]
    isplitl [Hc]; · iexact Hc
    isplitl [HO]; · iexact HO
    isplitr
    · iapply (Rec_mayWait m K c q O hO) $$ HR
    iexact Hat
  iintro ⟨HO, Hat, Hop, Hpay⟩
  ihave Hp := (Entails.of_eq (rest_cl m c q r ha)) $$ Hpay
  iapply Hk
  isplitl [HO]; · iexists _; iexact HO
  isplitl [Hat]; · iexact Hat
  isplitl [Hop]; · iexact Hop
  iexact Hp

/-- A local copy of a region held into one held, paying a cell in use whose round delivers both. -/
theorem copy_cell {c : Dev nD} {q : CK} {r : ℕ} (ha : act c q r = true) (hq : q ≠ .st)
    {sp sp' : Space} {sem : DmaSem sig} (hs : sem = ix q) {X Y : Memref sig .tc sp S128x1024 .f32} {X' Y' : Memref sig .tc sp' S128x1024 .f32}
    (hX : X = Y) (hX' : X' = Y') {hsrc : X.view.WordExact} {hdst : X'.view.WordExact}
    {hsem : DmaTarget.Typed (nD := nD) (τ := τ) sp (.dma sem) (.here (p := Proc.tc) X')} (hN : X'.view.dmaCredit = N) {qs : PosShare TreeShare} {v : Blk F}
    (hp : iprop(hold c Y qs v ∗ hold c Y' fullShare v) ⊢ pay m c q r)
    {α : Type} {Q : α → sProp 𝕄} {k : PUnit → Prog (TpuEff nD τ sig (Elt F) Λ₀ .tc) α} :
    iprop(Rec m K ∗ opn c q r ∗ tok c q r ∗ hold c Y qs v ∗ any c Y')
      ⊢ iprop((crd c q -∗ run c (k ⟨⟩) Q) -∗ run c (.op (.enqueueDma X (.here X') (.dma sem) hsrc hdst hsem) k) Q) := by
  subst hs; subst hX; subst hX'
  unfold any hold owns
  iintro ⟨#HR, #Hop, Ht, ⟨%f, %hf, Hs⟩, ⟨%v', %g, %hg, Hd⟩⟩ Hk
  iapply (Rounds.wp_copy_pointsTo 𝒱₀ ER (Rd m) (c : Thread nD τ) none (κ := K (c, ix q)) (r := r) (d := (0 : Fin 5)) (q := qs) (fs := f) (fd := g)
      (mem_cl m c q r ha) () N (by exact hN) (amount_cl m c q r 0)
      (by
        rw [payload_cl]
        exact ((sep_comm (PROP := sProp 𝕄)).1.trans (BI.sep_mono (hold_intro c X qs v f hf)
          (hold_intro c X' fullShare v _ ((View.read_write_univ _ _).trans hf)))).trans hp)) $$ [Ht Hs Hd]
  · isplitr; · iapply (Rec_inv m K c q hq) $$ HR
    isplitl [Hs]; · iexact Hs
    isplitl [Hd]; · iexact Hd
    isplitl [Ht]; · iexact Ht
    iexact Hop
  iexact Hk

/-- A transfer of a region held into one held on another device, paying a cell of each: the sender's delivers the source
    back, the receiver's the destination filled. -/
theorem send_cell {c c' : Dev nD} {qs qr : CK} (has : act c qs 0 = true) (har : act c' qr 0 = true) (hqs : qs ≠ .st) (hqr : qr ≠ .st)
    {sp sp' : Space} {sS sR : DmaSem sig} (hS : sS = ix qs) (hR : sR = ix qr) {d : Dev nD} (hd : d = c')
    {X Y : Memref sig .tc sp S128x1024 .f32} {X' Y' : Memref sig .tc sp' S128x1024 .f32} (hX : X = Y) (hX' : X' = Y')
    {hsc : X'.view.ref.isScScratch = false} {hsrc : X.view.WordExact} {hdst : X'.view.WordExact}
    {hsem : DmaTarget.Typed sp (.dma sR) (.remote (Dev.tc d : Thread nD τ) X' (.dma sS) hsc)} (hN : X'.view.dmaCredit = N)
    {q : PosShare TreeShare} {v : Blk F} (hp : hold c Y q v ⊢ pay m c qs 0) (hp' : hold c' Y' fullShare v ⊢ pay m c' qr 0)
    {O₀ : CellTallies nD τ sig Unit} (O : CellTallies nD τ sig Unit) (hO : O₀ = O + tallyAt (cl c' qr) () N)
    {α : Type} {Q : α → sProp 𝕄} {k : PUnit → Prog (TpuEff nD τ sig (Elt F) Λ₀ .tc) α} :
    iprop(Rec m K ∗ (∃ W, owes (c : Thread nD τ) O₀ W) ∗ tok c qs 0 ∗ tok c' qr 0 ∗ hold c Y q v ∗ any c' Y')
      ⊢ iprop(((∃ W, owes (c : Thread nD τ) O W) ∗ crd c qs -∗ run c (k ⟨⟩) Q)
          -∗ run c (.op (.enqueueDma X (.remote (Dev.tc d : Thread nD τ) X' (.dma sS) hsc) (.dma sR) hsrc hdst hsem) k) Q) := by
  subst hS; subst hR; subst hX; subst hX'; subst hd
  unfold any hold owns
  iintro ⟨#HR, ⟨%W, HO⟩, Ht, Ht', ⟨%f, %hf, Hs⟩, ⟨%v', %g, %hg, Hd⟩⟩ Hk
  iapply (Rounds.wp_send_pointsTo 𝒱₀ ER (Rd m) (c : Thread nD τ) none (κ₁ := K (c, ix qs)) (κ₂ := K (d, ix qr))
      (r₁ := 0) (r₂ := 0) (d₁ := (0 : Fin 5)) (d₂ := (0 : Fin 5)) (q := q) (fs := f) (fd := g)
      (mem_cl m c qs 0 has) (mem_cl m d qr 0 har) () () N (by exact hN) (amount_cl m c qs 0 0) (amount_cl m d qr 0 0) O hO (W := W)
      (by rw [payload_cl]; exact (hold_intro c X q v f hf).trans hp)
      (by rw [payload_cl]; exact (hold_intro d X' fullShare v _ ((View.read_write_univ _ _).trans hf)).trans hp')) $$ [HO Ht Ht' Hs Hd]
  · isplitr; · iapply (Rec_inv m K c qs hqs) $$ HR
    isplitr; · iapply (Rec_inv m K d qr hqr) $$ HR
    isplitl [Hs]; · iexact Hs
    isplitl [Hd]; · iexact Hd
    isplitl [HO]; · iexact HO
    isplitl [Ht]; · iexact Ht
    isplitr; · iapply (Rec_reached m K c qs hqs) $$ HR
    isplitl [Ht']; · iexact Ht'
    iapply (Rec_reached m K d qr hqr) $$ HR
  iintro ⟨Hc, HO⟩
  iapply Hk
  isplitl [HO]; · iexists _; iexact HO
  iexact Hc

end Cert.KernelIdeal.Rs
-- ==== Proof.StepsKernelIdeal.lean ====
/-
# The steps of a sub-strip, and the walk along the program

Each of the four sub-strips goes through the same list of steps. `need` says what a step takes and `give` what it leaves;
a sub-strip's claim `Th` is what its remaining steps need. The program interleaves the four lists (`prog`); `GS c l` is
what device `c` holds when the steps `l` are left, and each operation of the program takes `GS` from one list to its tail.
-/
module

public import proofs.«01_k».proof.Proof.SchedKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names)

/-! ## The steps -/

/-- The steps of a sub-strip: the hop's start `Hs` and its waits `HwS`, `HwR`; the stage's start `Ss` and wait `Sw`; the loads
    and stores; the piece's own transfer across `x` (`Xo`); along `z`, the transfers `Es`, `Ws`, their waits `Ew`, `Ww`, and the
    arrivals with their transfer across `x`, `ERX`, `WRX`; at the end the waits `XRw`, `XSw`. -/
inductive Stp
  | Hs (s : Fin 3) | Ss (s : Fin 3) | HwS (s : Fin 3) | HwR (s : Fin 3) | Sw (s : Fin 3)
  | LdC (s : Fin 3) | LdS (s : Fin 3) | StC (s : Fin 3) | LdO | StO | Xo
  | Es (t : Fin 3) | Ws (t : Fin 3) | ERX (t : Fin 3) | WRX (t : Fin 3) | Ew (t : Fin 3) | Ww (t : Fin 3)
  | XRw (o : Fin 4) | XSw (o : Fin 4)
  deriving DecidableEq

/-- `X` where `b` holds. -/
def opt (b : Bool) (X : sProp 𝕄) : sProp 𝕄 := if b then X else iprop(emp)
/-- A condition that holds leaves what it guards. -/
theorem opt_true (X : sProp 𝕄) : opt true X = X := rfl
/-- A condition that fails leaves nothing. -/
theorem opt_false (X : sProp 𝕄) : opt false X = iprop(emp) := rfl

/-- A piece of the result held at a share. -/
abbrev piece (c : Dev nD) (n : Fin 32) (q : PosShare TreeShare) : sProp 𝕄 := hold c (oM n) q (rv m (yc c) n)

/-- The block added in at step `s` of the ring. -/
abbrev blkA (c : Dev nD) (k : Fin 4) (s : Fin 3) : Blk F := A m c (nc c k) (ch c (f4 (s.val + 1)))

/-- The share of the piece from `t` below that its transfer to the next `z` uses, where there is such a piece; -/
def eP (c : Dev nD) (k t : Fin 4) : sProp 𝕄 := opt (aE c t) (piece m c (pc c (oE c t) k) qE)
/-- of the piece from `t` above, to the `z` before. -/
def wP (c : Dev nD) (k t : Fin 4) : sProp 𝕄 := opt (aW c t) (piece m c (pc c (oW c t) k) qW)
/-- The same while the transfer is under way: its promised count instead, if there is a transfer. -/
def eM (c : Dev nD) (k : Fin 4) (t : Fin 3) : sProp 𝕄 := if sE c t then crd c (.es k t) else eP m c k t.castSucc
/-- The share of a piece while it is on its way downwards. -/
def wM (c : Dev nD) (k : Fin 4) (t : Fin 3) : sProp 𝕄 := if sW c t then crd c (.ws k t) else wP m c k t.castSucc

/-- What a transfer across `x` of the piece of origin `o` uses besides the piece. -/
def xKit (c : Dev nD) (k o : Fin 4) : sProp 𝕄 :=
  iprop(tok c (.xs k o) 0 ∗ tok (xp c) (.xr k o) 0 ∗ any (F := F) (xp c) (oM (pc c o k)))

/-- The owner's last place at a cell of one round. -/
def fin (c : Dev nD) (q : CK) : sProp 𝕄 := if act c q 0 then pos c q 1 else pos c q 0

/-- What each step needs. -/
def need (c : Dev nD) (k : Fin 4) : Stp → sProp 𝕄
  | .Hs s => iprop(tok c (.ps k s) 0 ∗ tok (right c) (.pr k s) 0 ∗ hopSrc m c k s ∗ any (F := F) (right c) (cM k s))
  | .Ss s => iprop(opn c (.cp k) s.val ∗ tok c (.cp k) s.val ∗ hold c (aM (nc c k) (ch c (f4 (s.val + 1)))) fullShare (blkA m c k s) ∗ any (F := F) c (sM k))
  | .HwS s => iprop(pos c (.ps k s) 0 ∗ crd c (.ps k s))
  | .HwR s => iprop(pos c (.pr k s) 0 ∗ crd c (.pr k s))
  | .Sw s => iprop(pos c (.cp k) s.val ∗ crd c (.cp k))
  | .LdC s => hold c (cM k s) fullShare (P m c k s.val)
  | .LdS s => hold c (sM k) fullShare (blkA m c k s)
  | .StC s => hold c (cM k s) fullShare (P m c k s.val)
  | .LdO => any (F := F) c (oM (nc c k))
  | .StO => any (F := F) c (oM (nc c k))
  | .Xo => iprop(xKit c k (zc c) ∗ piece m c (nc c k) qX)
  | .Es t => iprop(tok c (.es k t) 0 ∗ tok (up c) (.er k t) 0 ∗ opt (sE c t) (any (F := F) (up c) (oM (pc c (oE c t.castSucc) k))) ∗ eP m c k t.castSucc)
  | .Ws t => iprop(tok c (.ws k t) 0 ∗ tok (dn c) (.wr k t) 0 ∗ opt (sW c t) (any (F := F) (dn c) (oM (pc c (oW c t.castSucc) k))) ∗ wP m c k t.castSucc)
  | .ERX t => iprop(pos c (.er k t) 0 ∗ opt (aE c t.succ) iprop(crd c (.er k t) ∗ xKit c k (oE c t.succ)))
  | .WRX t => iprop(pos c (.wr k t) 0 ∗ opt (aW c t.succ) iprop(crd c (.wr k t) ∗ xKit c k (oW c t.succ)))
  | .Ew t => iprop(pos c (.es k t) 0 ∗ eM m c k t)
  | .Ww t => iprop(pos c (.ws k t) 0 ∗ wM m c k t)
  | .XRw o => iprop(pos c (.xr k o) 0 ∗ crd c (.xr k o))
  | .XSw o => iprop(pos c (.xs k o) 0 ∗ crd c (.xs k o))

/-- What each step leaves. -/
def give (c : Dev nD) (k : Fin 4) : Stp → sProp 𝕄
  | .Hs s => crd c (.ps k s)
  | .Ss s => crd c (.cp k)
  | .HwS s => iprop(pos c (.ps k s) 1 ∗ hopSrc m c k s)
  | .HwR s => iprop(pos c (.pr k s) 1 ∗ hold c (cM k s) fullShare (P m c k s.val))
  | .Sw s => iprop(pos c (.cp k) (s.val + 1) ∗ opn c (.cp k) (s.val + 1)
      ∗ hold c (aM (nc c k) (ch c (f4 (s.val + 1)))) fullShare (blkA m c k s) ∗ hold c (sM k) fullShare (blkA m c k s))
  | .LdC s => hold c (cM k s) fullShare (P m c k s.val)
  | .LdS s => hold c (sM k) fullShare (blkA m c k s)
  | .StC s => hold c (cM k s) fullShare (U m c k s.val)
  | .LdO => any (F := F) c (oM (nc c k))
  | .StO => piece m c (nc c k) fullShare
  | .Xo => crd c (.xs k (zc c))
  | .Es t => eM m c k t
  | .Ws t => wM m c k t
  | .ERX t => iprop(fin c (.er k t) ∗ eP m c k t.succ ∗ opt (aE c t.succ) iprop(crd c (.xs k (oE c t.succ)) ∗ piece m c (pc c (oE c t.succ) k) qW))
  | .WRX t => iprop(fin c (.wr k t) ∗ wP m c k t.succ ∗ opt (aW c t.succ) iprop(crd c (.xs k (oW c t.succ)) ∗ piece m c (pc c (oW c t.succ) k) qE))
  | .Ew t => iprop(fin c (.es k t) ∗ eP m c k t.castSucc)
  | .Ww t => iprop(fin c (.ws k t) ∗ wP m c k t.castSucc)
  | .XRw o => iprop(pos c (.xr k o) 1 ∗ piece m c (pc (xp c) o k) fullShare)
  | .XSw o => iprop(pos c (.xs k o) 1 ∗ piece m c (pc c o k) qX)

/-- What is owed for a step to come. -/
def due (c : Dev nD) (k : Fin 4) : Stp → CellTallies nD τ sig Unit
  | .Hs s => tallyAt (cl (right c) (.pr k s)) () N
  | .Xo => tallyAt (cl (xp c) (.xr k (zc c))) () N
  | .Es t => if sE c t then tallyAt (cl (up c) (.er k t)) () N else 0
  | .Ws t => if sW c t then tallyAt (cl (dn c) (.wr k t)) () N else 0
  | .ERX t => if aE c t.succ then tallyAt (cl (xp c) (.xr k (oE c t.succ))) () N else 0
  | .WRX t => if aW c t.succ then tallyAt (cl (xp c) (.xr k (oW c t.succ))) () N else 0
  | _ => 0

/-- A level no step's debt lies below. -/
def lvS (k : Fin 4) : Stp → ℕ
  | .Hs s => 10 * (3 * k.val + s.val) + 12
  | .Es t | .Ws t => 10 * (3 * k.val + t.val) + 41
  | .Xo | .ERX _ | .WRX _ => 1000
  | _ => 2000

/-- What is owed for the steps left. -/
def owed (c : Dev nD) : List (Fin 4 × Stp) → CellTallies nD τ sig Unit
  | [] => 0
  | p :: l => owed c l + due c p.1 p.2
/-- All the steps left owe above level `b`. -/
def okL (b : ℕ) (l : List (Fin 4 × Stp)) : Bool := l.all fun p => decide (b < lvS p.1 p.2)

/-- What a step pays lies above a level if the step's level does. -/
theorem due_above (c : Dev nD) (k : Fin 4) (s : Stp) (b : ℕ) (h : b < lvS k s) : Above b (due c k s) := by
  have hc : ∀ (d : Dev nD) (q : CK), b < lvq q → Above b (tallyAt (cl d q) () N) := fun d q hq =>
    Above.tally d (.dma (ix q)) N (by rw [lv_cl]; exact hq)
  cases s <;> first
    | exact Above.zero b
    | exact hc _ _ h
    | (simp only [due]; split
       · exact hc _ _ h
       · exact Above.zero b)

/-- What a list of steps pays lies above a level if the list's steps do. -/
theorem owed_above (c : Dev nD) (b : ℕ) (l : List (Fin 4 × Stp)) (h : okL b l = true) : Above b (owed c l) := by
  induction l with
  | nil => exact Above.zero b
  | cons p l ih =>
    unfold okL at h; rw [List.all_cons, Bool.and_eq_true] at h
    exact (ih h.2).add (due_above c p.1 p.2 b (of_decide_eq_true h.1))

/-! ## What is held while steps are left -/

/-- A sub-strip with steps left: what each of them needs, once what the ones before leave is given. `Z` is what the sub-strip
    ends with. -/
def Th (Z : Fin 4 → sProp 𝕄) (c : Dev nD) (k : Fin 4) : List Stp → sProp 𝕄
  | [] => Z k
  | s :: l => iprop(need m c k s ∗ (give m c k s -∗ Th Z c k l))

/-- The steps of one sub-strip. -/
def sub (k : Fin 4) : List (Fin 4 × Stp) → List Stp
  | [] => []
  | p :: l => if p.1 = k then p.2 :: sub k l else sub k l

variable (Z : Fin 4 → sProp (MT nD τ sig Unit (Elt F) ℕ UU ℕ))

/-- What device `c` holds when the steps `l` are left. -/
def GS (c : Dev nD) (l : List (Fin 4 × Stp)) : sProp 𝕄 :=
  iprop(Rec m K ∗ (∃ W, owes (c : Thread nD τ) (owed c l) W) ∗ (bigSep Finset.univ fun k : Fin 4 => Th m Z c k (sub k l)))

omit [FloatOps F] in
/-- One of the sub-strips taken out. -/
theorem bigSep_at {I : Type} [Fintype I] [DecidableEq I] (i : I) {Φ : I → sProp 𝕄} :
    bigSep Finset.univ Φ = iprop(Φ i ∗ bigSep (Finset.univ.erase i) Φ) := bigSep_univ_split i

/-- What is held before a list of steps gives what its first step needs. -/
theorem GS_take (c : Dev nD) (k : Fin 4) (s : Stp) (l : List (Fin 4 × Stp)) :
    GS m K Z c ((k, s) :: l) ⊢ iprop(Rec m K ∗ ((∃ W, owes (c : Thread nD τ) (owed c l + due c k s) W) ∗ need m c k s
      ∗ ((∃ W, owes (c : Thread nD τ) (owed c l) W) ∗ give m c k s -∗ GS m K Z c l))) := by
  unfold GS
  rw [bigSep_at k (Φ := fun k' : Fin 4 => Th m Z c k' (sub k' ((k, s) :: l))),
    bigSep_at k (Φ := fun k' : Fin 4 => Th m Z c k' (sub k' l)),
    bigSep_congr (s := Finset.univ.erase k) (Φ := fun k' : Fin 4 => Th m Z c k' (sub k' ((k, s) :: l))) (Ψ := fun k' : Fin 4 => Th m Z c k' (sub k' l))
      (fun k' hk' => by
        have : k ≠ k' := fun h => (Finset.mem_erase.mp hk').1 h.symm
        simp only [sub, if_neg this])]
  simp only [sub, if_true, Th, owed]
  iintro ⟨#HR, HO, ⟨Hn, Hg⟩, Hr⟩
  isplitr; · iexact HR
  isplitl [HO]; · iexact HO
  isplitl [Hn]; · iexact Hn
  iintro ⟨HO, Hv⟩
  isplitr; · iexact HR
  isplitl [HO]; · iexact HO
  isplitr [Hr]
  · iapply Hg $$ Hv
  · iexact Hr

/-- One operation: a step's triple with what the other steps are owed framed. -/
theorem gs_step {c : Dev nD} {k : Fin 4} {s : Stp} {l : List (Fin 4 × Stp)} {X Y : sProp 𝕄}
    (h : iprop(Rec m K ∗ (∃ W, owes (c : Thread nD τ) (owed c l + due c k s) W) ∗ need m c k s)
      ⊢ iprop(((∃ W, owes (c : Thread nD τ) (owed c l) W) ∗ give m c k s -∗ X) -∗ Y))
    (hK : GS m K Z c l ⊢ X) : GS m K Z c ((k, s) :: l) ⊢ Y := by
  refine (GS_take m K Z c k s l).trans ?_
  iintro ⟨#HR, HO, Hn, Hc⟩
  iapply h $$ [HO Hn]
  · isplitr; · iexact HR
    isplitl [HO]; · iexact HO
    iexact Hn
  iintro H
  iapply hK
  iapply Hc $$ H

end Cert.KernelIdeal.Rs
-- ==== Proof.OpsKernelIdeal.lean ====
/-
# One operation of the program at a time

Each theorem here takes `GS` past one operation, for every sub-strip and step: the program's semaphores, devices and
regions are given by equations, the continuation by what it needs.
-/
module

public import proofs.«01_k».proof.Proof.StepsKernelIdeal
public import Idealize.ShloMosaic.Lib.StableHlo.CollectiveRules
public import Idealize.ShloMosaic.Lib.Pipeline.Value

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names) (Z : Fin 4 → sProp (MT nD τ sig Unit (Elt F) ℕ UU ℕ))

/-! ## Running a program -/

/-- A sequence runs if its first part runs and leaves what the rest needs. -/
theorem run_bind {c : Dev nD} {α β : Type} {p : Prog (TpuEff nD τ sig (Elt F) Λ₀ .tc) α} {f : α → Prog (TpuEff nD τ sig (Elt F) Λ₀ .tc) β} {Q : β → sProp 𝕄}
    {X : sProp 𝕄} (h : X ⊢ run c p (fun a => run c (f a) Q)) : X ⊢ run c (p >>= f) Q := by
  unfold run; rw [wp_bind]; exact h

/-- A program that only returns leaves what it had. -/
theorem run_ret {c : Dev nD} {α : Type} {a : α} {Q : α → sProp 𝕄} {X : sProp 𝕄} (h : X ⊢ Q a) :
    X ⊢ run c (.ret a) Q := by
  unfold run; rw [wp_ret]; exact h.trans fupd_intro

/-- A choice both of whose sides are met. -/
theorem run_dite {c : Dev nD} {α : Type} {p : Prop} {i : Decidable p} {T : p → Prog (TpuEff nD τ sig (Elt F) Λ₀ .tc) α} {E : ¬p → Prog (TpuEff nD τ sig (Elt F) Λ₀ .tc) α}
    {Q : α → sProp 𝕄} {X : sProp 𝕄} {b : Bool} (hp : p ↔ b = true) (hT : ∀ h, b = true → X ⊢ run c (T h) Q) (hE : ∀ h, b = false → X ⊢ run c (E h) Q) :
    X ⊢ run c (@dite _ p i T E) Q := by
  by_cases h : p
  · rw [dif_pos h]; exact hT h (hp.mp h)
  · rw [dif_neg h]; exact hE h (by rw [← Bool.not_eq_true]; exact fun h' => h (hp.mpr h'))

/-! ## Waits -/

/-- The place at a cell past its active round, -/
theorem fin_act {c : Dev nD} {q : CK} (h : act c q 0 = true) : (fin (F := F) c q) = pos c q 1 := by unfold fin; rw [if_pos h]
/-- and the place at a cell that has none. -/
theorem fin_not {c : Dev nD} {q : CK} (h : act c q 0 = false) : (fin (F := F) c q) = pos c q 0 := by unfold fin; rw [if_neg (by rw [h]; decide)]

section W

variable {c : Dev nD} {k : Fin 4} {l : List (Fin 4 × Stp)} {Q : PUnit → sProp (MT nD τ sig Unit (Elt F) ℕ UU ℕ)}
  {sp sp' : Space} {sh sh' : Shape} {e e' : EltTy} {sem : DmaSem sig}
  {src : Memref sig .tc sp' sh' e'} {dst : Memref sig .tc sp sh e} {hsrc : src.view.WordExact} {hdst : dst.view.WordExact}

/-- A wait: it needs the place and the promise at the cell and gives what the cell was paid. -/
theorem gs_wait {s : Stp} (q : CK) (r : ℕ) (hn : need m c k s ⊢ iprop(pos c q r ∗ crd c q))
    (hg : iprop(pos c q (r + 1) ∗ opn c q (r + 1) ∗ pay m c q r) ⊢ give m c k s) (hd : due c k s = 0) (ha : act c q r = true) (hq : q ≠ .st)
    (hl : okL (lvq q) l = true) (hs : sem = ix q) (hN : dst.view.dmaCredit = N) (hK : GS m K Z c l ⊢ Q ⟨⟩) :
    GS m K Z c ((k, s) :: l) ⊢ run c (Prog.lift (.waitDma2 sem src dst hsrc hdst)) Q := by
  refine gs_step m K Z (X := run c (.ret ⟨⟩) Q) ?_ (run_ret hK)
  rw [hd, add_zero]
  iintro ⟨#HR, HO, Hn⟩ Hk
  ihave Hn := hn $$ Hn
  icases Hn with ⟨Hat, Hc⟩
  iapply (wait_cell m K ha hq (owed_above c _ l hl) hs hN) $$ [HO Hat Hc]
  · isplitr; · iexact HR
    isplitl [HO]; · iexact HO
    isplitl [Hat]; · iexact Hat
    iexact Hc
  iintro ⟨HO, Hp⟩
  iapply Hk
  isplitl [HO]; · iexact HO
  iapply hg $$ Hp

/-- A middle part may be dropped. -/
theorem drop_opn {A B C : sProp 𝕄} : iprop(A ∗ B ∗ C) ⊢ iprop(A ∗ C) := sep_mono_right sep_elim_right

/-- The wait for a step of the ring to have left. -/
theorem gs_HwS {s : Fin 3} (hl : okL 0 l = true) (hs : sem = ix (.ps k s)) (hN : dst.view.dmaCredit = N) (hK : GS m K Z c l ⊢ Q ⟨⟩) :
    GS m K Z c ((k, .HwS s) :: l) ⊢ run c (Prog.lift (.waitDma2 sem src dst hsrc hdst)) Q :=
  gs_wait m K Z (.ps k s) 0 .rfl drop_opn rfl rfl (by simp) hl hs hN hK
/-- The wait for a step of the ring to have arrived. -/
theorem gs_HwR {s : Fin 3} (hl : okL (lvq (.pr k s)) l = true) (hs : sem = ix (.pr k s)) (hN : dst.view.dmaCredit = N) (hK : GS m K Z c l ⊢ Q ⟨⟩) :
    GS m K Z c ((k, .HwR s) :: l) ⊢ run c (Prog.lift (.waitDma2 sem src dst hsrc hdst)) Q :=
  gs_wait m K Z (.pr k s) 0 .rfl drop_opn rfl rfl (by simp) hl hs hN hK
/-- The wait for a staged block. -/
theorem gs_Sw {s : Fin 3} (hl : okL 0 l = true) (hs : sem = ix (.cp k)) (hN : dst.view.dmaCredit = N) (hK : GS m K Z c l ⊢ Q ⟨⟩) :
    GS m K Z c ((k, .Sw s) :: l) ⊢ run c (Prog.lift (.waitDma2 sem src dst hsrc hdst)) Q :=
  gs_wait m K Z (.cp k) s.val .rfl .rfl rfl (decide_eq_true s.isLt) (by simp) hl hs hN hK
/-- The wait for a piece from the partner over `x`. -/
theorem gs_XRw {o : Fin 4} (hl : okL 1000 l = true) (hs : sem = ix (.xr k o)) (hN : dst.view.dmaCredit = N) (hK : GS m K Z c l ⊢ Q ⟨⟩) :
    GS m K Z c ((k, .XRw o) :: l) ⊢ run c (Prog.lift (.waitDma2 sem src dst hsrc hdst)) Q :=
  gs_wait m K Z (.xr k o) 0 .rfl drop_opn rfl rfl (by simp) hl hs hN hK
/-- The wait for a piece to the partner over `x` to have left. -/
theorem gs_XSw {o : Fin 4} (hl : okL 0 l = true) (hs : sem = ix (.xs k o)) (hN : dst.view.dmaCredit = N) (hK : GS m K Z c l ⊢ Q ⟨⟩) :
    GS m K Z c ((k, .XSw o) :: l) ⊢ run c (Prog.lift (.waitDma2 sem src dst hsrc hdst)) Q :=
  gs_wait m K Z (.xs k o) 0 .rfl drop_opn rfl rfl (by simp) hl hs hN hK

end W

/-! ## The stage's copies and the hops -/

section C

variable {c : Dev nD} {k : Fin 4} {l : List (Fin 4 × Stp)} {Q : PUnit → sProp (MT nD τ sig Unit (Elt F) ℕ UU ℕ)}

/-- The copy that stages a block. -/
theorem gs_Ss {s : Fin 3} {sem : DmaSem sig} (hs : sem = ix (.cp k)) {X : Memref sig .tc .hbm S128x1024 .f32} {X' : Memref sig .tc .vmem S128x1024 .f32}
    (hX : X = aM (nc c k) (ch c (f4 (s.val + 1)))) (hX' : X' = sM k) {hsrc : X.view.WordExact} {hdst : X'.view.WordExact}
    {hsem : DmaTarget.Typed (nD := nD) (τ := τ) .hbm (.dma sem) (.here (p := Proc.tc) X')} (hK : GS m K Z c l ⊢ Q ⟨⟩) :
    GS m K Z c ((k, .Ss s) :: l) ⊢ run c (Prog.lift (.enqueueDma X (.here X') (.dma sem) hsrc hdst hsem)) Q := by
  refine gs_step m K Z (X := run c (.ret ⟨⟩) Q) ?_ (run_ret hK)
  unfold need give
  iintro ⟨#HR, HO, Hop, Ht, Hs, Hd⟩ Hk
  iapply (copy_cell m K (c := c) (q := .cp k) (r := s.val) (decide_eq_true s.isLt) (by simp) hs hX hX'
    (by rw [hX']; exact N_sM k) (qs := fullShare) (v := blkA m c k s) .rfl) $$ [Hop Ht Hs Hd]
  · isplitr; · iexact HR
    isplitl [Hop]; · iexact Hop
    isplitl [Ht]; · iexact Ht
    isplitl [Hs]; · iexact Hs
    iexact Hd
  iintro Hc
  iapply Hk
  isplitl [HO]; · simp only [due, add_zero]; iexact HO
  iexact Hc

variable {sp : Space} {sS sR : DmaSem sig} {d : Dev nD}
  {X : Memref sig .tc sp S128x1024 .f32} {X' : Memref sig .tc .vmem S128x1024 .f32}
  {hsc : X'.view.ref.isScScratch = false} {hsrc : X.view.WordExact} {hdst : X'.view.WordExact}
  {hsem : DmaTarget.Typed sp (.dma sR) (.remote (Dev.tc d : Thread nD τ) X' (.dma sS) hsc)}

/-- A step of the ring, from any source. -/
theorem gs_H {s : Fin 3} {Y : Memref sig .tc sp S128x1024 .f32} {v : Blk F} (hY : hopSrc m c k s = hold c Y fullShare v) (hv : P m (right c) k s.val = v)
    (hS : sS = ix (.ps k s)) (hR : sR = ix (.pr k s)) (hd : d = right c) (hX : X = Y) (hX' : X' = cM k s) (hK : GS m K Z c l ⊢ Q ⟨⟩) :
    GS m K Z c ((k, .Hs s) :: l) ⊢ run c (Prog.lift (.enqueueDma X (.remote (Dev.tc d : Thread nD τ) X' (.dma sS) hsc) (.dma sR) hsrc hdst hsem)) Q := by
  refine gs_step m K Z (X := run c (.ret ⟨⟩) Q) ?_ (run_ret hK)
  unfold need give
  iintro ⟨#HR, HO, Ht, Ht', Hs, Hd⟩ Hk
  ihave Hs := (Entails.of_eq hY) $$ Hs
  iapply (send_cell m K (c := c) (c' := right c) (qs := .ps k s) (qr := .pr k s) rfl rfl (by simp) (by simp) hS hR hd hX hX'
    (by rw [hX']; exact N_cM k s) (q := fullShare) (v := v) (Entails.of_eq hY.symm) (by subst hv; exact .rfl) (owed c l) rfl) $$ [HO Ht Ht' Hs Hd]
  · isplitr; · iexact HR
    isplitl [HO]; · iexact HO
    isplitl [Ht]; · iexact Ht
    isplitl [Ht']; · iexact Ht'
    isplitl [Hs]; · iexact Hs
    iexact Hd
  iexact Hk

end C

section H

variable {c : Dev nD} {k : Fin 4} {l : List (Fin 4 × Stp)} {Q : PUnit → sProp (MT nD τ sig Unit (Elt F) ℕ UU ℕ)}
  {sS sR : DmaSem sig} {d : Dev nD} {X' : Memref sig .tc .vmem S128x1024 .f32}
  {hsc : X'.view.ref.isScScratch = false} {hdst : X'.view.WordExact}

/-- The first step of the ring, from the argument. -/
theorem gs_H0 {X : Memref sig .tc .hbm S128x1024 .f32} {hsrc : X.view.WordExact}
    {hsem : DmaTarget.Typed .hbm (.dma sR) (.remote (Dev.tc d : Thread nD τ) X' (.dma sS) hsc)}
    (hS : sS = ix (.ps k 0)) (hR : sR = ix (.pr k 0)) (hd : d = right c) (hX : X = aM (nc c k) (ch c 0)) (hX' : X' = cM k 0) (hK : GS m K Z c l ⊢ Q ⟨⟩) :
    GS m K Z c ((k, .Hs 0) :: l) ⊢ run c (Prog.lift (.enqueueDma X (.remote (Dev.tc d : Thread nD τ) X' (.dma sS) hsc) (.dma sR) hsrc hdst hsem)) Q :=
  gs_H m K Z rfl (P_right_zero m c k) hS hR hd hX hX' hK
variable {X : Memref sig .tc .vmem S128x1024 .f32} {hsrc : X.view.WordExact}
    {hsem : DmaTarget.Typed .vmem (.dma sR) (.remote (Dev.tc d : Thread nD τ) X' (.dma sS) hsc)}
/-- The second step of the ring, from the first slot. -/
theorem gs_H1 (hS : sS = ix (.ps k 1)) (hR : sR = ix (.pr k 1)) (hd : d = right c) (hX : X = cM k 0) (hX' : X' = cM k 1) (hK : GS m K Z c l ⊢ Q ⟨⟩) :
    GS m K Z c ((k, .Hs 1) :: l) ⊢ run c (Prog.lift (.enqueueDma X (.remote (Dev.tc d : Thread nD τ) X' (.dma sS) hsc) (.dma sR) hsrc hdst hsem)) Q :=
  gs_H m K Z rfl (P_right_succ m c k 0) hS hR hd hX hX' hK
/-- The third step of the ring, from the second slot. -/
theorem gs_H2 (hS : sS = ix (.ps k 2)) (hR : sR = ix (.pr k 2)) (hd : d = right c) (hX : X = cM k 1) (hX' : X' = cM k 2) (hK : GS m K Z c l ⊢ Q ⟨⟩) :
    GS m K Z c ((k, .Hs 2) :: l) ⊢ run c (Prog.lift (.enqueueDma X (.remote (Dev.tc d : Thread nD τ) X' (.dma sS) hsc) (.dma sR) hsrc hdst hsem)) Q :=
  gs_H m K Z rfl (P_right_succ m c k 1) hS hR hd hX hX' hK

end H

/-! ## Loads and stores -/

section LS

/-- A load of the rectangle a region is a re-shaping of reads the region's contents, re-shaped. -/
theorem load_sq {c : Dev nD} {sh : Shape} {W : Memref sig .tc .vmem sh .f32} {r : Rect sh} {hr : ∀ a, r.stride a = 1} {hsq : r.shape.Squeezes S128x1024}
    (hc : r.shape.ShapeCasts S128x1024) {q : PosShare TreeShare} {v : Blk F} {hl : W.view.LoadsAt r.toLoadRect} {Q : (r.shape.Idx → Elt F .f32) → sProp 𝕄} :
    hold c ((W.slice r hr).squeeze S128x1024 hsq) q v
      ⊢ iprop((∀ w, ⌜shapeCast S128x1024 w hc = v⌝ -∗ hold c ((W.slice r hr).squeeze S128x1024 hsq) q v -∗ Q w)
        -∗ run c (Prog.lift (.load W r.toLoadRect hl)) Q) := by
  unfold hold owns
  iintro ⟨%f, %hf, H⟩ Hk
  simp only [Memref.view_squeeze, Memref.view_slice, View.set_reshape]
  iapply (wp_load_rect 𝒱₀ (c : Thread nD τ) none Set.univ (m := W) (r := r) (f := f) subset_rfl) $$ H
  iintro H
  iapply (run_ret .rfl)
  iapply Hk
  · ipureintro; exact hf
  · iexists f; isplitr; · ipureintro; exact hf
    iexact H

/-- A store of all of such a rectangle leaves the region with the stored contents, re-shaped. -/
theorem store_sq {c : Dev nD} {sh : Shape} {W : Memref sig .tc .vmem sh .f32} {r : Rect sh} {hr : ∀ a, r.stride a = 1} {hsq : r.shape.Squeezes S128x1024}
    (hc : r.shape.ShapeCasts S128x1024) {v : Blk F} {w : r.shape.Idx → Elt F .f32} {hx : (W.access r).Stores Finset.univ} {hm : Finset.univ = Finset.univ ∨ ∀ a, r.stride a = 1} {Q : PUnit → sProp 𝕄} :
    hold c ((W.slice r hr).squeeze S128x1024 hsq) fullShare v
      ⊢ iprop((hold c ((W.slice r hr).squeeze S128x1024 hsq) fullShare (shapeCast S128x1024 w hc) -∗ Q ⟨⟩)
        -∗ run c (Prog.lift (.store W r w Finset.univ hx hm)) Q) := by
  unfold hold owns
  iintro ⟨%f, %hf, H⟩ Hk
  simp only [Memref.view_squeeze, Memref.view_slice, View.set_reshape]
  iapply (wp_store 𝒱₀ (c : Thread nD τ) none Set.univ (m := W) (r := r) (w := w) (Mk := Finset.univ) (S := (W.access r).set) (f := f) subset_rfl) $$ H
  iintro H
  iapply (run_ret .rfl)
  iapply Hk
  iexists ((W.access r).write (Elt F) f w Finset.univ)
  isplitr
  · ipureintro
    show shapeCast S128x1024 ((W.access r).read (Elt F) _) hc = _
    rw [View.read_write_univ]
  iexact H

/-- A load of a rectangle that is a region. -/
theorem load_sl {c : Dev nD} {W : Memref sig .tc .vmem S4096x1024 .f32} {off : Fin 2 → ℕ} {inb : ∀ a, off a + S128x1024.size a ≤ S4096x1024.size a}
    {hl : W.view.LoadsAt (Rect.unit (s := S4096x1024) off S128x1024.size inb).toLoadRect} {q : PosShare TreeShare} {v : Blk F} {Q : Vec F S128x1024 .f32 → sProp 𝕄} :
    hold c (W.slice (Rect.unit (s := S4096x1024) off S128x1024.size inb) (fun _ => rfl)) q v
      ⊢ iprop((hold c (W.slice (Rect.unit (s := S4096x1024) off S128x1024.size inb) (fun _ => rfl)) q v -∗ Q v)
        -∗ run c (Prog.lift (.load W (Rect.unit (s := S4096x1024) off S128x1024.size inb).toLoadRect hl)) Q) := by
  unfold hold owns
  iintro ⟨%f, %hf, H⟩ Hk
  simp only [Memref.view_slice] at hf
  simp only [Memref.view_slice]
  subst hf
  iapply (wp_load_rect 𝒱₀ (c : Thread nD τ) none Set.univ (m := W) (r := Rect.unit (s := S4096x1024) off S128x1024.size inb) (f := f) subset_rfl) $$ H
  iintro H
  iapply (run_ret .rfl)
  iapply Hk
  iexists f; isplitr; · ipureintro; rfl
  iexact H

/-- A store of a rectangle that is a region. -/
theorem store_sl {c : Dev nD} {W : Memref sig .tc .vmem S4096x1024 .f32} {off : Fin 2 → ℕ} {inb : ∀ a, off a + S128x1024.size a ≤ S4096x1024.size a}
    {w : Vec F S128x1024 .f32} {hx : (W.access (Rect.unit (s := S4096x1024) off S128x1024.size inb)).Stores Finset.univ}
    {hm : Finset.univ = Finset.univ ∨ ∀ a, (Rect.unit (s := S4096x1024) off S128x1024.size inb).stride a = 1} {v : Blk F} {Q : PUnit → sProp 𝕄} :
    hold c (W.slice (Rect.unit (s := S4096x1024) off S128x1024.size inb) (fun _ => rfl)) fullShare v
      ⊢ iprop((hold c (W.slice (Rect.unit (s := S4096x1024) off S128x1024.size inb) (fun _ => rfl)) fullShare w -∗ Q ⟨⟩)
        -∗ run c (Prog.lift (.store W (Rect.unit (s := S4096x1024) off S128x1024.size inb) w Finset.univ hx hm)) Q) := by
  unfold hold owns
  iintro ⟨%f, %hf, H⟩ Hk
  simp only [Memref.view_slice]
  iapply (wp_store 𝒱₀ (c : Thread nD τ) none Set.univ (m := W) (r := Rect.unit (s := S4096x1024) off S128x1024.size inb) (w := w) (Mk := Finset.univ) (S := (W.access (Rect.unit (s := S4096x1024) off S128x1024.size inb)).set) (f := f) subset_rfl) $$ H
  iintro H
  iapply (run_ret .rfl)
  iapply Hk
  iexists ((W.access (Rect.unit (s := S4096x1024) off S128x1024.size inb)).write (Elt F) f w Finset.univ)
  isplitr
  · ipureintro; exact View.read_write_univ _ _
  iexact H

variable {c : Dev nD} {k : Fin 4} {l : List (Fin 4 × Stp)}

/-- The landing buffer. -/
abbrev scr0 : Memref sig .tc .vmem S4x3x128x1024 .f32 := Memref.whole cc0_scratch0
/-- The staging buffer. -/
abbrev scr1 : Memref sig .tc .vmem S4x128x1024 .f32 := Memref.whole cc0_scratch1
/-- The result's buffer. -/
abbrev out0 : Memref sig .tc .vmem S4096x1024 .f32 := Memref.whole cc0_stg0_0

/-- A load of a landing slot gives what has arrived. -/
theorem gs_LdC {s : Fin 3} {off : Fin 4 → ℕ} (ho : off = ![k.val, s.val, 0, 0]) {inb : ∀ a, off a + S1x1x128x1024.size a ≤ S4x3x128x1024.size a}
    {hl : scr0.view.LoadsAt (Rect.unit (s := S4x3x128x1024) off S1x1x128x1024.size inb).toLoadRect} {Q : Vec F S1x1x128x1024 .f32 → sProp 𝕄}
    (hK : ∀ w : Vec F S1x1x128x1024 .f32, shapeCast S128x1024 w shapeCasts_S1x1x128x1024_S128x1024 = P m c k s.val → GS m K Z c l ⊢ Q w) :
    GS m K Z c ((k, .LdC s) :: l) ⊢ run c (Prog.lift (.load scr0 (Rect.unit (s := S4x3x128x1024) off S1x1x128x1024.size inb).toLoadRect hl)) Q := by
  subst ho
  refine (GS_take m K Z c k (.LdC s) l).trans ?_
  simp only [due, add_zero, need, give]
  iintro ⟨#HR, HO, H, Hc⟩
  iapply (load_sq shapeCasts_S1x1x128x1024_S128x1024) $$ H
  iintro %w %hw H
  iapply hK w hw
  iapply Hc
  isplitl [HO]; · iexact HO
  iexact H

/-- The slot read just before it is stored into: its contents then count for nothing. -/
theorem gs_LdC' {s : Fin 3} {off : Fin 4 → ℕ} (ho : off = ![k.val, s.val, 0, 0]) {inb : ∀ a, off a + S1x1x128x1024.size a ≤ S4x3x128x1024.size a}
    {hl : scr0.view.LoadsAt (Rect.unit (s := S4x3x128x1024) off S1x1x128x1024.size inb).toLoadRect} {Q : Vec F S1x1x128x1024 .f32 → sProp 𝕄}
    (hK : ∀ w : Vec F S1x1x128x1024 .f32, GS m K Z c l ⊢ Q w) :
    GS m K Z c ((k, .LdC s) :: l) ⊢ run c (Prog.lift (.load scr0 (Rect.unit (s := S4x3x128x1024) off S1x1x128x1024.size inb).toLoadRect hl)) Q :=
  gs_LdC m K Z ho fun w _ => hK w

/-- A load of the staging slot gives the device's own block. -/
theorem gs_LdS {s : Fin 3} {off : Fin 3 → ℕ} (ho : off = ![k.val, 0, 0]) {inb : ∀ a, off a + S1x128x1024.size a ≤ S4x128x1024.size a}
    {hl : scr1.view.LoadsAt (Rect.unit (s := S4x128x1024) off S1x128x1024.size inb).toLoadRect} {Q : Vec F S1x128x1024 .f32 → sProp 𝕄}
    (hK : ∀ w : Vec F S1x128x1024 .f32, shapeCast S128x1024 w shapeCasts_S1x128x1024_S128x1024 = blkA m c k s → GS m K Z c l ⊢ Q w) :
    GS m K Z c ((k, .LdS s) :: l) ⊢ run c (Prog.lift (.load scr1 (Rect.unit (s := S4x128x1024) off S1x128x1024.size inb).toLoadRect hl)) Q := by
  subst ho
  refine (GS_take m K Z c k (.LdS s) l).trans ?_
  simp only [due, add_zero, need, give]
  iintro ⟨#HR, HO, H, Hc⟩
  iapply (load_sq shapeCasts_S1x128x1024_S128x1024) $$ H
  iintro %w %hw H
  iapply hK w hw
  iapply Hc
  isplitl [HO]; · iexact HO
  iexact H

/-- The store of the sum into a landing slot. -/
theorem gs_StC {s : Fin 3} {off : Fin 4 → ℕ} (ho : off = ![k.val, s.val, 0, 0]) {inb : ∀ a, off a + S1x1x128x1024.size a ≤ S4x3x128x1024.size a}
    {w : Vec F S1x1x128x1024 .f32} {hx : (scr0.access (Rect.unit (s := S4x3x128x1024) off S1x1x128x1024.size inb)).Stores Finset.univ}
    {hm : Finset.univ = Finset.univ ∨ ∀ a, (Rect.unit (s := S4x3x128x1024) off S1x1x128x1024.size inb).stride a = 1} {Q : PUnit → sProp 𝕄}
    (hw : shapeCast S128x1024 w shapeCasts_S1x1x128x1024_S128x1024 = U m c k s.val) (hK : GS m K Z c l ⊢ Q ⟨⟩) :
    GS m K Z c ((k, .StC s) :: l) ⊢ run c (Prog.lift (.store scr0 (Rect.unit (s := S4x3x128x1024) off S1x1x128x1024.size inb) w Finset.univ hx hm)) Q := by
  subst ho
  refine (GS_take m K Z c k (.StC s) l).trans ?_
  simp only [due, add_zero, need, give]
  rw [← hw]
  iintro ⟨#HR, HO, H, Hc⟩
  iapply (store_sq shapeCasts_S1x1x128x1024_S128x1024) $$ H
  iintro H
  iapply hK
  iapply Hc
  isplitl [HO]; · iexact HO
  iexact H

/-- A load of the piece of the result that is about to be stored: what it reads is not used. -/
theorem gs_LdO {off : Fin 2 → ℕ} (ho : off = ![128 * (nc c k).val, 0]) {inb : ∀ a, off a + S128x1024.size a ≤ S4096x1024.size a}
    {hl : out0.view.LoadsAt (Rect.unit (s := S4096x1024) off S128x1024.size inb).toLoadRect} {Q : Vec F S128x1024 .f32 → sProp 𝕄}
    (hK : ∀ w : Vec F S128x1024 .f32, GS m K Z c l ⊢ Q w) :
    GS m K Z c ((k, .LdO) :: l) ⊢ run c (Prog.lift (.load out0 (Rect.unit (s := S4096x1024) off S128x1024.size inb).toLoadRect hl)) Q := by
  subst ho
  refine (GS_take m K Z c k .LdO l).trans ?_
  simp only [due, add_zero, need, give, any]
  iintro ⟨#HR, HO, ⟨%v, H⟩, Hc⟩
  iapply load_sl $$ H
  iintro H
  iapply hK v
  iapply Hc
  isplitl [HO]; · iexact HO
  iexists v; iexact H

/-- The store of the finished piece into the result. -/
theorem gs_StO {off : Fin 2 → ℕ} (ho : off = ![128 * (nc c k).val, 0]) {inb : ∀ a, off a + S128x1024.size a ≤ S4096x1024.size a}
    {w : Vec F S128x1024 .f32} {hx : (out0.access (Rect.unit (s := S4096x1024) off S128x1024.size inb)).Stores Finset.univ}
    {hm : Finset.univ = Finset.univ ∨ ∀ a, (Rect.unit (s := S4096x1024) off S128x1024.size inb).stride a = 1} {Q : PUnit → sProp 𝕄}
    (hw : w = U m c k 2) (hK : GS m K Z c l ⊢ Q ⟨⟩) :
    GS m K Z c ((k, .StO) :: l) ⊢ run c (Prog.lift (.store out0 (Rect.unit (s := S4096x1024) off S128x1024.size inb) w Finset.univ hx hm)) Q := by
  subst ho; subst hw
  refine (GS_take m K Z c k .StO l).trans ?_
  simp only [due, add_zero, need, give, any, piece, rv_own]
  iintro ⟨#HR, HO, ⟨%v, H⟩, Hc⟩
  iapply store_sl $$ H
  iintro H
  iapply hK
  iapply Hc
  isplitl [HO]; · iexact HO
  iexact H

end LS

/-! ## The pieces' transfers -/

section X

variable {c : Dev nD} {k : Fin 4} {l : List (Fin 4 × Stp)}

/-- The partner over `x` has the same place along `y`, -/
theorem yc_xp (c : Dev nD) : yc (xp c) = yc c := by revert c; decide +kernel
/-- so has the device above, -/
theorem yc_up (c : Dev nD) : yc (up c) = yc c := by revert c; decide +kernel
/-- and the device below. -/
theorem yc_dn (c : Dev nD) : yc (dn c) = yc c := by revert c; decide +kernel
/-- The piece that is sent upwards is the one that the device above expects. -/
theorem pc_up (c : Dev nD) (k : Fin 4) (t : Fin 3) : pc (up c) (oE (up c) t.succ) k = pc c (oE c t.castSucc) k := by revert c k t; decide +kernel
/-- The piece that is sent downwards is the one that the device below expects. -/
theorem pc_dn (c : Dev nD) (k : Fin 4) (t : Fin 3) : pc (dn c) (oW (dn c) t.succ) k = pc c (oW c t.castSucc) k := by revert c k t; decide +kernel
/-- What is sent upwards is expected above. -/
theorem act_up (c : Dev nD) (t : Fin 3) (h : sE c t = true) : aE (up c) t.succ = true := by revert c t; decide +kernel
/-- What is sent downwards is expected below. -/
theorem act_dn (c : Dev nD) (t : Fin 3) (h : sW c t = true) : aW (dn c) t.succ = true := by revert c t; decide +kernel
/-- A piece that is sent upwards has arrived or is the device's own. -/
theorem aE_of_sE {c : Dev nD} {t : Fin 3} (h : sE c t = true) : aE c t.castSucc = true := (Bool.and_eq_true _ _ ▸ h).2
/-- A piece that is sent downwards has arrived or is the device's own. -/
theorem aW_of_sW {c : Dev nD} {t : Fin 3} (h : sW c t = true) : aW c t.castSucc = true := (Bool.and_eq_true _ _ ▸ h).2

/-- A piece held is its three shares held. -/
theorem piece_split (n : Fin 32) : piece m c n fullShare ⊢ iprop(piece m c n qX ∗ piece m c n qE ∗ piece m c n qW) := by
  unfold piece hold
  exact (owns_share (c : Thread nD τ) (oM n) (PosShare.mem_left_op_right fullShare) _).1.trans
    (sep_mono_right (owns_share (c : Thread nD τ) (oM n) (PosShare.mem_left_op_right fullShare.right) _).1)
/-- The three shares of a piece make the piece. -/
theorem piece_join (n : Fin 32) : iprop(piece m c n qX ∗ piece m c n qE ∗ piece m c n qW) ⊢ piece m c n fullShare := by
  unfold piece hold
  exact (sep_mono_right (owns_share (c : Thread nD τ) (oM n) (PosShare.mem_left_op_right fullShare.right) _).2).trans
    (owns_share (c : Thread nD τ) (oM n) (PosShare.mem_left_op_right fullShare) _).2

/-- The piece of origin `o` sent across `x`. -/
theorem push {o : Fin 4} {O : CellTallies nD τ sig Unit} {sS sR : DmaSem sig} (hS : sS = ix (.xs k o)) (hR : sR = ix (.xr k o)) {d : Dev nD} (hd : d = xp c)
    {X X' : Memref sig .tc .vmem S128x1024 .f32} (hX : X = oM (pc c o k)) (hX' : X' = oM (pc c o k))
    {hsc : X'.view.ref.isScScratch = false} {hsrc : X.view.WordExact} {hdst : X'.view.WordExact}
    {hsem : DmaTarget.Typed .vmem (.dma sR) (.remote (Dev.tc d : Thread nD τ) X' (.dma sS) hsc)}
    {α : Type} {Q : α → sProp 𝕄} {j : PUnit → Prog (TpuEff nD τ sig (Elt F) Λ₀ .tc) α} :
    iprop(Rec m K ∗ (∃ W, owes (c : Thread nD τ) (O + tallyAt (cl (xp c) (.xr k o)) () N) W) ∗ xKit c k o ∗ piece m c (pc c o k) qX)
      ⊢ iprop(((∃ W, owes (c : Thread nD τ) O W) ∗ crd c (.xs k o) -∗ run c (j ⟨⟩) Q)
          -∗ run c (.op (.enqueueDma X (.remote (Dev.tc d : Thread nD τ) X' (.dma sS) hsc) (.dma sR) hsrc hdst hsem) j) Q) := by
  unfold xKit
  iintro ⟨#HR, HO, ⟨Ht, Ht', Hd⟩, Hs⟩ Hk
  iapply (send_cell m K (c := c) (c' := xp c) (qs := .xs k o) (qr := .xr k o) rfl rfl (by simp) (by simp) hS hR hd hX hX'
    (by rw [hX']; exact N_oM _) (q := qX) (v := rv m (yc c) (pc c o k)) .rfl
    (by simp only [pay, xp_xp, yc_xp]; exact .rfl) O rfl) $$ [HO Ht Ht' Hs Hd]
  · isplitr; · iexact HR
    isplitl [HO]; · iexact HO
    isplitl [Ht]; · iexact Ht
    isplitl [Ht']; · iexact Ht'
    isplitl [Hs]; · iexact Hs
    iexact Hd
  iexact Hk

/-- The slice of the result at a piece's rows is the piece. -/
theorem oM_eq {n : Fin 32} {off : Fin 2 → ℕ} (ho : off = ![128 * n.val, 0]) {inb : ∀ a, off a + S128x1024.size a ≤ S4096x1024.size a} :
    out0.slice (Rect.unit (s := S4096x1024) off S128x1024.size inb) (fun _ => rfl) = oM n := by subst ho; rfl

/-- The copy of the device's own finished piece to its partner over `x`. -/
theorem gs_Xo {off : Fin 2 → ℕ} (ho : off = ![128 * (nc c k).val, 0]) {inb inb' : ∀ a, off a + S128x1024.size a ≤ S4096x1024.size a}
    {sS sR : DmaSem sig} (hS : sS = ix (.xs k (zc c))) (hR : sR = ix (.xr k (zc c))) {d : Dev nD} (hd : d = xp c)
    {hsc : (out0.slice (Rect.unit (s := S4096x1024) off S128x1024.size inb') (fun _ => rfl)).view.ref.isScScratch = false}
    {hsrc : (out0.slice (Rect.unit (s := S4096x1024) off S128x1024.size inb) (fun _ => rfl)).view.WordExact}
    {hdst : (out0.slice (Rect.unit (s := S4096x1024) off S128x1024.size inb') (fun _ => rfl)).view.WordExact}
    {hsem : DmaTarget.Typed .vmem (.dma sR) (.remote (Dev.tc d : Thread nD τ) (out0.slice (Rect.unit (s := S4096x1024) off S128x1024.size inb') (fun _ => rfl)) (.dma sS) hsc)}
    {Q : PUnit → sProp 𝕄} (hK : GS m K Z c l ⊢ Q ⟨⟩) :
    GS m K Z c ((k, .Xo) :: l) ⊢ run c (Prog.lift (.enqueueDma (out0.slice (Rect.unit (s := S4096x1024) off S128x1024.size inb) (fun _ => rfl))
      (.remote (Dev.tc d : Thread nD τ) (out0.slice (Rect.unit (s := S4096x1024) off S128x1024.size inb') (fun _ => rfl)) (.dma sS) hsc) (.dma sR) hsrc hdst hsem)) Q := by
  refine gs_step m K Z (X := run c (.ret ⟨⟩) Q) ?_ (run_ret hK)
  simp only [due, need, give]
  exact push m K hS hR hd (oM_eq ho) (oM_eq ho)

/-! ## The operations under a condition -/

/-- A step there is nothing to do for. -/
theorem gs_skip {s : Stp} (hd : due c k s = 0) (h : need m c k s ⊢ give m c k s) : GS m K Z c ((k, s) :: l) ⊢ GS m K Z c l := by
  refine (GS_take m K Z c k s l).trans ?_
  rw [hd, add_zero]
  iintro ⟨#HR, HO, H, Hc⟩
  iapply Hc
  isplitl [HO]; · iexact HO
  iapply h $$ H

/-- The transfer of the piece from `t` below to the next `z`, if there is one. -/
theorem gs_Es {t : Fin 3} {p : Prop} {i : Decidable p} (hp : p ↔ sE c t = true) {off : p → Fin 2 → ℕ} (ho : ∀ h, off h = ![128 * (pc c (oE c t.castSucc) k).val, 0])
    {inb inb' : ∀ h a, off h a + S128x1024.size a ≤ S4096x1024.size a} {sS sR : p → DmaSem sig} (hS : ∀ h, sS h = ix (.es k t)) (hR : ∀ h, sR h = ix (.er k t))
    {d : p → Dev nD} (hd : ∀ h, d h = up c)
    {hsc : ∀ h, (out0.slice (Rect.unit (s := S4096x1024) (off h) S128x1024.size (inb' h)) (fun _ => rfl)).view.ref.isScScratch = false}
    {hsrc : ∀ h, (out0.slice (Rect.unit (s := S4096x1024) (off h) S128x1024.size (inb h)) (fun _ => rfl)).view.WordExact}
    {hdst : ∀ h, (out0.slice (Rect.unit (s := S4096x1024) (off h) S128x1024.size (inb' h)) (fun _ => rfl)).view.WordExact}
    {hsem : ∀ h, DmaTarget.Typed .vmem (.dma (sR h)) (.remote (Dev.tc (d h) : Thread nD τ) (out0.slice (Rect.unit (s := S4096x1024) (off h) S128x1024.size (inb' h)) (fun _ => rfl)) (.dma (sS h)) (hsc h))}
    {α : Type} {J : Prog (TpuEff nD τ sig (Elt F) Λ₀ .tc) α} {Q : α → sProp 𝕄} (hK : GS m K Z c l ⊢ run c J Q) :
    GS m K Z c ((k, .Es t) :: l) ⊢ run c (@dite _ p i (fun h => Prog.lift (.enqueueDma (out0.slice (Rect.unit (s := S4096x1024) (off h) S128x1024.size (inb h)) (fun _ => rfl))
      (.remote (Dev.tc (d h) : Thread nD τ) (out0.slice (Rect.unit (s := S4096x1024) (off h) S128x1024.size (inb' h)) (fun _ => rfl)) (.dma (sS h)) (hsc h)) (.dma (sR h)) (hsrc h) (hdst h) (hsem h)) >>= fun _ => J) (fun _ => J)) Q := by
  refine run_dite hp (fun h hb => ?_) (fun h hb => (gs_skip m K Z ?_ ?_).trans hK)
  · refine run_bind (gs_step m K Z (X := run c (.ret PUnit.unit) (fun _ => run c J Q)) ?_ (run_ret hK))
    simp only [due, need, give, hb, eM, eP, aE_of_sE hb, opt_true, if_true]
    iintro ⟨#HR, HO, Ht, Ht', Hd, Hs⟩ Hk
    iapply (send_cell m K (c := c) (c' := up c) (qs := .es k t) (qr := .er k t) hb (act_up c t hb) (by simp) (by simp) (hS h) (hR h) (hd h) (oM_eq (ho h)) (oM_eq (ho h))
      (by rw [oM_eq (ho h)]; exact N_oM _) (q := qE) (v := rv m (yc c) (pc c (oE c t.castSucc) k)) .rfl
      (by simp only [pay, pc_up, yc_up]; exact .rfl) (owed c l) rfl) $$ [HO Ht Ht' Hs Hd]
    · isplitr; · iexact HR
      isplitl [HO]; · iexact HO
      isplitl [Ht]; · iexact Ht
      isplitl [Ht']; · iexact Ht'
      isplitl [Hs]; · iexact Hs
      iexact Hd
    iexact Hk
  · simp only [due, hb]; rfl
  · simp only [need, give, hb, eM, Bool.false_eq_true, if_false]
    iintro ⟨Ht, Ht', Hd, Hs⟩
    iexact Hs

/-- The transfer of the piece from `t` above to the `z` before, if there is one. -/
theorem gs_Ws {t : Fin 3} {p : Prop} {i : Decidable p} (hp : p ↔ sW c t = true) {off : p → Fin 2 → ℕ} (ho : ∀ h, off h = ![128 * (pc c (oW c t.castSucc) k).val, 0])
    {inb inb' : ∀ h a, off h a + S128x1024.size a ≤ S4096x1024.size a} {sS sR : p → DmaSem sig} (hS : ∀ h, sS h = ix (.ws k t)) (hR : ∀ h, sR h = ix (.wr k t))
    {d : p → Dev nD} (hd : ∀ h, d h = dn c)
    {hsc : ∀ h, (out0.slice (Rect.unit (s := S4096x1024) (off h) S128x1024.size (inb' h)) (fun _ => rfl)).view.ref.isScScratch = false}
    {hsrc : ∀ h, (out0.slice (Rect.unit (s := S4096x1024) (off h) S128x1024.size (inb h)) (fun _ => rfl)).view.WordExact}
    {hdst : ∀ h, (out0.slice (Rect.unit (s := S4096x1024) (off h) S128x1024.size (inb' h)) (fun _ => rfl)).view.WordExact}
    {hsem : ∀ h, DmaTarget.Typed .vmem (.dma (sR h)) (.remote (Dev.tc (d h) : Thread nD τ) (out0.slice (Rect.unit (s := S4096x1024) (off h) S128x1024.size (inb' h)) (fun _ => rfl)) (.dma (sS h)) (hsc h))}
    {α : Type} {J : Prog (TpuEff nD τ sig (Elt F) Λ₀ .tc) α} {Q : α → sProp 𝕄} (hK : GS m K Z c l ⊢ run c J Q) :
    GS m K Z c ((k, .Ws t) :: l) ⊢ run c (@dite _ p i (fun h => Prog.lift (.enqueueDma (out0.slice (Rect.unit (s := S4096x1024) (off h) S128x1024.size (inb h)) (fun _ => rfl))
      (.remote (Dev.tc (d h) : Thread nD τ) (out0.slice (Rect.unit (s := S4096x1024) (off h) S128x1024.size (inb' h)) (fun _ => rfl)) (.dma (sS h)) (hsc h)) (.dma (sR h)) (hsrc h) (hdst h) (hsem h)) >>= fun _ => J) (fun _ => J)) Q := by
  refine run_dite hp (fun h hb => ?_) (fun h hb => (gs_skip m K Z ?_ ?_).trans hK)
  · refine run_bind (gs_step m K Z (X := run c (.ret PUnit.unit) (fun _ => run c J Q)) ?_ (run_ret hK))
    simp only [due, need, give, hb, wM, wP, aW_of_sW hb, opt_true, if_true]
    iintro ⟨#HR, HO, Ht, Ht', Hd, Hs⟩ Hk
    iapply (send_cell m K (c := c) (c' := dn c) (qs := .ws k t) (qr := .wr k t) hb (act_dn c t hb) (by simp) (by simp) (hS h) (hR h) (hd h) (oM_eq (ho h)) (oM_eq (ho h))
      (by rw [oM_eq (ho h)]; exact N_oM _) (q := qW) (v := rv m (yc c) (pc c (oW c t.castSucc) k)) .rfl
      (by simp only [pay, pc_dn, yc_dn]; exact .rfl) (owed c l) rfl) $$ [HO Ht Ht' Hs Hd]
    · isplitr; · iexact HR
      isplitl [HO]; · iexact HO
      isplitl [Ht]; · iexact Ht
      isplitl [Ht']; · iexact Ht'
      isplitl [Hs]; · iexact Hs
      iexact Hd
    iexact Hk
  · simp only [due, hb]; rfl
  · simp only [need, give, hb, wM, Bool.false_eq_true, if_false]
    iintro ⟨Ht, Ht', Hd, Hs⟩
    iexact Hs

set_option maxRecDepth 65536 in
/-- A transfer of any piece of the result counts the same. -/
theorem N_out {off : Fin 2 → ℕ} {inb : ∀ a, off a + S128x1024.size a ≤ S4096x1024.size a} :
    (out0.slice (Rect.unit (s := S4096x1024) off S128x1024.size inb) (fun _ => rfl)).view.dmaCredit = N := N_oM 0

section Dw

variable {t : Fin 3} {p : Prop} {i : Decidable p} {sp' : Space} {sh' : Shape} {e' : EltTy} {sem : p → DmaSem sig}
  {src : p → Memref sig .tc sp' sh' e'} {off : p → Fin 2 → ℕ} {inb : ∀ h a, off h a + S128x1024.size a ≤ S4096x1024.size a} {hsrc : ∀ h, (src h).view.WordExact}
  {hdst : ∀ h, (out0.slice (Rect.unit (s := S4096x1024) (off h) S128x1024.size (inb h)) (fun _ => rfl)).view.WordExact}
  {α : Type} {J : Prog (TpuEff nD τ sig (Elt F) Λ₀ .tc) α} {Q : α → sProp (MT nD τ sig Unit (Elt F) ℕ UU ℕ)}

/-- The wait for the end of the transfer to the next `z`, if there was one, -/
theorem gs_Ew (hp : p ↔ sE c t = true) (hl : okL 0 l = true) (hs : ∀ h, sem h = ix (.es k t)) (hK : GS m K Z c l ⊢ run c J Q) :
    GS m K Z c ((k, .Ew t) :: l) ⊢ run c (@dite _ p i (fun h => Prog.lift (.waitDma2 (sem h) (src h) (out0.slice (Rect.unit (s := S4096x1024) (off h) S128x1024.size (inb h)) (fun _ => rfl)) (hsrc h) (hdst h)) >>= fun _ => J) (fun _ => J)) Q := by
  refine run_dite hp (fun h hb => run_bind (gs_wait m K Z (.es k t) 0 ?_ ?_ rfl hb (by simp) hl (hs h) N_out hK)) (fun h hb => (gs_skip m K Z rfl ?_).trans hK)
  · simp only [need, eM, hb, if_true]; exact .rfl
  · simp only [give, fin_act (c := c) (q := .es k t) hb, eP, aE_of_sE hb, opt_true]; exact drop_opn
  · simp only [need, give, fin_not (c := c) (q := .es k t) hb, eM, hb]; exact .rfl
/-- and to the `z` before. -/
theorem gs_Ww (hp : p ↔ sW c t = true) (hl : okL 0 l = true) (hs : ∀ h, sem h = ix (.ws k t)) (hK : GS m K Z c l ⊢ run c J Q) :
    GS m K Z c ((k, .Ww t) :: l) ⊢ run c (@dite _ p i (fun h => Prog.lift (.waitDma2 (sem h) (src h) (out0.slice (Rect.unit (s := S4096x1024) (off h) S128x1024.size (inb h)) (fun _ => rfl)) (hsrc h) (hdst h)) >>= fun _ => J) (fun _ => J)) Q := by
  refine run_dite hp (fun h hb => run_bind (gs_wait m K Z (.ws k t) 0 ?_ ?_ rfl hb (by simp) hl (hs h) N_out hK)) (fun h hb => (gs_skip m K Z rfl ?_).trans hK)
  · simp only [need, wM, hb, if_true]; exact .rfl
  · simp only [give, fin_act (c := c) (q := .ws k t) hb, wP, aW_of_sW hb, opt_true]; exact drop_opn
  · simp only [need, give, fin_not (c := c) (q := .ws k t) hb, wM, hb]; exact .rfl

end Dw

/-- A program that waits on a cell and returns a value. -/
def IsWait (p : Prog (TpuEff nD τ sig (Elt F) Λ₀ .tc) (BitVec 32)) (q : CK) : Prop :=
  ∃ (x : BitVec 32) (src dst : Memref sig .tc .vmem S128x1024 .f32) (hsrc : src.view.WordExact) (hdst : dst.view.WordExact),
    dst.view.dmaCredit = N ∧ p = (Prog.lift (.waitDma2 (ix q) src dst hsrc hdst) >>= fun _ => pure x)

/-- The wait for an arrival along `z`, and the transfer of what arrived across `x`. -/
theorem recv_push {q : CK} {o : Fin 4} {O : CellTallies nD τ sig Unit} (hq : q ≠ .st) (ha : act c q 0 = true) (hpay : pay m c q 0 = piece m c (pc c o k) fullShare)
    (hO : Above (lvq q) (O + tallyAt (cl (xp c) (.xr k o)) () N)) {T : Prog (TpuEff nD τ sig (Elt F) Λ₀ .tc) (BitVec 32)} (hT : IsWait T q)
    {sS sR : DmaSem sig} (hS : sS = ix (.xs k o)) (hR : sR = ix (.xr k o)) {d : Dev nD} (hd : d = xp c)
    {X X' : Memref sig .tc .vmem S128x1024 .f32} (hX : X = oM (pc c o k)) (hX' : X' = oM (pc c o k))
    {hsc : X'.view.ref.isScScratch = false} {hsrc : X.view.WordExact} {hdst : X'.view.WordExact}
    {hsem : DmaTarget.Typed .vmem (.dma sR) (.remote (Dev.tc d : Thread nD τ) X' (.dma sS) hsc)}
    {α : Type} {Q : α → sProp 𝕄} {J : Prog (TpuEff nD τ sig (Elt F) Λ₀ .tc) α} :
    iprop(Rec m K ∗ (∃ W, owes (c : Thread nD τ) (O + tallyAt (cl (xp c) (.xr k o)) () N) W) ∗ pos c q 0 ∗ crd c q ∗ xKit c k o)
      ⊢ iprop(((∃ W, owes (c : Thread nD τ) O W) ∗ pos c q 1 ∗ crd c (.xs k o) ∗ piece m c (pc c o k) qE ∗ piece m c (pc c o k) qW -∗ run c J Q)
          -∗ run c (T >>= fun _ => Prog.lift (.enqueueDma X (.remote (Dev.tc d : Thread nD τ) X' (.dma sS) hsc) (.dma sR) hsrc hdst hsem) >>= fun _ => J) Q) := by
  obtain ⟨x, src, dst, hs', hd', hN, rfl⟩ := hT
  iintro ⟨#HR, HO, Hat, Hc, Hx⟩ Hk
  iapply (wait_cell m K (c := c) (q := q) (r := 0) ha hq hO rfl hN) $$ [HO Hat Hc]
  · isplitr; · iexact HR
    isplitl [HO]; · iexact HO
    isplitl [Hat]; · iexact Hat
    iexact Hc
  iintro ⟨HO, Hat, Hop, Hp⟩
  ihave Hp := (Entails.of_eq hpay) $$ Hp
  ihave Hp := (piece_split m (c := c) (pc c o k)) $$ Hp
  icases Hp with ⟨HpX, HpE, HpW⟩
  iapply (push m K hS hR hd hX hX') $$ [HO Hx HpX]
  · isplitr; · iexact HR
    isplitl [HO]; · iexact HO
    isplitl [Hx]; · iexact Hx
    iexact HpX
  iintro ⟨HO, Hc⟩
  iapply Hk
  isplitl [HO]; · iexact HO
  isplitl [Hat]; · iexact Hat
  isplitl [Hc]; · iexact Hc
  isplitl [HpE]; · iexact HpE
  iexact HpW

section R

variable {t : Fin 3} {p : Prop} {i : Decidable p} {T : p → Prog (TpuEff nD τ sig (Elt F) Λ₀ .tc) (BitVec 32)}
    {off : p → Fin 2 → ℕ} {inb inb' : ∀ h a, off h a + S128x1024.size a ≤ S4096x1024.size a} {sS sR : p → DmaSem sig}
    {d : p → Dev nD}
    {hsc : ∀ h, (out0.slice (Rect.unit (s := S4096x1024) (off h) S128x1024.size (inb' h)) (fun _ => rfl)).view.ref.isScScratch = false}
    {hsrc : ∀ h, (out0.slice (Rect.unit (s := S4096x1024) (off h) S128x1024.size (inb h)) (fun _ => rfl)).view.WordExact}
    {hdst : ∀ h, (out0.slice (Rect.unit (s := S4096x1024) (off h) S128x1024.size (inb' h)) (fun _ => rfl)).view.WordExact}
    {hsem : ∀ h, DmaTarget.Typed .vmem (.dma (sR h)) (.remote (Dev.tc (d h) : Thread nD τ) (out0.slice (Rect.unit (s := S4096x1024) (off h) S128x1024.size (inb' h)) (fun _ => rfl)) (.dma (sS h)) (hsc h))}
    {α : Type} {J : Prog (TpuEff nD τ sig (Elt F) Λ₀ .tc) α} {Q : α → sProp (MT nD τ sig Unit (Elt F) ℕ UU ℕ)}

/-- The arrivals over `z` lie below those over `x`. -/
theorem lvq_er (k : Fin 4) (t : Fin 3) : lvq (.er k t) < 1000 ∧ lvq (.wr k t) < 1000 := by revert k t; decide

/-- The arrival from the `z` before, if there is one, and its transfer across `x`, -/
theorem gs_ERX (hp : p ↔ aE c t.succ = true) (hl : okL (lvq (.er k t)) l = true) (hT : ∀ h, IsWait (T h) (.er k t))
    (ho : ∀ h, off h = ![128 * (pc c (oE c t.succ) k).val, 0]) (hS : ∀ h, sS h = ix (.xs k (oE c t.succ))) (hR : ∀ h, sR h = ix (.xr k (oE c t.succ)))
    (hd : ∀ h, d h = xp c) (hK : GS m K Z c l ⊢ run c J Q) :
    GS m K Z c ((k, .ERX t) :: l) ⊢ run c (@dite _ p i (fun h => T h >>= fun _ => Prog.lift (.enqueueDma (out0.slice (Rect.unit (s := S4096x1024) (off h) S128x1024.size (inb h)) (fun _ => rfl))
      (.remote (Dev.tc (d h) : Thread nD τ) (out0.slice (Rect.unit (s := S4096x1024) (off h) S128x1024.size (inb' h)) (fun _ => rfl)) (.dma (sS h)) (hsc h)) (.dma (sR h)) (hsrc h) (hdst h) (hsem h)) >>= fun _ => J) (fun _ => J)) Q := by
  refine run_dite hp (fun h hb => ?_) (fun h hb => (gs_skip m K Z ?_ ?_).trans hK)
  · refine gs_step m K Z (X := run c J _) ?_ hK
    simp only [due, need, give, hb, eP, opt_true, if_true, fin_act (c := c) (q := .er k t) hb]
    iintro ⟨#HR, HO, Hat, Hc, Hx⟩ Hk
    iapply (recv_push m K (q := .er k t) (o := oE c t.succ) (by simp) hb rfl
      ((owed_above c _ l hl).add (Above.tally (xp c) (.dma (ix (.xr k (oE c t.succ)))) N (by rw [lv_cl]; exact (lvq_er k t).1)))
      (hT h) (hS h) (hR h) (hd h) (oM_eq (ho h)) (oM_eq (ho h))) $$ [HO Hat Hc Hx]
    · isplitr; · iexact HR
      isplitl [HO]; · iexact HO
      isplitl [Hat]; · iexact Hat
      isplitl [Hc]; · iexact Hc
      iexact Hx
    iintro ⟨HO, Hat, Hc, HE, HW⟩
    iapply Hk
    isplitl [HO]; · iexact HO
    isplitl [Hat]; · iexact Hat
    isplitl [HE]; · iexact HE
    isplitl [Hc]; · iexact Hc
    iexact HW
  · simp only [due, hb]; rfl
  · simp only [need, give, fin_not (c := c) (q := .er k t) hb, hb, eP, opt_false]
    iintro ⟨H, He⟩
    isplitl [H]; · iexact H
    isplitl [He]; · iexact He
    iempintro

/-- and from the next `z`. -/
theorem gs_WRX (hp : p ↔ aW c t.succ = true) (hl : okL (lvq (.wr k t)) l = true) (hT : ∀ h, IsWait (T h) (.wr k t))
    (ho : ∀ h, off h = ![128 * (pc c (oW c t.succ) k).val, 0]) (hS : ∀ h, sS h = ix (.xs k (oW c t.succ))) (hR : ∀ h, sR h = ix (.xr k (oW c t.succ)))
    (hd : ∀ h, d h = xp c) (hK : GS m K Z c l ⊢ run c J Q) :
    GS m K Z c ((k, .WRX t) :: l) ⊢ run c (@dite _ p i (fun h => T h >>= fun _ => Prog.lift (.enqueueDma (out0.slice (Rect.unit (s := S4096x1024) (off h) S128x1024.size (inb h)) (fun _ => rfl))
      (.remote (Dev.tc (d h) : Thread nD τ) (out0.slice (Rect.unit (s := S4096x1024) (off h) S128x1024.size (inb' h)) (fun _ => rfl)) (.dma (sS h)) (hsc h)) (.dma (sR h)) (hsrc h) (hdst h) (hsem h)) >>= fun _ => J) (fun _ => J)) Q := by
  refine run_dite hp (fun h hb => ?_) (fun h hb => (gs_skip m K Z ?_ ?_).trans hK)
  · refine gs_step m K Z (X := run c J _) ?_ hK
    simp only [due, need, give, hb, wP, opt_true, if_true, fin_act (c := c) (q := .wr k t) hb]
    iintro ⟨#HR, HO, Hat, Hc, Hx⟩ Hk
    iapply (recv_push m K (q := .wr k t) (o := oW c t.succ) (by simp) hb rfl
      ((owed_above c _ l hl).add (Above.tally (xp c) (.dma (ix (.xr k (oW c t.succ)))) N (by rw [lv_cl]; exact (lvq_er k t).2)))
      (hT h) (hS h) (hR h) (hd h) (oM_eq (ho h)) (oM_eq (ho h))) $$ [HO Hat Hc Hx]
    · isplitr; · iexact HR
      isplitl [HO]; · iexact HO
      isplitl [Hat]; · iexact Hat
      isplitl [Hc]; · iexact Hc
      iexact Hx
    iintro ⟨HO, Hat, Hc, HE, HW⟩
    iapply Hk
    isplitl [HO]; · iexact HO
    isplitl [Hat]; · iexact Hat
    isplitl [HW]; · iexact HW
    isplitl [Hc]; · iexact Hc
    iexact HE
  · simp only [due, hb]; rfl
  · simp only [need, give, fin_not (c := c) (q := .wr k t) hb, hb, wP, opt_false]
    iintro ⟨H, He⟩
    isplitl [H]; · iexact H
    isplitl [He]; · iexact He
    iempintro

end R

end X

/-! ## Equations used where the lemmas above are applied -/

/-- The argument's buffer. -/
abbrev in0 : Memref sig .tc .hbm S1x4096x4096 .f32 := Memref.whole main_arg0

/-- The slice of the argument at a block's place is the block. -/
theorem aM_eq {n : Fin 32} {j : Fin 4} {off : Fin 3 → ℕ} (ho : off = ![0, 128 * n.val, 1024 * j.val]) {inb : ∀ a, off a + S1x128x1024.size a ≤ S1x4096x4096.size a} :
    (in0.slice (Rect.unit (s := S1x4096x4096) off S1x128x1024.size inb) (fun _ => rfl)).squeeze S128x1024 squeezes_S1x128x1024_S128x1024 = aM n j := by subst ho; rfl

/-- The cell at a place of the array of sending semaphores over `x`. -/
theorem xs_at (k o : Fin 4) (inb : ∀ a, (![k.val, o.val] : Fin 2 → ℕ) a + S1x1.size a ≤ S4x4.size a) :
    ((cc0_scratch9.slice (Rect.unit (s := S4x4) ![k.val, o.val] S1x1.size inb)).squeeze S_ squeezes_S1x1_S_).sem = ix (.xs k o) := by
  revert k o; decide +kernel
/-- The cell at a place of the array of receiving semaphores over `x`. -/
theorem xr_at (k o : Fin 4) (inb : ∀ a, (![k.val, o.val] : Fin 2 → ℕ) a + S1x1.size a ≤ S4x4.size a) :
    ((cc0_scratch10.slice (Rect.unit (s := S4x4) ![k.val, o.val] S1x1.size inb)).squeeze S_ squeezes_S1x1_S_).sem = ix (.xr k o) := by
  revert k o; decide +kernel
/-- The same at an offset that the program computes, -/
theorem xs_eq {k o : Fin 4} {off : Fin 2 → ℕ} (ho : off = ![k.val, o.val]) {inb : ∀ a, off a + S1x1.size a ≤ S4x4.size a} :
    ((cc0_scratch9.slice (Rect.unit (s := S4x4) off S1x1.size inb)).squeeze S_ squeezes_S1x1_S_).sem = ix (.xs k o) := by subst ho; exact xs_at k o inb
/-- and for the receiving ones. -/
theorem xr_eq {k o : Fin 4} {off : Fin 2 → ℕ} (ho : off = ![k.val, o.val]) {inb : ∀ a, off a + S1x1.size a ≤ S4x4.size a} :
    ((cc0_scratch10.slice (Rect.unit (s := S4x4) off S1x1.size inb)).squeeze S_ squeezes_S1x1_S_).sem = ix (.xr k o) := by subst ho; exact xr_at k o inb

/-- A wait that names a piece of the result is a wait for `N` at its cell. -/
theorem isWait_out {q : CK} {sem : DmaSem sig} (hs : sem = ix q) {x : BitVec 32} {off off' : Fin 2 → ℕ} {inb : ∀ a, off a + S128x1024.size a ≤ S4096x1024.size a}
    {inb' : ∀ a, off' a + S128x1024.size a ≤ S4096x1024.size a}
    {hsrc : (out0.slice (Rect.unit (s := S4096x1024) off S128x1024.size inb) (fun _ => rfl)).view.WordExact}
    {hdst : (out0.slice (Rect.unit (s := S4096x1024) off' S128x1024.size inb') (fun _ => rfl)).view.WordExact} :
    IsWait (F := F) (Prog.lift (.waitDma2 sem (out0.slice (Rect.unit (s := S4096x1024) off S128x1024.size inb) (fun _ => rfl))
      (out0.slice (Rect.unit (s := S4096x1024) off' S128x1024.size inb') (fun _ => rfl)) hsrc hdst) >>= fun _ => pure x) q := by
  subst hs; exact ⟨x, _, _, hsrc, hdst, N_out, rfl⟩

section V

variable {c : Dev nD} {k : Fin 4} {s : Fin 3} {v : Vec F S1x1x128x1024 .f32} {w : Vec F S1x128x1024 .f32} {u : Blk F}
    (hv : shapeCast S128x1024 v shapeCasts_S1x1x128x1024_S128x1024 = P m c k s.val) (hw : shapeCast S128x1024 w shapeCasts_S1x128x1024_S128x1024 = blkA m c k s)
    (hu : u = P m c k s.val)

include hv hw in
/-- What arrived and the device's own block, added. -/
theorem sum_eq : addf (shapeCast S128x1024 v shapeCasts_S1x1x128x1024_S128x1024) (shapeCast S128x1024 w shapeCasts_S1x128x1024_S128x1024) = U m c k s.val := by
  rw [hv, hw]; rfl
include hu hw in
/-- The same for a sum that was read already. -/
theorem sum_eq' : addf u (shapeCast S128x1024 w shapeCasts_S1x128x1024_S128x1024) = U m c k s.val := by
  rw [hu, hw]; rfl
/-- A block stored and reshaped is the block. -/
theorem cast_cast (hu : u = U m c k s.val) :
    shapeCast S128x1024 (shapeCast S1x1x128x1024 u shapeCasts_S128x1024_S1x1x128x1024) shapeCasts_S1x1x128x1024_S128x1024 = U m c k s.val := by
  rw [shapeCast_shapeCast]; exact hu
include hv hw in
/-- The sum stored and reshaped is the sum. -/
theorem sum_cast : shapeCast S128x1024 (shapeCast S1x1x128x1024 (addf (shapeCast S128x1024 v shapeCasts_S1x1x128x1024_S128x1024) (shapeCast S128x1024 w shapeCasts_S1x128x1024_S128x1024))
      shapeCasts_S128x1024_S1x1x128x1024) shapeCasts_S1x1x128x1024_S128x1024 = U m c k s.val :=
  cast_cast m (sum_eq m hv hw)

end V

end Cert.KernelIdeal.Rs
-- ==== Proof.ProgKernelIdeal.lean ====
/-
# The order of the steps

The program's four sub-strips are interleaved; `tailN` is what is left when the program comes to its part `N`.
-/
module

public import proofs.«01_k».proof.Proof.OpsKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- What is left when the program comes to its part 99. -/
def tail99 : List (Fin 4 × Stp) := (3, .XSw 3) :: []
/-- What is left when the program comes to its part 92. -/
def tail92 : List (Fin 4 × Stp) := (3, .XSw 2) :: (3, .XRw 3) :: tail99
/-- What is left when the program comes to its part 91. -/
def tail91 : List (Fin 4 × Stp) := (3, .XSw 1) :: (3, .XRw 2) :: tail92
/-- What is left when the program comes to its part 90. -/
def tail90 : List (Fin 4 × Stp) := (3, .XRw 1) :: tail91
/-- What is left when the program comes to its part 89. -/
def tail89 : List (Fin 4 × Stp) := (3, .XRw 0) :: (3, .XSw 0) :: tail90
/-- What is left when the program comes to its part 88. -/
def tail88 : List (Fin 4 × Stp) := (2, .XRw 3) :: (2, .XSw 3) :: tail89
/-- What is left when the program comes to its part 87. -/
def tail87 : List (Fin 4 × Stp) := (2, .XRw 2) :: (2, .XSw 2) :: tail88
/-- What is left when the program comes to its part 86. -/
def tail86 : List (Fin 4 × Stp) := (2, .XRw 1) :: (2, .XSw 1) :: tail87
/-- What is left when the program comes to its part 85. -/
def tail85 : List (Fin 4 × Stp) := (2, .XRw 0) :: (2, .XSw 0) :: tail86
/-- What is left when the program comes to its part 84. -/
def tail84 : List (Fin 4 × Stp) := (1, .XRw 3) :: (1, .XSw 3) :: tail85
/-- What is left when the program comes to its part 83. -/
def tail83 : List (Fin 4 × Stp) := (1, .XRw 2) :: (1, .XSw 2) :: tail84
/-- What is left when the program comes to its part 82. -/
def tail82 : List (Fin 4 × Stp) := (1, .XRw 1) :: (1, .XSw 1) :: tail83
/-- What is left when the program comes to its part 81. -/
def tail81 : List (Fin 4 × Stp) := (1, .XRw 0) :: (1, .XSw 0) :: tail82
/-- What is left when the program comes to its part 80. -/
def tail80 : List (Fin 4 × Stp) := (0, .XRw 3) :: (0, .XSw 3) :: tail81
/-- What is left when the program comes to its part 79. -/
def tail79 : List (Fin 4 × Stp) := (0, .XSw 2) :: tail80
/-- What is left when the program comes to its part 78. -/
def tail78 : List (Fin 4 × Stp) := (0, .XSw 1) :: (0, .XRw 2) :: tail79
/-- What is left when the program comes to its part 77. -/
def tail77 : List (Fin 4 × Stp) := (0, .XSw 0) :: (0, .XRw 1) :: tail78
/-- What is left when the program comes to its part 76. -/
def tail76 : List (Fin 4 × Stp) := (3, .WRX 2) :: (3, .Ew 2) :: (3, .Ww 2) :: (0, .XRw 0) :: tail77
/-- What is left when the program comes to its part 75. -/
def tail75 : List (Fin 4 × Stp) := (3, .ERX 1) :: (3, .WRX 1) :: (3, .Ew 1) :: (3, .Ww 1) :: (3, .Es 2) :: (3, .Ws 2) :: (3, .ERX 2) :: tail76
/-- What is left when the program comes to its part 74. -/
def tail74 : List (Fin 4 × Stp) := (3, .Ws 0) :: (3, .ERX 0) :: (3, .WRX 0) :: (3, .Ew 0) :: (3, .Ww 0) :: (3, .Es 1) :: (3, .Ws 1) :: tail75
/-- What is left when the program comes to its part 73. -/
def tail73 : List (Fin 4 × Stp) := (3, .LdO) :: (3, .StO) :: (3, .Xo) :: (3, .Es 0) :: tail74
/-- What is left when the program comes to its part 72. -/
def tail72 : List (Fin 4 × Stp) := (3, .HwS 2) :: (3, .HwR 2) :: (3, .Sw 2) :: (3, .LdC 2) :: (3, .LdS 2) :: tail73
/-- What is left when the program comes to its part 71. -/
def tail71 : List (Fin 4 × Stp) := (3, .Ss 2) :: (2, .ERX 2) :: (2, .WRX 2) :: (2, .Ew 2) :: (2, .Ww 2) :: tail72
/-- What is left when the program comes to its part 70. -/
def tail70 : List (Fin 4 × Stp) := (3, .LdC 1) :: (3, .StC 1) :: (3, .Hs 2) :: tail71
/-- What is left when the program comes to its part 69. -/
def tail69 : List (Fin 4 × Stp) := (3, .HwR 1) :: (3, .Sw 1) :: (3, .LdC 1) :: (3, .LdS 1) :: tail70
/-- What is left when the program comes to its part 68. -/
def tail68 : List (Fin 4 × Stp) := (2, .Es 2) :: (2, .Ws 2) :: (3, .HwS 1) :: tail69
/-- What is left when the program comes to its part 67. -/
def tail67 : List (Fin 4 × Stp) := (3, .Ss 1) :: (2, .ERX 1) :: (2, .WRX 1) :: (2, .Ew 1) :: (2, .Ww 1) :: tail68
/-- What is left when the program comes to its part 66. -/
def tail66 : List (Fin 4 × Stp) := (3, .LdC 0) :: (3, .LdS 0) :: (3, .LdC 0) :: (3, .StC 0) :: (3, .Hs 1) :: tail67
/-- What is left when the program comes to its part 65. -/
def tail65 : List (Fin 4 × Stp) := (3, .HwR 0) :: (3, .Sw 0) :: tail66
/-- What is left when the program comes to its part 64. -/
def tail64 : List (Fin 4 × Stp) := (2, .Ws 1) :: (3, .HwS 0) :: tail65
/-- What is left when the program comes to its part 63. -/
def tail63 : List (Fin 4 × Stp) := (3, .Ss 0) :: (2, .ERX 0) :: (2, .WRX 0) :: (2, .Ew 0) :: (2, .Ww 0) :: (2, .Es 1) :: tail64
/-- What is left when the program comes to its part 62. -/
def tail62 : List (Fin 4 × Stp) := (3, .Hs 0) :: tail63
/-- What is left when the program comes to its part 61. -/
def tail61 : List (Fin 4 × Stp) := (2, .Xo) :: (2, .Es 0) :: (2, .Ws 0) :: tail62
/-- What is left when the program comes to its part 60. -/
def tail60 : List (Fin 4 × Stp) := (2, .HwR 2) :: (2, .Sw 2) :: (2, .LdC 2) :: (2, .LdS 2) :: (2, .LdO) :: (2, .StO) :: tail61
/-- What is left when the program comes to its part 59. -/
def tail59 : List (Fin 4 × Stp) := (1, .WRX 2) :: (1, .Ew 2) :: (1, .Ww 2) :: (2, .HwS 2) :: tail60
/-- What is left when the program comes to its part 58. -/
def tail58 : List (Fin 4 × Stp) := (2, .Hs 2) :: (2, .Ss 2) :: (1, .ERX 2) :: tail59
/-- What is left when the program comes to its part 57. -/
def tail57 : List (Fin 4 × Stp) := (2, .Sw 1) :: (2, .LdC 1) :: (2, .LdS 1) :: (2, .LdC 1) :: (2, .StC 1) :: tail58
/-- What is left when the program comes to its part 56. -/
def tail56 : List (Fin 4 × Stp) := (2, .HwS 1) :: (2, .HwR 1) :: tail57
/-- What is left when the program comes to its part 55. -/
def tail55 : List (Fin 4 × Stp) := (2, .Ss 1) :: (1, .ERX 1) :: (1, .WRX 1) :: (1, .Ew 1) :: (1, .Ww 1) :: (1, .Es 2) :: (1, .Ws 2) :: tail56
/-- What is left when the program comes to its part 54. -/
def tail54 : List (Fin 4 × Stp) := (2, .Hs 1) :: tail55
/-- What is left when the program comes to its part 53. -/
def tail53 : List (Fin 4 × Stp) := (2, .Sw 0) :: (2, .LdC 0) :: (2, .LdS 0) :: (2, .LdC 0) :: (2, .StC 0) :: tail54
/-- What is left when the program comes to its part 52. -/
def tail52 : List (Fin 4 × Stp) := (2, .HwS 0) :: (2, .HwR 0) :: tail53
/-- What is left when the program comes to its part 51. -/
def tail51 : List (Fin 4 × Stp) := (1, .ERX 0) :: (1, .WRX 0) :: (1, .Ew 0) :: (1, .Ww 0) :: (1, .Es 1) :: (1, .Ws 1) :: tail52
/-- What is left when the program comes to its part 50. -/
def tail50 : List (Fin 4 × Stp) := (2, .Hs 0) :: (2, .Ss 0) :: tail51
/-- What is left when the program comes to its part 49. -/
def tail49 : List (Fin 4 × Stp) := (1, .Xo) :: (1, .Es 0) :: (1, .Ws 0) :: tail50
/-- What is left when the program comes to its part 48. -/
def tail48 : List (Fin 4 × Stp) := (1, .Sw 2) :: (1, .LdC 2) :: (1, .LdS 2) :: (1, .LdO) :: (1, .StO) :: tail49
/-- What is left when the program comes to its part 47. -/
def tail47 : List (Fin 4 × Stp) := (0, .Ww 2) :: (1, .HwS 2) :: (1, .HwR 2) :: tail48
/-- What is left when the program comes to its part 46. -/
def tail46 : List (Fin 4 × Stp) := (1, .Ss 2) :: (0, .ERX 2) :: (0, .WRX 2) :: (0, .Ew 2) :: tail47
/-- What is left when the program comes to its part 45. -/
def tail45 : List (Fin 4 × Stp) := (1, .Sw 1) :: (1, .LdC 1) :: (1, .LdS 1) :: (1, .LdC 1) :: (1, .StC 1) :: (1, .Hs 2) :: tail46
/-- What is left when the program comes to its part 44. -/
def tail44 : List (Fin 4 × Stp) := (1, .HwR 1) :: tail45
/-- What is left when the program comes to its part 43. -/
def tail43 : List (Fin 4 × Stp) := (0, .Ew 1) :: (0, .Ww 1) :: (0, .Es 2) :: (0, .Ws 2) :: (1, .HwS 1) :: tail44
/-- What is left when the program comes to its part 42. -/
def tail42 : List (Fin 4 × Stp) := (1, .Hs 1) :: (1, .Ss 1) :: (0, .ERX 1) :: (0, .WRX 1) :: tail43
/-- What is left when the program comes to its part 41. -/
def tail41 : List (Fin 4 × Stp) := (1, .Sw 0) :: (1, .LdC 0) :: (1, .LdS 0) :: (1, .LdC 0) :: (1, .StC 0) :: tail42
/-- What is left when the program comes to its part 40. -/
def tail40 : List (Fin 4 × Stp) := (1, .HwS 0) :: (1, .HwR 0) :: tail41
/-- What is left when the program comes to its part 39. -/
def tail39 : List (Fin 4 × Stp) := (0, .Ww 0) :: (0, .Es 1) :: (0, .Ws 1) :: tail40
/-- What is left when the program comes to its part 38. -/
def tail38 : List (Fin 4 × Stp) := (1, .Ss 0) :: (0, .ERX 0) :: (0, .WRX 0) :: (0, .Ew 0) :: tail39
/-- What is left when the program comes to its part 37. -/
def tail37 : List (Fin 4 × Stp) := (0, .Ws 0) :: (1, .Hs 0) :: tail38
/-- What is left when the program comes to its part 36. -/
def tail36 : List (Fin 4 × Stp) := (0, .LdO) :: (0, .StO) :: (0, .Xo) :: (0, .Es 0) :: tail37
/-- What is left when the program comes to its part 35. -/
def tail35 : List (Fin 4 × Stp) := (0, .HwS 2) :: (0, .HwR 2) :: (0, .Sw 2) :: (0, .LdC 2) :: (0, .LdS 2) :: tail36
/-- What is left when the program comes to its part 34. -/
def tail34 : List (Fin 4 × Stp) := (0, .Hs 2) :: (0, .Ss 2) :: tail35
/-- What is left when the program comes to its part 33. -/
def tail33 : List (Fin 4 × Stp) := (0, .Sw 1) :: (0, .LdC 1) :: (0, .LdS 1) :: (0, .LdC 1) :: (0, .StC 1) :: tail34
/-- What is left when the program comes to its part 32. -/
def tail32 : List (Fin 4 × Stp) := (0, .HwS 1) :: (0, .HwR 1) :: tail33
/-- What is left when the program comes to its part 31. -/
def tail31 : List (Fin 4 × Stp) := (0, .Hs 1) :: (0, .Ss 1) :: tail32
/-- What is left when the program comes to its part 30. -/
def tail30 : List (Fin 4 × Stp) := (0, .Sw 0) :: (0, .LdC 0) :: (0, .LdS 0) :: (0, .LdC 0) :: (0, .StC 0) :: tail31
/-- What is left when the program comes to its part 29. -/
def tail29 : List (Fin 4 × Stp) := (0, .HwS 0) :: (0, .HwR 0) :: tail30
/-- What is left when the program comes to its part 28. -/
def tail28 : List (Fin 4 × Stp) := (0, .Ss 0) :: tail29
/-- What is left when the program comes to its part 27. -/
def tail27 : List (Fin 4 × Stp) := (0, .Hs 0) :: tail28

/-- All the steps, in the program's order. -/
abbrev prog : List (Fin 4 × Stp) := tail27

end Cert.KernelIdeal.Rs
-- ==== Proof.AccountKernelIdeal.lean ====
/-
# What a sub-strip starts with covers what its steps need

A sub-strip starts with the rights to pay and the places at its cells, the promised counts, the regions of the other devices
that it fills and its own regions (`Init`). Its steps need no more (`th_intro`), and what they leave is `Fin4`: all its own
regions, the pieces of the result summed.
-/
module

public import proofs.«01_k».proof.Proof.OpsKernelIdeal
public import proofs.«01_k».proof.Proof.ProgKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Conjunctions over three, four, and the origins -/

omit [FloatOps F] in
/-- A conjunction over three, written out. -/
theorem b3 (Φ : Fin 3 → sProp 𝕄) : bigSep Finset.univ Φ = iprop(Φ 0 ∗ Φ 1 ∗ Φ 2) := bigSep_univ_eq_bigSepL [0, 1, 2] (by decide) (by decide) Φ
omit [FloatOps F] in
/-- A conjunction over four, written out. -/
theorem b4 (Φ : Fin 4 → sProp 𝕄) : bigSep Finset.univ Φ = iprop(Φ 0 ∗ Φ 1 ∗ Φ 2 ∗ Φ 3) := bigSep_univ_eq_bigSepL [0, 1, 2, 3] (by decide) (by decide) Φ

/-- Two parts under one condition, put together, -/
theorem opt_sep (b : Bool) (X Y : sProp 𝕄) : iprop(opt b X ∗ opt b Y) ⊢ opt b iprop(X ∗ Y) := by
  cases b
  · exact sep_elim_left
  · exact .rfl
/-- and taken apart. -/
theorem opt_sep' (b : Bool) (X Y : sProp 𝕄) : opt b iprop(X ∗ Y) ⊢ iprop(opt b X ∗ opt b Y) := by
  cases b
  · iintro -; isplitl <;> · unfold opt; iempintro
  · exact .rfl

/-- The origins by place: a device's own, those below it and those above. -/
theorem org (c : Dev nD) :
    (zc c = 0 ∧ (aE c 1 = false ∧ aE c 2 = false ∧ aE c 3 = false) ∧ (aW c 1 = true ∧ aW c 2 = true ∧ aW c 3 = true) ∧ oW c 1 = 1 ∧ oW c 2 = 2 ∧ oW c 3 = 3)
    ∨ (zc c = 1 ∧ (aE c 1 = true ∧ aE c 2 = false ∧ aE c 3 = false) ∧ (aW c 1 = true ∧ aW c 2 = true ∧ aW c 3 = false) ∧ oE c 1 = 0 ∧ oW c 1 = 2 ∧ oW c 2 = 3)
    ∨ (zc c = 2 ∧ (aE c 1 = true ∧ aE c 2 = true ∧ aE c 3 = false) ∧ (aW c 1 = true ∧ aW c 2 = false ∧ aW c 3 = false) ∧ oE c 1 = 1 ∧ oE c 2 = 0 ∧ oW c 1 = 3)
    ∨ (zc c = 3 ∧ (aE c 1 = true ∧ aE c 2 = true ∧ aE c 3 = true) ∧ (aW c 1 = false ∧ aW c 2 = false ∧ aW c 3 = false) ∧ oE c 1 = 2 ∧ oE c 2 = 1 ∧ oE c 3 = 0) := by
  revert c; decide +kernel

/-- A conjunction over the origins, by place. -/
def byPlace (c : Dev nD) (Φ : Fin 4 → sProp 𝕄) : sProp 𝕄 :=
  iprop(Φ (zc c) ∗ (bigSep Finset.univ fun t : Fin 3 => opt (aE c t.succ) (Φ (oE c t.succ)))
    ∗ (bigSep Finset.univ fun t : Fin 3 => opt (aW c t.succ) (Φ (oW c t.succ))))

omit [FloatOps F] in
/-- Two assertions that entail each other are equal. -/
theorem ent_eq {X Y : sProp 𝕄} (h : X ⊢ Y) (h' : Y ⊢ X) : X = Y := BI.equiv_iff.mp ⟨h, h'⟩

omit [FloatOps F] in
/-- Four pieces as a device at place 0 meets them: its own, those from below, those from above, -/
theorem perm_z0 (X Y Z W : sProp 𝕄) : iprop(X ∗ Y ∗ Z ∗ W) = iprop(X ∗ (emp ∗ emp ∗ emp) ∗ (Y ∗ Z ∗ W)) := by
  refine ent_eq ?_ ?_
  · iintro ⟨HX, HY, HZ, HW⟩; isplitl [HX]; · iexact HX
    isplitr; · isplitr; · iempintro
               isplitr <;> iempintro
    isplitl [HY]; · iexact HY
    isplitl [HZ] <;> iassumption
  · iintro ⟨HX, -, HY, HZ, HW⟩; isplitl [HX]; · iexact HX
    isplitl [HY]; · iexact HY
    isplitl [HZ] <;> iassumption
omit [FloatOps F] in
/-- at place 1, -/
theorem perm_z1 (X Y Z W : sProp 𝕄) : iprop(X ∗ Y ∗ Z ∗ W) = iprop(Y ∗ (X ∗ emp ∗ emp) ∗ (Z ∗ W ∗ emp)) := by
  refine ent_eq ?_ ?_
  · iintro ⟨HX, HY, HZ, HW⟩; isplitl [HY]; · iexact HY
    isplitl [HX]
    · isplitl [HX]; · iexact HX
      isplitr <;> iempintro
    isplitl [HZ]; · iexact HZ
    isplitl [HW]; · iexact HW
    iempintro
  · iintro ⟨HY, ⟨HX, -⟩, HZ, HW, -⟩; isplitl [HX]; · iexact HX
    isplitl [HY]; · iexact HY
    isplitl [HZ] <;> iassumption
omit [FloatOps F] in
/-- at place 2, -/
theorem perm_z2 (X Y Z W : sProp 𝕄) : iprop(X ∗ Y ∗ Z ∗ W) = iprop(Z ∗ (Y ∗ X ∗ emp) ∗ (W ∗ emp ∗ emp)) := by
  refine ent_eq ?_ ?_
  · iintro ⟨HX, HY, HZ, HW⟩; isplitl [HZ]; · iexact HZ
    isplitl [HX HY]
    · isplitl [HY]; · iexact HY
      isplitl [HX]; · iexact HX
      iempintro
    isplitl [HW]; · iexact HW
    isplitr <;> iempintro
  · iintro ⟨HZ, ⟨HY, HX, -⟩, HW, -⟩; isplitl [HX]; · iexact HX
    isplitl [HY]; · iexact HY
    isplitl [HZ] <;> iassumption
omit [FloatOps F] in
/-- at place 3. -/
theorem perm_z3 (X Y Z W : sProp 𝕄) : iprop(X ∗ Y ∗ Z ∗ W) = iprop(W ∗ (Z ∗ Y ∗ X) ∗ (emp ∗ emp ∗ emp)) := by
  refine ent_eq ?_ ?_
  · iintro ⟨HX, HY, HZ, HW⟩; isplitl [HW]; · iexact HW
    isplitl [HX HY HZ]
    · isplitl [HZ]; · iexact HZ
      isplitl [HY] <;> iassumption
    isplitr; · iempintro
    isplitr <;> iempintro
  · iintro ⟨HW, ⟨HZ, HY, HX⟩, -⟩; isplitl [HX]; · iexact HX
    isplitl [HY]; · iexact HY
    isplitl [HZ] <;> iassumption

/-- A conjunction over the four origins is that over the device's own and those on its two sides. -/
theorem byPlace_eq (c : Dev nD) (Φ : Fin 4 → sProp 𝕄) : bigSep Finset.univ Φ = byPlace c Φ := by
  unfold byPlace
  rw [b4, b3, b3]
  show _ = iprop(Φ (zc c) ∗ (opt (aE c 1) (Φ (oE c 1)) ∗ opt (aE c 2) (Φ (oE c 2)) ∗ opt (aE c 3) (Φ (oE c 3)))
    ∗ (opt (aW c 1) (Φ (oW c 1)) ∗ opt (aW c 2) (Φ (oW c 2)) ∗ opt (aW c 3) (Φ (oW c 3))))
  rcases org c with ⟨hz, ⟨e1, e2, e3⟩, ⟨w1, w2, w3⟩, o1, o2, o3⟩ | ⟨hz, ⟨e1, e2, e3⟩, ⟨w1, w2, w3⟩, o1, o2, o3⟩
    | ⟨hz, ⟨e1, e2, e3⟩, ⟨w1, w2, w3⟩, o1, o2, o3⟩ | ⟨hz, ⟨e1, e2, e3⟩, ⟨w1, w2, w3⟩, o1, o2, o3⟩ <;>
  rw [hz, e1, e2, e3, w1, w2, w3, o1, o2, o3] <;> simp only [opt_true, opt_false]
  · exact perm_z0 _ _ _ _
  · exact perm_z1 _ _ _ _
  · exact perm_z2 _ _ _ _
  · exact perm_z3 _ _ _ _

/-! ## The cells of a sub-strip -/

/-- Something at each cell of a sub-strip. -/
def fam (Φ : CK → sProp 𝕄) (k : Fin 4) : sProp 𝕄 :=
  iprop(Φ (.cp k) ∗ (bigSep Finset.univ fun s : Fin 3 => Φ (.ps k s)) ∗ (bigSep Finset.univ fun s : Fin 3 => Φ (.pr k s))
    ∗ (bigSep Finset.univ fun t : Fin 3 => Φ (.es k t)) ∗ (bigSep Finset.univ fun t : Fin 3 => Φ (.er k t))
    ∗ (bigSep Finset.univ fun t : Fin 3 => Φ (.ws k t)) ∗ (bigSep Finset.univ fun t : Fin 3 => Φ (.wr k t))
    ∗ (bigSep Finset.univ fun o : Fin 4 => Φ (.xs k o)) ∗ (bigSep Finset.univ fun o : Fin 4 => Φ (.xr k o)))

/-- The names of a sub-strip's cells, and of all cells, as a sum of ranges. -/
abbrev SubIx := Unit ⊕ Fin 3 ⊕ Fin 3 ⊕ Fin 3 ⊕ Fin 3 ⊕ Fin 3 ⊕ Fin 3 ⊕ Fin 4 ⊕ Fin 4
/-- The name of a sub-strip's cell. -/
def subName (k : Fin 4) : SubIx → CK
  | .inl _ => .cp k
  | .inr (.inl s) => .ps k s
  | .inr (.inr (.inl s)) => .pr k s
  | .inr (.inr (.inr (.inl s))) => .es k s
  | .inr (.inr (.inr (.inr (.inl s)))) => .er k s
  | .inr (.inr (.inr (.inr (.inr (.inl s))))) => .ws k s
  | .inr (.inr (.inr (.inr (.inr (.inr (.inl s)))))) => .wr k s
  | .inr (.inr (.inr (.inr (.inr (.inr (.inr (.inl s))))))) => .xs k s
  | .inr (.inr (.inr (.inr (.inr (.inr (.inr (.inr s))))))) => .xr k s
/-- The number of a cell: the staging one, or a sub-strip's. -/
def poolIx : Unit ⊕ (Fin 4 × SubIx) → Fin 109
  | .inl _ => ix .st
  | .inr x => ix (subName x.1 x.2)

/-- Every number is a cell's, of one sub-strip. -/
theorem poolIx_bij : Function.Bijective poolIx := by
  rw [Fintype.bijective_iff_surjective_and_card]
  exact ⟨by intro i; revert i; decide +kernel, by decide +kernel⟩

/-- A conjunction over a sub-strip's cells, sorted by kind. -/
theorem fam_eq (Φ : CK → sProp 𝕄) (k : Fin 4) : (bigSep Finset.univ fun j : SubIx => Φ (subName k j)) = fam Φ k := by
  rw [bigSep_univ_sum, bigSep_univ_sum, bigSep_univ_sum, bigSep_univ_sum, bigSep_univ_sum, bigSep_univ_sum, bigSep_univ_sum, bigSep_univ_sum,
    bigSep_univ_eq_bigSepL [()] (by decide) (by decide)]
  rfl

/-- A conjunction over the pool of transfer semaphores: the pipeline's, and each sub-strip's. -/
theorem pool_split (Ψ : Fin 109 → sProp 𝕄) :
    bigSep Finset.univ Ψ = iprop(Ψ 0 ∗ bigSep Finset.univ fun k : Fin 4 => fam (fun q => Ψ (ix q)) k) := by
  rw [bigSep_univ_equiv (Equiv.ofBijective poolIx poolIx_bij) Ψ, bigSep_univ_sum, bigSep_univ_eq_bigSepL [()] (by decide) (by decide),
    bigSep_univ_prod]
  refine congrArg₂ BI.sep rfl ?_
  exact bigSep_congr fun k _ => fam_eq (fun q => Ψ (ix q)) k

/-- What follows at each cell follows at all of a sub-strip's. -/
theorem fam_mono {Φ Ψ : CK → sProp 𝕄} (k : Fin 4) (h : ∀ q, q ≠ .st → Φ q ⊢ Ψ q) : fam Φ k ⊢ fam Ψ k := by
  rw [← fam_eq, ← fam_eq]
  exact bigSep_mono fun j _ => h _ (by rcases j with _ | _ | _ | _ | _ | _ | _ | _ | _ <;> simp [subName])

/-! ## The start and the end of a sub-strip -/

/-- The rights to pay that a sub-strip uses. -/
def toks (c : Dev nD) (k : Fin 4) : sProp 𝕄 :=
  iprop((bigSep Finset.univ fun s : Fin 3 => tok c (.ps k s) 0) ∗ (bigSep Finset.univ fun s : Fin 3 => tok (right c) (.pr k s) 0)
    ∗ (bigSep Finset.univ fun s : Fin 3 => tok c (.cp k) s.val)
    ∗ (bigSep Finset.univ fun t : Fin 3 => tok c (.es k t) 0) ∗ (bigSep Finset.univ fun t : Fin 3 => tok (up c) (.er k t) 0)
    ∗ (bigSep Finset.univ fun t : Fin 3 => tok c (.ws k t) 0) ∗ (bigSep Finset.univ fun t : Fin 3 => tok (dn c) (.wr k t) 0)
    ∗ (bigSep Finset.univ fun o : Fin 4 => tok c (.xs k o) 0) ∗ (bigSep Finset.univ fun o : Fin 4 => tok (xp c) (.xr k o) 0))
/-- The counts promised to a sub-strip by the other devices. -/
def crds (c : Dev nD) (k : Fin 4) : sProp 𝕄 :=
  iprop((bigSep Finset.univ fun s : Fin 3 => crd c (.pr k s))
    ∗ (bigSep Finset.univ fun t : Fin 3 => opt (aE c t.succ) (crd c (.er k t))) ∗ (bigSep Finset.univ fun t : Fin 3 => opt (aW c t.succ) (crd c (.wr k t)))
    ∗ (bigSep Finset.univ fun o : Fin 4 => crd c (.xr k o)))
/-- The blocks of the argument that a sub-strip reads. -/
def args (c : Dev nD) (k : Fin 4) : sProp 𝕄 :=
  iprop(hold c (aM (nc c k) (ch c 0)) fullShare (A m c (nc c k) (ch c 0))
    ∗ bigSep Finset.univ fun s : Fin 3 => hold c (aM (nc c k) (ch c (f4 (s.val + 1)))) fullShare (blkA m c k s))

/-- What a sub-strip starts with. -/
def Init (c : Dev nD) (k : Fin 4) : sProp 𝕄 :=
  iprop(opn c (.cp k) 0 ∗ fam (fun q => pos c q 0) k ∗ toks c k ∗ crds c k ∗ (hDst (F := F) c k ∗ xDst (F := F) c k ∗ eDst (F := F) c k ∗ wDst (F := F) c k)
    ∗ args m c k ∗ any (F := F) c (sM k) ∗ any (F := F) c (oM (nc c k)))

/-- The owner's place at a cell that no later round uses. -/
def pe (c : Dev nD) (q : CK) : sProp 𝕄 := iprop(∃ r, ⌜∀ r', r ≤ r' → act c q r' = false⌝ ∗ pos c q r)

/-- What a sub-strip ends with. -/
def Fin4 (c : Dev nD) (k : Fin 4) : sProp 𝕄 :=
  iprop(fam (pe (F := F) c) k ∗ (bigSep Finset.univ fun s : Fin 3 => any (F := F) c (cM k s)) ∗ any (F := F) c (sM k) ∗ args m c k
    ∗ (bigSep Finset.univ fun o : Fin 4 => piece m c (pc c o k) fullShare) ∗ (bigSep Finset.univ fun o : Fin 4 => piece m c (pc (xp c) o k) fullShare))

/-- A place past the last active round is the end of a cell. -/
theorem pe_intro {c : Dev nD} {q : CK} (r : ℕ) (h : ∀ r', r ≤ r' → act c q r' = false) : pos c q r ⊢ pe (F := F) c q := by
  unfold pe; iintro H; iexists r; isplitr
  · ipureintro; exact h
  · iexact H

/-- A cell of one round, past it. -/
theorem pe_one {c : Dev nD} {q : CK} (h : ∀ r, act c q (r + 1) = false) : pos c q 1 ⊢ pe (F := F) c q :=
  pe_intro 1 fun r' hr => by obtain ⟨r, rfl⟩ : ∃ r, r' = r + 1 := ⟨r' - 1, by omega⟩; exact h r
/-- The place past the only round is the end of a cell. -/
theorem pe_fin {c : Dev nD} {q : CK} (h : ∀ r, act c q (r + 1) = false) : fin c q ⊢ pe (F := F) c q := by
  unfold fin
  by_cases ha : act c q 0 = true
  · rw [if_pos ha]; exact pe_one h
  · rw [if_neg ha]
    refine pe_intro 0 fun r' _ => ?_
    cases r' with
    | zero => exact Bool.eq_false_iff.mpr ha
    | succ r => exact h r
/-- The place past the third round is the end of a staging copy's cell. -/
theorem pe_cp {c : Dev nD} {k : Fin 4} : pos c (.cp k) 3 ⊢ pe (F := F) c (.cp k) :=
  pe_intro 3 fun r' hr => decide_eq_false (by omega)

/-- A region held at some value is held. -/
theorem any_of {c : Dev nD} {sp : Space} {M : Memref sig .tc sp S128x1024 .f32} {v : Blk F} : hold c M fullShare v ⊢ any (F := F) c M := by
  unfold any; iintro H; iexists v; iexact H

/-! ## Resources by place -/

/-- The means to send each piece across `x`, by place. -/
theorem xkits (c : Dev nD) (k : Fin 4) :
    iprop((bigSep Finset.univ fun o : Fin 4 => tok c (.xs k o) 0) ∗ (bigSep Finset.univ fun o : Fin 4 => tok (xp c) (.xr k o) 0) ∗ xDst (F := F) c k)
      ⊢ byPlace c (fun o => xKit (F := F) c k o) := by
  rw [← byPlace_eq]
  unfold xKit xDst
  rw [bigSep_sep', bigSep_sep']

/-- The piece a device summed, for the next `z` and for the `z` before. -/
theorem eP_zero (c : Dev nD) (k : Fin 4) : eP m c k (Fin.castSucc 0) = piece m c (nc c k) qE := by
  have h1 : ∀ c : Dev nD, aE c 0 = true := by decide +kernel
  have h2 : ∀ c : Dev nD, oE c 0 = zc c := by decide +kernel
  show eP m c k 0 = _
  unfold eP; rw [h1, h2]; rfl
/-- The device's own piece is the first to go downwards. -/
theorem wP_zero (c : Dev nD) (k : Fin 4) : wP m c k (Fin.castSucc 0) = piece m c (nc c k) qW := by
  have h1 : ∀ c : Dev nD, aW c 0 = true := by decide +kernel
  have h2 : ∀ c : Dev nD, oW c 0 = zc c := by decide +kernel
  show wP m c k 0 = _
  unfold wP; rw [h1, h2]; rfl

/-- The three shares of the pieces of a half, by place, are the pieces. -/
theorem pieces_join (c : Dev nD) (k : Fin 4) :
    iprop((bigSep Finset.univ fun o : Fin 4 => piece m c (pc c o k) qX)
      ∗ (eP m c k (Fin.castSucc 0) ∗ (bigSep Finset.univ fun t : Fin 3 => eP m c k t.succ)
        ∗ bigSep Finset.univ fun t : Fin 3 => opt (aW c t.succ) (piece m c (pc c (oW c t.succ) k) qE))
      ∗ (wP m c k (Fin.castSucc 0) ∗ (bigSep Finset.univ fun t : Fin 3 => opt (aE c t.succ) (piece m c (pc c (oE c t.succ) k) qW))
        ∗ bigSep Finset.univ fun t : Fin 3 => wP m c k t.succ))
      ⊢ bigSep Finset.univ fun o : Fin 4 => piece m c (pc c o k) fullShare := by
  rw [eP_zero, wP_zero]
  have hE := byPlace_eq c (fun o : Fin 4 => piece m c (pc c o k) qE)
  have hW := byPlace_eq c (fun o : Fin 4 => piece m c (pc c o k) qW)
  unfold byPlace at hE hW
  unfold eP wP
  rw [← hE, ← hW, ← bigSep_sep', ← bigSep_sep']
  exact bigSep_mono fun o _ => piece_join m (pc c o k)

end Cert.KernelIdeal.Rs
-- ==== Proof.StripKernelIdeal.lean ====
/-
# A sub-strip's steps, one after the other
-/
module

public import proofs.«01_k».proof.Proof.AccountKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The steps of a sub-strip, along the ring, -/
def hopSteps (s : Fin 3) (l : List Stp) : List Stp := .Hs s :: .Ss s :: .HwS s :: .HwR s :: .Sw s :: .LdC s :: .LdS s :: l
/-- along `z`, -/
def zSteps (t : Fin 3) (l : List Stp) : List Stp := .Es t :: .Ws t :: .ERX t :: .WRX t :: .Ew t :: .Ww t :: l
/-- and across `x`. -/
def xSteps (o : Fin 4) (l : List Stp) : List Stp := .XRw o :: .XSw o :: l

/-- A sub-strip's steps, in order: three hops, the store, the pieces over `z`, the waits over `x`. -/
theorem sub_prog (k : Fin 4) : sub k prog
    = hopSteps 0 (.LdC 0 :: .StC 0 :: hopSteps 1 (.LdC 1 :: .StC 1 :: hopSteps 2 (.LdO :: .StO :: .Xo
        :: zSteps 0 (zSteps 1 (zSteps 2 (xSteps 0 (xSteps 1 (xSteps 2 (xSteps 3 [])))))))))  := by
  revert k; decide +kernel

variable {Z : Fin 4 → sProp (MT nD τ sig Unit (Elt F) ℕ UU ℕ)} {c : Dev nD} {k : Fin 4} {l : List Stp}

/-- One step. -/
theorem th_cons (s : Stp) {X Y : sProp 𝕄} (hn : X ⊢ iprop(need m c k s ∗ Y)) (hg : iprop(give m c k s ∗ Y) ⊢ Th m Z c k l) : X ⊢ Th m Z c k (s :: l) := by
  show X ⊢ iprop(need m c k s ∗ (give m c k s -∗ Th m Z c k l))
  refine hn.trans ?_
  iintro ⟨Hn, HY⟩
  isplitl [Hn]; · iexact Hn
  iintro Hg
  iapply hg
  isplitl [Hg]; · iexact Hg
  iexact HY

/-- What one step of the ring takes besides its source, the stage and the landing slot, and leaves. -/
def hopIn (c : Dev nD) (k : Fin 4) (s : Fin 3) : sProp 𝕄 :=
  iprop((tok c (.ps k s) 0 ∗ tok (right c) (.pr k s) 0 ∗ tok c (.cp k) s.val) ∗ (pos c (.ps k s) 0 ∗ pos c (.pr k s) 0) ∗ crd c (.pr k s)
    ∗ any (F := F) (right c) (cM k s) ∗ hold c (aM (nc c k) (ch c (f4 (s.val + 1)))) fullShare (blkA m c k s))
/-- What a hop of the ring leaves. -/
def hopOut (c : Dev nD) (k : Fin 4) (s : Fin 3) : sProp 𝕄 :=
  iprop((pos c (.ps k s) 1 ∗ pos c (.pr k s) 1) ∗ hold c (aM (nc c k) (ch c (f4 (s.val + 1)))) fullShare (blkA m c k s))

/-- The steps of a hop need what it takes and leave what it leaves. -/
theorem th_hop (s : Fin 3) {R : sProp 𝕄}
    (h : iprop(hopOut m c k s ∗ hopSrc m c k s ∗ (opn c (.cp k) (s.val + 1) ∗ pos c (.cp k) (s.val + 1)) ∗ any (F := F) c (sM k)
      ∗ hold c (cM k s) fullShare (P m c k s.val) ∗ R) ⊢ Th m Z c k l) :
    iprop(hopIn m c k s ∗ hopSrc m c k s ∗ (opn c (.cp k) s.val ∗ pos c (.cp k) s.val) ∗ any (F := F) c (sM k) ∗ R) ⊢ Th m Z c k (hopSteps s l) := by
  unfold hopSteps hopIn hopOut at *
  simp only [Th, need, give]
  iintro ⟨⟨⟨T1, T2, T3⟩, ⟨P1, P2⟩, C, D, HA⟩, HS, ⟨HO, P3⟩, Hst, HR⟩
  isplitl [T1 T2 HS D]
  · isplitl [T1]; · iexact T1
    isplitl [T2]; · iexact T2
    isplitl [HS]; · iexact HS
    iexact D
  iintro C1
  isplitl [HO T3 HA Hst]
  · isplitl [HO]; · iexact HO
    isplitl [T3]; · iexact T3
    isplitl [HA]; · iexact HA
    iexact Hst
  iintro C2
  isplitl [P1 C1]
  · isplitl [P1] <;> iassumption
  iintro ⟨P1, HS⟩
  isplitl [P2 C]
  · isplitl [P2] <;> iassumption
  iintro ⟨P2, HC⟩
  isplitl [P3 C2]
  · isplitl [P3] <;> iassumption
  iintro ⟨P3, HO, HA, Hst⟩
  isplitl [HC]; · iexact HC
  iintro HC
  isplitl [Hst]; · iexact Hst
  iintro Hst
  iapply h
  isplitl [P1 P2 HA]
  · isplitl [P1 P2]
    · isplitl [P1] <;> iassumption
    iexact HA
  isplitl [HS]; · iexact HS
  isplitl [HO P3]
  · isplitl [HO] <;> iassumption
  isplitl [Hst]; · iapply any_of $$ Hst
  isplitl [HC]; · iexact HC
  iexact HR

/-- What one step along `z` takes besides the pieces, and leaves. -/
def zIn (c : Dev nD) (k : Fin 4) (t : Fin 3) : sProp 𝕄 :=
  iprop((tok c (.es k t) 0 ∗ tok (up c) (.er k t) 0 ∗ tok c (.ws k t) 0 ∗ tok (dn c) (.wr k t) 0)
    ∗ (pos c (.es k t) 0 ∗ pos c (.er k t) 0 ∗ pos c (.ws k t) 0 ∗ pos c (.wr k t) 0)
    ∗ (opt (aE c t.succ) (crd c (.er k t)) ∗ opt (aW c t.succ) (crd c (.wr k t)))
    ∗ (opt (sE c t) (any (F := F) (up c) (oM (pc c (oE c t.castSucc) k))) ∗ opt (sW c t) (any (F := F) (dn c) (oM (pc c (oW c t.castSucc) k))))
    ∗ (opt (aE c t.succ) (xKit (F := F) c k (oE c t.succ)) ∗ opt (aW c t.succ) (xKit (F := F) c k (oW c t.succ))))
/-- What a round over `z` leaves. -/
def zOut (c : Dev nD) (k : Fin 4) (t : Fin 3) : sProp 𝕄 :=
  iprop((fin c (.es k t) ∗ fin c (.er k t) ∗ fin c (.ws k t) ∗ fin c (.wr k t))
    ∗ (opt (aE c t.succ) (crd c (.xs k (oE c t.succ))) ∗ opt (aE c t.succ) (piece m c (pc c (oE c t.succ) k) qW))
    ∗ (opt (aW c t.succ) (crd c (.xs k (oW c t.succ))) ∗ opt (aW c t.succ) (piece m c (pc c (oW c t.succ) k) qE)))

/-- The steps of a round over `z` need what it takes and leave what it leaves. -/
theorem th_z (t : Fin 3) {R : sProp 𝕄}
    (h : iprop(zOut m c k t ∗ (eP m c k t.succ ∗ wP m c k t.succ) ∗ (eP m c k t.castSucc ∗ wP m c k t.castSucc) ∗ R) ⊢ Th m Z c k l) :
    iprop(zIn (F := F) c k t ∗ (eP m c k t.castSucc ∗ wP m c k t.castSucc) ∗ R) ⊢ Th m Z c k (zSteps t l) := by
  unfold zSteps zIn zOut at *
  simp only [Th, need, give]
  iintro ⟨⟨⟨T1, T2, T3, T4⟩, ⟨P1, P2, P3, P4⟩, ⟨CE, CW⟩, ⟨DE, DW⟩, ⟨XE, XW⟩⟩, ⟨HE, HW⟩, HR⟩
  isplitl [T1 T2 DE HE]
  · isplitl [T1]; · iexact T1
    isplitl [T2]; · iexact T2
    isplitl [DE]; · iexact DE
    iexact HE
  iintro ME
  isplitl [T3 T4 DW HW]
  · isplitl [T3]; · iexact T3
    isplitl [T4]; · iexact T4
    isplitl [DW]; · iexact DW
    iexact HW
  iintro MW
  isplitl [P2 CE XE]
  · isplitl [P2]; · iexact P2
    iapply (opt_sep _ _ _)
    isplitl [CE] <;> iassumption
  iintro ⟨P2, NE, GE⟩
  isplitl [P4 CW XW]
  · isplitl [P4]; · iexact P4
    iapply (opt_sep _ _ _)
    isplitl [CW] <;> iassumption
  iintro ⟨P4, NW, GW⟩
  isplitl [P1 ME]
  · isplitl [P1] <;> iassumption
  iintro ⟨P1, HE⟩
  isplitl [P3 MW]
  · isplitl [P3] <;> iassumption
  iintro ⟨P3, HW⟩
  iapply h
  isplitl [P1 P2 P3 P4 GE GW]
  · isplitl [P1 P2 P3 P4]
    · isplitl [P1]; · iexact P1
      isplitl [P2]; · iexact P2
      isplitl [P3] <;> iassumption
    isplitl [GE]
    · iapply (opt_sep' _ _ _) $$ GE
    · iapply (opt_sep' _ _ _) $$ GW
  isplitl [NE NW]
  · isplitl [NE] <;> iassumption
  isplitl [HE HW]
  · isplitl [HE] <;> iassumption
  iexact HR

/-- What one last wait takes and leaves. -/
def xIn (c : Dev nD) (k : Fin 4) (o : Fin 4) : sProp 𝕄 := iprop((pos c (.xr k o) 0 ∗ crd c (.xr k o)) ∗ (pos c (.xs k o) 0 ∗ crd c (.xs k o)))
/-- What the waits for one origin over `x` leave. -/
def xOut (c : Dev nD) (k : Fin 4) (o : Fin 4) : sProp 𝕄 :=
  iprop((pos c (.xr k o) 1 ∗ piece m c (pc (xp c) o k) fullShare) ∗ (pos c (.xs k o) 1 ∗ piece m c (pc c o k) qX))

/-- The waits for one origin over `x` need what they take and leave what they leave. -/
theorem th_x (o : Fin 4) {R : sProp 𝕄} (h : iprop(xOut m c k o ∗ R) ⊢ Th m Z c k l) : iprop(xIn (F := F) c k o ∗ R) ⊢ Th m Z c k (xSteps o l) := by
  unfold xSteps xIn xOut at *
  simp only [Th, need, give]
  iintro ⟨⟨H1, H2⟩, HR⟩
  isplitl [H1]; · iexact H1
  iintro H1
  isplitl [H2]; · iexact H2
  iintro H2
  iapply h
  isplitl [H1 H2]
  · isplitl [H1] <;> iassumption
  iexact HR

/-- The last waits: all of them. -/
theorem th_xs {R : sProp 𝕄} (h : iprop((bigSep Finset.univ fun o : Fin 4 => xOut m c k o) ∗ R) ⊢ Th m Z c k []) :
    iprop((bigSep Finset.univ fun o : Fin 4 => xIn (F := F) c k o) ∗ R) ⊢ Th m Z c k (xSteps 0 (xSteps 1 (xSteps 2 (xSteps 3 [])))) := by
  rw [b4] at *
  iintro ⟨⟨H0, H1, H2, H3⟩, HR⟩
  iapply (th_x m (R := iprop(xIn (F := F) c k 1 ∗ xIn (F := F) c k 2 ∗ xIn (F := F) c k 3 ∗ R)) 0 ?_) $$ [H0 H1 H2 H3 HR]
  · iintro ⟨H0, H1, H2, H3, HR⟩
    iapply (th_x m (R := iprop(xOut m c k 0 ∗ xIn (F := F) c k 2 ∗ xIn (F := F) c k 3 ∗ R)) 1 ?_) $$ [H0 H1 H2 H3 HR]
    · iintro ⟨H1, H0, H2, H3, HR⟩
      iapply (th_x m (R := iprop(xOut m c k 0 ∗ xOut m c k 1 ∗ xIn (F := F) c k 3 ∗ R)) 2 ?_) $$ [H0 H1 H2 H3 HR]
      · iintro ⟨H2, H0, H1, H3, HR⟩
        iapply (th_x m (R := iprop(xOut m c k 0 ∗ xOut m c k 1 ∗ xOut m c k 2 ∗ R)) 3 ?_) $$ [H0 H1 H2 H3 HR]
        · iintro ⟨H3, H0, H1, H2, HR⟩
          iapply h
          isplitl [H0 H1 H2 H3]
          · isplitl [H0]; · iexact H0
            isplitl [H1]; · iexact H1
            isplitl [H2] <;> iassumption
          iexact HR
        · isplitl [H3]; · iexact H3
          isplitl [H0]; · iexact H0
          isplitl [H1]; · iexact H1
          isplitl [H2] <;> iassumption
      · isplitl [H2]; · iexact H2
        isplitl [H0]; · iexact H0
        isplitl [H1]; · iexact H1
        isplitl [H3] <;> iassumption
    · isplitl [H1]; · iexact H1
      isplitl [H0]; · iexact H0
      isplitl [H2]; · iexact H2
      isplitl [H3] <;> iassumption
  · isplitl [H0]; · iexact H0
    isplitl [H1]; · iexact H1
    isplitl [H2]; · iexact H2
    isplitl [H3] <;> iassumption

/-- The three steps along `z`. -/
theorem th_zs {R : sProp 𝕄}
    (h : iprop((bigSep Finset.univ fun t : Fin 3 => zOut m c k t) ∗ (eP m c k (Fin.castSucc 0) ∗ bigSep Finset.univ fun t : Fin 3 => eP m c k t.succ)
      ∗ (wP m c k (Fin.castSucc 0) ∗ bigSep Finset.univ fun t : Fin 3 => wP m c k t.succ) ∗ R) ⊢ Th m Z c k l) :
    iprop((bigSep Finset.univ fun t : Fin 3 => zIn (F := F) c k t) ∗ (eP m c k (Fin.castSucc 0) ∗ wP m c k (Fin.castSucc 0)) ∗ R)
      ⊢ Th m Z c k (zSteps 0 (zSteps 1 (zSteps 2 l))) := by
  rw [b3, b3, b3] at h
  rw [b3]
  iintro ⟨⟨H0, H1, H2⟩, HE, HR⟩
  iapply (th_z m (R := iprop(zIn (F := F) c k 1 ∗ zIn (F := F) c k 2 ∗ R)) 0 ?_) $$ [H0 H1 H2 HE HR]
  · iintro ⟨H0, E1, E0, H1, H2, HR⟩
    iapply (th_z m (R := iprop((eP m c k (Fin.castSucc 0) ∗ wP m c k (Fin.castSucc 0)) ∗ zOut m c k 0 ∗ zIn (F := F) c k 2 ∗ R)) 1 ?_) $$ [H0 H1 H2 E0 E1 HR]
    · iintro ⟨H1, E2, E1, E0, H0, H2, HR⟩
      iapply (th_z m (R := iprop((eP m c k (Fin.castSucc 1) ∗ wP m c k (Fin.castSucc 1)) ∗ (eP m c k (Fin.castSucc 0) ∗ wP m c k (Fin.castSucc 0))
        ∗ zOut m c k 0 ∗ zOut m c k 1 ∗ R)) 2 ?_) $$ [H0 H1 H2 E0 E1 E2 HR]
      · iintro ⟨H2, ⟨E3, W3⟩, ⟨E2, W2⟩, ⟨E1, W1⟩, ⟨E0, W0⟩, H0, H1, HR⟩
        iapply h
        isplitl [H0 H1 H2]
        · isplitl [H0]; · iexact H0
          isplitl [H1] <;> iassumption
        isplitl [E0 E1 E2 E3]
        · isplitl [E0]; · iexact E0
          isplitl [E1]; · iexact E1
          isplitl [E2]; · iexact E2
          iexact E3
        isplitl [W0 W1 W2 W3]
        · isplitl [W0]; · iexact W0
          isplitl [W1]; · iexact W1
          isplitl [W2]; · iexact W2
          iexact W3
        iexact HR
      · isplitl [H2]; · iexact H2
        isplitl [E2]; · iexact E2
        isplitl [E1]; · iexact E1
        isplitl [E0]; · iexact E0
        isplitl [H0]; · iexact H0
        isplitl [H1] <;> iassumption
    · isplitl [H1]; · iexact H1
      isplitl [E1]; · iexact E1
      isplitl [E0]; · iexact E0
      isplitl [H0]; · iexact H0
      isplitl [H2] <;> iassumption
  · isplitl [H0]; · iexact H0
    isplitl [HE]; · iexact HE
    isplitl [H1]; · iexact H1
    isplitl [H2] <;> iassumption

/-- The sources of the later hops are the sums in the landing slots. -/
theorem src_one (c : Dev nD) (k : Fin 4) : hopSrc m c k 1 = hold c (cM k 0) fullShare (U m c k (0 : Fin 3).val) := rfl
/-- The source of the third hop is the second slot with the sum so far. -/
theorem src_two (c : Dev nD) (k : Fin 4) : hopSrc m c k 2 = hold c (cM k 1) fullShare (U m c k (1 : Fin 3).val) := rfl

/-- The ring. -/
theorem th_hops {R : sProp 𝕄}
    (h : iprop((bigSep Finset.univ fun s : Fin 3 => hopOut m c k s) ∗ pos c (.cp k) 3 ∗ hopSrc m c k 0 ∗ any (F := F) c (sM k)
      ∗ (bigSep Finset.univ fun s : Fin 3 => any (F := F) c (cM k s)) ∗ any (F := F) c (oM (nc c k)) ∗ R)
      ⊢ Th m Z c k (.LdO :: l)) :
    iprop((bigSep Finset.univ fun s : Fin 3 => hopIn m c k s) ∗ (opn c (.cp k) 0 ∗ pos c (.cp k) 0) ∗ hopSrc m c k 0 ∗ any (F := F) c (sM k)
      ∗ any (F := F) c (oM (nc c k)) ∗ R)
      ⊢ Th m Z c k (hopSteps 0 (.LdC 0 :: .StC 0 :: hopSteps 1 (.LdC 1 :: .StC 1 :: hopSteps 2 (.LdO :: l)))) := by
  rw [b3, b3] at h
  rw [b3]
  iintro ⟨⟨H0, H1, H2⟩, Hp, HS, Hst, HR⟩
  iapply (th_hop m (R := iprop(hopIn m c k 1 ∗ hopIn m c k 2 ∗ any (F := F) c (oM (nc c k)) ∗ R)) 0 ?_) $$ [H0 H1 H2 Hp HS Hst HR]
  · simp only [Th, need, give]
    iintro ⟨H0, HS, Hp, Hst, HC, H1, H2, HR⟩
    isplitl [HC]; · iexact HC
    iintro HC
    isplitl [HC]; · iexact HC
    iintro HC
    iapply (th_hop m (R := iprop(hopOut m c k 0 ∗ hopSrc m c k 0 ∗ hopIn m c k 2 ∗ any (F := F) c (oM (nc c k)) ∗ R)) 1 ?_) $$ [H0 H1 H2 Hp HS HC Hst HR]
    · simp only [Th, need, give]
      iintro ⟨H1, HC0, Hp, Hst, HC, H0, HS, H2, HR⟩
      isplitl [HC]; · iexact HC
      iintro HC
      isplitl [HC]; · iexact HC
      iintro HC
      iapply (th_hop m (R := iprop(hopOut m c k 0 ∗ hopOut m c k 1 ∗ hopSrc m c k 0 ∗ hopSrc m c k 1 ∗ any (F := F) c (oM (nc c k)) ∗ R)) 2 ?_)
        $$ [H0 H1 H2 Hp HS HC0 HC Hst HR]
      · iintro ⟨H2, HC1, ⟨-, Hp⟩, Hst, HC, H0, H1, HS, HC0, HR⟩
        iapply h
        isplitl [H0 H1 H2]
        · isplitl [H0]; · iexact H0
          isplitl [H1] <;> iassumption
        isplitl [Hp]; · iexact Hp
        isplitl [HS]; · iexact HS
        isplitl [Hst]; · iexact Hst
        isplitl [HC0 HC1 HC]
        · isplitl [HC0]; · ihave HC0 := (Entails.of_eq (src_one m c k)) $$ HC0; iapply any_of $$ HC0
          isplitl [HC1]; · ihave HC1 := (Entails.of_eq (src_two m c k)) $$ HC1; iapply any_of $$ HC1
          iapply any_of $$ HC
        iexact HR
      · isplitl [H2]; · iexact H2
        isplitl [HC]; · iapply (Entails.of_eq (src_two m c k).symm) $$ HC
        isplitl [Hp]; · iexact Hp
        isplitl [Hst]; · iexact Hst
        isplitl [H0]; · iexact H0
        isplitl [H1]; · iexact H1
        isplitl [HS]; · iexact HS
        isplitl [HC0]; · iexact HC0
        iexact HR
    · isplitl [H1]; · iexact H1
      isplitl [HC]; · iapply (Entails.of_eq (src_one m c k).symm) $$ HC
      isplitl [Hp]; · iexact Hp
      isplitl [Hst]; · iexact Hst
      isplitl [H0]; · iexact H0
      isplitl [HS]; · iexact HS
      isplitl [H2]; · iexact H2
      iexact HR
  · isplitl [H0]; · iexact H0
    isplitl [HS]; · iexact HS
    isplitl [Hp]; · iexact Hp
    isplitl [Hst]; · iexact Hst
    isplitl [H1]; · iexact H1
    isplitl [H2]; · iexact H2
    iexact HR

/-! ## All the steps -/

/-- What the three hops take, sorted. -/
theorem hopIn_eq (c : Dev nD) (k : Fin 4) : (bigSep Finset.univ fun s : Fin 3 => hopIn m c k s)
    = iprop(((bigSep Finset.univ fun s : Fin 3 => tok c (.ps k s) 0) ∗ (bigSep Finset.univ fun s : Fin 3 => tok (right c) (.pr k s) 0)
        ∗ (bigSep Finset.univ fun s : Fin 3 => tok c (.cp k) s.val))
      ∗ ((bigSep Finset.univ fun s : Fin 3 => pos c (.ps k s) 0) ∗ (bigSep Finset.univ fun s : Fin 3 => pos c (.pr k s) 0))
      ∗ (bigSep Finset.univ fun s : Fin 3 => crd c (.pr k s)) ∗ hDst (F := F) c k
      ∗ bigSep Finset.univ fun s : Fin 3 => hold c (aM (nc c k) (ch c (f4 (s.val + 1)))) fullShare (blkA m c k s)) := by
  unfold hopIn hDst; simp only [bigSep_sep']

/-- What the three hops leave, sorted. -/
theorem hopOut_eq (c : Dev nD) (k : Fin 4) : (bigSep Finset.univ fun s : Fin 3 => hopOut m c k s)
    = iprop(((bigSep Finset.univ fun s : Fin 3 => pos c (.ps k s) 1) ∗ (bigSep Finset.univ fun s : Fin 3 => pos c (.pr k s) 1))
      ∗ bigSep Finset.univ fun s : Fin 3 => hold c (aM (nc c k) (ch c (f4 (s.val + 1)))) fullShare (blkA m c k s)) := by
  unfold hopOut; simp only [bigSep_sep']

/-- What the three rounds over `z` take, sorted. -/
theorem zIn_eq (c : Dev nD) (k : Fin 4) : (bigSep Finset.univ fun t : Fin 3 => zIn (F := F) c k t)
    = iprop(((bigSep Finset.univ fun t : Fin 3 => tok c (.es k t) 0) ∗ (bigSep Finset.univ fun t : Fin 3 => tok (up c) (.er k t) 0)
        ∗ (bigSep Finset.univ fun t : Fin 3 => tok c (.ws k t) 0) ∗ (bigSep Finset.univ fun t : Fin 3 => tok (dn c) (.wr k t) 0))
      ∗ ((bigSep Finset.univ fun t : Fin 3 => pos c (.es k t) 0) ∗ (bigSep Finset.univ fun t : Fin 3 => pos c (.er k t) 0)
        ∗ (bigSep Finset.univ fun t : Fin 3 => pos c (.ws k t) 0) ∗ (bigSep Finset.univ fun t : Fin 3 => pos c (.wr k t) 0))
      ∗ ((bigSep Finset.univ fun t : Fin 3 => opt (aE c t.succ) (crd c (.er k t))) ∗ (bigSep Finset.univ fun t : Fin 3 => opt (aW c t.succ) (crd c (.wr k t))))
      ∗ (eDst (F := F) c k ∗ wDst (F := F) c k)
      ∗ ((bigSep Finset.univ fun t : Fin 3 => opt (aE c t.succ) (xKit (F := F) c k (oE c t.succ)))
        ∗ (bigSep Finset.univ fun t : Fin 3 => opt (aW c t.succ) (xKit (F := F) c k (oW c t.succ))))) := by
  unfold zIn; simp only [bigSep_sep']; rfl

/-- What the three rounds over `z` leave, sorted. -/
theorem zOut_eq (c : Dev nD) (k : Fin 4) : (bigSep Finset.univ fun t : Fin 3 => zOut m c k t)
    = iprop(((bigSep Finset.univ fun t : Fin 3 => fin c (.es k t)) ∗ (bigSep Finset.univ fun t : Fin 3 => fin c (.er k t))
        ∗ (bigSep Finset.univ fun t : Fin 3 => fin c (.ws k t)) ∗ (bigSep Finset.univ fun t : Fin 3 => fin c (.wr k t)))
      ∗ ((bigSep Finset.univ fun t : Fin 3 => opt (aE c t.succ) (crd c (.xs k (oE c t.succ))))
        ∗ (bigSep Finset.univ fun t : Fin 3 => opt (aE c t.succ) (piece m c (pc c (oE c t.succ) k) qW)))
      ∗ ((bigSep Finset.univ fun t : Fin 3 => opt (aW c t.succ) (crd c (.xs k (oW c t.succ))))
        ∗ (bigSep Finset.univ fun t : Fin 3 => opt (aW c t.succ) (piece m c (pc c (oW c t.succ) k) qE)))) := by
  unfold zOut; simp only [bigSep_sep']

/-- What the waits over `x` take, sorted. -/
theorem xIn_eq (c : Dev nD) (k : Fin 4) : (bigSep Finset.univ fun o : Fin 4 => xIn (F := F) c k o)
    = iprop(((bigSep Finset.univ fun o : Fin 4 => pos c (.xr k o) 0) ∗ (bigSep Finset.univ fun o : Fin 4 => crd c (.xr k o)))
      ∗ ((bigSep Finset.univ fun o : Fin 4 => pos c (.xs k o) 0) ∗ (bigSep Finset.univ fun o : Fin 4 => crd c (.xs k o)))) := by
  unfold xIn; simp only [bigSep_sep']
/-- What the waits over `x` leave, sorted. -/
theorem xOut_eq (c : Dev nD) (k : Fin 4) : (bigSep Finset.univ fun o : Fin 4 => xOut m c k o)
    = iprop(((bigSep Finset.univ fun o : Fin 4 => pos c (.xr k o) 1) ∗ (bigSep Finset.univ fun o : Fin 4 => piece m c (pc (xp c) o k) fullShare))
      ∗ ((bigSep Finset.univ fun o : Fin 4 => pos c (.xs k o) 1) ∗ (bigSep Finset.univ fun o : Fin 4 => piece m c (pc c o k) qX))) := by
  unfold xOut; simp only [bigSep_sep']

/-- Cells past their one round are at their end. -/
theorem pes_one (c : Dev nD) {n : ℕ} (f : Fin n → CK) (h : ∀ i r, act c (f i) (r + 1) = false) :
    (bigSep Finset.univ fun i => pos c (f i) 1) ⊢ bigSep Finset.univ fun i => pe (F := F) c (f i) :=
  bigSep_mono fun i _ => pe_one (h i)
/-- Cells past their round, if they have one, are at their end. -/
theorem pes_fin (c : Dev nD) {n : ℕ} (f : Fin n → CK) (h : ∀ i r, act c (f i) (r + 1) = false) :
    (bigSep Finset.univ fun i => fin c (f i)) ⊢ bigSep Finset.univ fun i => pe (F := F) c (f i) :=
  bigSep_mono fun i _ => pe_fin (h i)

/-- What a sub-strip starts with is what its steps need; they leave what it ends with. -/
theorem th_intro (c : Dev nD) (k : Fin 4) : Init m c k ⊢ Th m (Fin4 m c) c k (sub k prog) := by
  have hA : hopSrc m c k 0 = hold c (aM (nc c k) (ch c 0)) fullShare (A m c (nc c k) (ch c 0)) := rfl
  have hX := byPlace_eq c (fun o : Fin 4 => crd (F := F) c (.xs k o))
  unfold byPlace at hX
  rw [sub_prog]
  unfold Init toks crds fam args
  rw [← hA]
  iintro ⟨Hop, ⟨Pcp, Pps, Ppr, Pes, Per, Pws, Pwr, Pxs, Pxr⟩, ⟨Tps, Tpr, Tcp, Tes, Ter, Tws, Twr, Txs, Txr⟩, ⟨Cpr, Cer, Cwr, Cxr⟩, ⟨DH, DX, DE, DW⟩,
    ⟨A0, AS⟩, HS, HO⟩
  ihave X := (xkits (F := F) c k) $$ [Txs Txr DX]
  · isplitl [Txs]; · iexact Txs
    isplitl [Txr] <;> iassumption
  unfold byPlace
  icases X with ⟨X0, XE, XW⟩
  ihave HH := (Entails.of_eq (hopIn_eq m c k).symm) $$ [Tps Tpr Tcp Pps Ppr Cpr DH AS]
  · isplitl [Tps Tpr Tcp]
    · isplitl [Tps]; · iexact Tps
      isplitl [Tpr] <;> iassumption
    isplitl [Pps Ppr]
    · isplitl [Pps] <;> iassumption
    isplitl [Cpr]; · iexact Cpr
    isplitl [DH] <;> iassumption
  ihave HZ := (Entails.of_eq (zIn_eq (F := F) c k).symm) $$ [Tes Ter Tws Twr Pes Per Pws Pwr Cer Cwr DE DW XE XW]
  · isplitl [Tes Ter Tws Twr]
    · isplitl [Tes]; · iexact Tes
      isplitl [Ter]; · iexact Ter
      isplitl [Tws] <;> iassumption
    isplitl [Pes Per Pws Pwr]
    · isplitl [Pes]; · iexact Pes
      isplitl [Per]; · iexact Per
      isplitl [Pws] <;> iassumption
    isplitl [Cer Cwr]
    · isplitl [Cer] <;> iassumption
    isplitl [DE DW]
    · isplitl [DE] <;> iassumption
    isplitl [XE] <;> iassumption
  iapply (th_hops m (R := iprop((bigSep Finset.univ fun t : Fin 3 => zIn (F := F) c k t) ∗ xKit (F := F) c k (zc c)
    ∗ (bigSep Finset.univ fun o : Fin 4 => pos c (.xr k o) 0) ∗ (bigSep Finset.univ fun o : Fin 4 => crd c (.xr k o))
    ∗ (bigSep Finset.univ fun o : Fin 4 => pos c (.xs k o) 0))) ?_) $$ [HH Hop Pcp A0 HS HO HZ X0 Pxr Cxr Pxs]
  · iintro ⟨HH, Pcp, A0, HS, HC, HO, HZ, X0, Pxr, Cxr, Pxs⟩
    simp only [Th, need, give]
    isplitl [HO]; · iexact HO
    iintro HO
    isplitl [HO]; · iexact HO
    iintro HO
    ihave HO := (piece_split m (nc c k)) $$ HO
    icases HO with ⟨OX, OE, OW⟩
    isplitl [X0 OX]
    · isplitl [X0] <;> iassumption
    iintro CX
    iapply (th_zs m (R := iprop((bigSep Finset.univ fun s : Fin 3 => hopOut m c k s) ∗ pos c (.cp k) 3 ∗ hopSrc m c k 0 ∗ any (F := F) c (sM k)
      ∗ (bigSep Finset.univ fun s : Fin 3 => any (F := F) c (cM k s)) ∗ crd c (.xs k (zc c))
      ∗ (bigSep Finset.univ fun o : Fin 4 => pos c (.xr k o) 0) ∗ (bigSep Finset.univ fun o : Fin 4 => crd c (.xr k o))
      ∗ (bigSep Finset.univ fun o : Fin 4 => pos c (.xs k o) 0))) ?_) $$ [HH Pcp A0 HS HC OE OW CX HZ Pxr Cxr Pxs]
    · iintro ⟨HZ, HE, HW, HH, Pcp, A0, HS, HC, CX, Pxr, Cxr, Pxs⟩
      ihave HZ := (Entails.of_eq (zOut_eq m c k)) $$ HZ
      icases HZ with ⟨HF, ⟨CE, OE⟩, ⟨CW, OW⟩⟩
      ihave Cxs := (Entails.of_eq hX.symm) $$ [CX CE CW]
      · isplitl [CX]; · iexact CX
        isplitl [CE] <;> iassumption
      ihave HX := (Entails.of_eq (xIn_eq (F := F) c k).symm) $$ [Pxr Cxr Pxs Cxs]
      · isplitl [Pxr Cxr]
        · isplitl [Pxr] <;> iassumption
        isplitl [Pxs] <;> iassumption
      iapply (th_xs m (R := iprop(((bigSep Finset.univ fun t : Fin 3 => fin c (.es k t)) ∗ (bigSep Finset.univ fun t : Fin 3 => fin c (.er k t))
          ∗ (bigSep Finset.univ fun t : Fin 3 => fin c (.ws k t)) ∗ (bigSep Finset.univ fun t : Fin 3 => fin c (.wr k t)))
        ∗ (bigSep Finset.univ fun t : Fin 3 => opt (aE c t.succ) (piece m c (pc c (oE c t.succ) k) qW))
        ∗ (bigSep Finset.univ fun t : Fin 3 => opt (aW c t.succ) (piece m c (pc c (oW c t.succ) k) qE))
        ∗ (eP m c k (Fin.castSucc 0) ∗ bigSep Finset.univ fun t : Fin 3 => eP m c k t.succ)
        ∗ (wP m c k (Fin.castSucc 0) ∗ bigSep Finset.univ fun t : Fin 3 => wP m c k t.succ)
        ∗ (bigSep Finset.univ fun s : Fin 3 => hopOut m c k s) ∗ pos c (.cp k) 3 ∗ hopSrc m c k 0 ∗ any (F := F) c (sM k)
        ∗ (bigSep Finset.univ fun s : Fin 3 => any (F := F) c (cM k s)))) ?_) $$ [HX HF OE OW HE HW HH Pcp A0 HS HC]
      · iintro ⟨HX, ⟨Fes, Fer, Fws, Fwr⟩, OE, OW, ⟨E0, ES⟩, ⟨W0, WS⟩, HH, Pcp, A0, HS, HC⟩
        ihave HX := (Entails.of_eq (xOut_eq m c k)) $$ HX
        icases HX with ⟨⟨Pxr, Oth⟩, Pxs, OX⟩
        ihave HH := (Entails.of_eq (hopOut_eq m c k)) $$ HH
        icases HH with ⟨⟨Pps, Ppr⟩, AS⟩
        simp only [Th]
        unfold Fin4 fam args
        rw [← hA]
        isplitl [Pcp Pps Ppr Fes Fer Fws Fwr Pxs Pxr]
        · isplitl [Pcp]; · iapply (pe_cp (F := F)) $$ Pcp
          isplitl [Pps]; · iapply (pes_one (F := F) c (fun i => CK.ps k i) fun i r => by simp [act]) $$ Pps
          isplitl [Ppr]; · iapply (pes_one (F := F) c (fun i => CK.pr k i) fun i r => by simp [act]) $$ Ppr
          isplitl [Fes]; · iapply (pes_fin (F := F) c (fun i => CK.es k i) fun i r => by simp [act]) $$ Fes
          isplitl [Fer]; · iapply (pes_fin (F := F) c (fun i => CK.er k i) fun i r => by simp [act]) $$ Fer
          isplitl [Fws]; · iapply (pes_fin (F := F) c (fun i => CK.ws k i) fun i r => by simp [act]) $$ Fws
          isplitl [Fwr]; · iapply (pes_fin (F := F) c (fun i => CK.wr k i) fun i r => by simp [act]) $$ Fwr
          isplitl [Pxs]; · iapply (pes_one (F := F) c (fun i => CK.xs k i) fun i r => by simp [act]) $$ Pxs
          iapply (pes_one (F := F) c (fun i => CK.xr k i) fun i r => by simp [act]) $$ Pxr
        isplitl [HC]; · iexact HC
        isplitl [HS]; · iexact HS
        isplitl [A0 AS]
        · isplitl [A0] <;> iassumption
        isplitr [Oth]
        · iapply (pieces_join m c k)
          isplitl [OX]; · iexact OX
          isplitl [E0 ES OW]
          · isplitl [E0]; · iexact E0
            isplitl [ES] <;> iassumption
          isplitl [W0]; · iexact W0
          isplitl [OE] <;> iassumption
        iexact Oth
      · isplitl [HX]; · iexact HX
        isplitl [HF]; · iexact HF
        isplitl [OE]; · iexact OE
        isplitl [OW]; · iexact OW
        isplitl [HE]; · iexact HE
        isplitl [HW]; · iexact HW
        isplitl [HH]; · iexact HH
        isplitl [Pcp]; · iexact Pcp
        isplitl [A0]; · iexact A0
        isplitl [HS] <;> iassumption
    · isplitl [HZ]; · iexact HZ
      isplitl [OE OW]
      · isplitl [OE]
        · iapply (Entails.of_eq (eP_zero m c k).symm) $$ OE
        · iapply (Entails.of_eq (wP_zero m c k).symm) $$ OW
      isplitl [HH]; · iexact HH
      isplitl [Pcp]; · iexact Pcp
      isplitl [A0]; · iexact A0
      isplitl [HS]; · iexact HS
      isplitl [HC]; · iexact HC
      isplitl [CX]; · iexact CX
      isplitl [Pxr]; · iexact Pxr
      isplitl [Cxr] <;> iassumption
  · isplitl [HH]; · iexact HH
    isplitl [Hop Pcp]
    · isplitl [Hop] <;> iassumption
    isplitl [A0]; · iexact A0
    isplitl [HS]; · iexact HS
    isplitl [HO]; · iexact HO
    isplitl [HZ]; · iexact HZ
    isplitl [X0]; · iexact X0
    isplitl [Pxr]; · iexact Pxr
    isplitl [Cxr] <;> iassumption

end Cert.KernelIdeal.Rs
-- ==== Proof.FactsKernelIdeal.lean ====
/-
# The program's index arithmetic

The conditions, devices and offsets the program computes from its device's number, in the terms of `BaseKernelIdeal`: checked
on the 32 devices.
-/
module

public import proofs.«01_k».proof.Proof.SchedKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The block of the argument for sub-strip `k` and chunk `j`. -/
theorem off1_eq : ∀ (c : Dev nD) (k j : Fin 4), k0_off1 c (BitVec.ofNat 32 (128 * k.val)) (BitVec.ofNat 32 j.val) = ![0, 128 * (nc c k).val, 1024 * (ch c j).val] := by
  decide +kernel
/-- The same for the block of the ring's step. -/
theorem off1_succ : ∀ (c : Dev nD) (k : Fin 4) (s : Fin 3), k0_off1 c (BitVec.ofNat 32 (128 * k.val)) (BitVec.ofNat 32 (s.val + 1))
    = ![0, 128 * (nc c k).val, 1024 * (ch c (f4 (s.val + 1))).val] := by
  decide +kernel
/-- Device number 6 of the program is the next one on the ring. -/
theorem dev6_eq : ∀ c : Dev nD, k0_dev6 c = (right c).val := by decide +kernel
/-- Device number 7 of the program is the next one on the ring. -/
theorem dev7_eq : ∀ c : Dev nD, k0_dev7 c = (right c).val := by decide +kernel
/-- Device number 8 of the program is the next one on the ring. -/
theorem dev8_eq : ∀ c : Dev nD, k0_dev8 c = (right c).val := by decide +kernel
/-- The rows of the piece that the device sums. -/
theorem off3_eq : ∀ (c : Dev nD) (k : Fin 4), k0_off3 c (BitVec.ofNat 32 (128 * k.val)) = ![128 * (nc c k).val, 0] := by decide +kernel
/-- Device number 9 of the program is the partner over `x`. -/
theorem dev9_eq : ∀ c : Dev nD, k0_dev9 c = (xp c).val := by decide +kernel
/-- The rows of the piece that the device sums. -/
theorem off5_eq : ∀ (c : Dev nD) (k : Fin 4), k0_off5 c (BitVec.ofNat 32 (128 * k.val)) = ![128 * (nc c k).val, 0] := by decide +kernel
/-- The place of the semaphore for the device's own piece over `x`. -/
theorem off4_eq : ∀ c : Dev nD, k0_off4 c = ![0, (zc c).val] := by decide +kernel
/-- A copy upwards: when it is made, of which rows, and to the device above. -/
theorem op3 : ∀ c : Dev nD, (k0_cond3 c = 1#1 ↔ sE c 0 = true)
    ∧ (k0_cond3 c = 1#1 → k0_off6 c = ![128 * (pc c (oE c (Fin.castSucc 0)) 0).val, 0] ∧ k0_dev10 c = (up c).val) := by decide +kernel
/-- A copy downwards: when it is made, of which rows, and to the device below. -/
theorem op4 : ∀ c : Dev nD, (k0_cond4 c = 1#1 ↔ sW c 0 = true)
    ∧ (k0_cond4 c = 1#1 → k0_off7 c = ![128 * (pc c (oW c (Fin.castSucc 0)) 0).val, 0] ∧ k0_dev11 c = (dn c).val) := by decide +kernel
/-- Device number 12 of the program is the next one on the ring. -/
theorem dev12_eq : ∀ c : Dev nD, k0_dev12 c = (right c).val := by decide +kernel
/-- A piece that came from below is passed on over `x`: when, which rows, with which semaphore, and to the partner. -/
theorem op5 : ∀ c : Dev nD, (k0_cond5 c = 1#1 ↔ aE c (Fin.succ (0 : Fin 3)) = true)
    ∧ (k0_cond5 c = 1#1 → k0_off8 c = ![128 * (pc c (oE c (Fin.succ (0 : Fin 3))) 0).val, 0] ∧ k0_off9 c = ![0, (oE c (Fin.succ (0 : Fin 3))).val] ∧ k0_dev13 c = (xp c).val) := by decide +kernel
/-- A piece that came from above is passed on over `x`: when, which rows, with which semaphore, and to the partner. -/
theorem op6 : ∀ c : Dev nD, (k0_cond6 c = 1#1 ↔ aW c (Fin.succ (0 : Fin 3)) = true)
    ∧ (k0_cond6 c = 1#1 → k0_off10 c = ![128 * (pc c (oW c (Fin.succ (0 : Fin 3))) 0).val, 0] ∧ k0_off11 c = ![0, (oW c (Fin.succ (0 : Fin 3))).val] ∧ k0_dev14 c = (xp c).val) := by decide +kernel
/-- When the wait for a copy upwards to have left is made. -/
theorem op7 : ∀ c : Dev nD, k0_cond7 c = 1#1 ↔ sE c 0 = true := by decide +kernel
/-- When the wait for a copy downwards to have left is made. -/
theorem op8 : ∀ c : Dev nD, k0_cond8 c = 1#1 ↔ sW c 0 = true := by decide +kernel
/-- A copy upwards: when it is made, of which rows, and to the device above. -/
theorem op9 : ∀ c : Dev nD, (k0_cond9 c = 1#1 ↔ sE c 1 = true)
    ∧ (k0_cond9 c = 1#1 → k0_off14 c = ![128 * (pc c (oE c (Fin.castSucc 1)) 0).val, 0] ∧ k0_dev15 c = (up c).val) := by decide +kernel
/-- A copy downwards: when it is made, of which rows, and to the device below. -/
theorem op10 : ∀ c : Dev nD, (k0_cond10 c = 1#1 ↔ sW c 1 = true)
    ∧ (k0_cond10 c = 1#1 → k0_off15 c = ![128 * (pc c (oW c (Fin.castSucc 1)) 0).val, 0] ∧ k0_dev16 c = (dn c).val) := by decide +kernel
/-- Device number 17 of the program is the next one on the ring. -/
theorem dev17_eq : ∀ c : Dev nD, k0_dev17 c = (right c).val := by decide +kernel
/-- A piece that came from below is passed on over `x`: when, which rows, with which semaphore, and to the partner. -/
theorem op11 : ∀ c : Dev nD, (k0_cond11 c = 1#1 ↔ aE c (Fin.succ (1 : Fin 3)) = true)
    ∧ (k0_cond11 c = 1#1 → k0_off16 c = ![128 * (pc c (oE c (Fin.succ (1 : Fin 3))) 0).val, 0] ∧ k0_off17 c = ![0, (oE c (Fin.succ (1 : Fin 3))).val] ∧ k0_dev18 c = (xp c).val) := by decide +kernel
/-- A piece that came from above is passed on over `x`: when, which rows, with which semaphore, and to the partner. -/
theorem op12 : ∀ c : Dev nD, (k0_cond12 c = 1#1 ↔ aW c (Fin.succ (1 : Fin 3)) = true)
    ∧ (k0_cond12 c = 1#1 → k0_off18 c = ![128 * (pc c (oW c (Fin.succ (1 : Fin 3))) 0).val, 0] ∧ k0_off19 c = ![0, (oW c (Fin.succ (1 : Fin 3))).val] ∧ k0_dev19 c = (xp c).val) := by decide +kernel
/-- When the wait for a copy upwards to have left is made. -/
theorem op13 : ∀ c : Dev nD, k0_cond13 c = 1#1 ↔ sE c 1 = true := by decide +kernel
/-- When the wait for a copy downwards to have left is made. -/
theorem op14 : ∀ c : Dev nD, k0_cond14 c = 1#1 ↔ sW c 1 = true := by decide +kernel
/-- A copy upwards: when it is made, of which rows, and to the device above. -/
theorem op15 : ∀ c : Dev nD, (k0_cond15 c = 1#1 ↔ sE c 2 = true)
    ∧ (k0_cond15 c = 1#1 → k0_off22 c = ![128 * (pc c (oE c (Fin.castSucc 2)) 0).val, 0] ∧ k0_dev20 c = (up c).val) := by decide +kernel
/-- A copy downwards: when it is made, of which rows, and to the device below. -/
theorem op16 : ∀ c : Dev nD, (k0_cond16 c = 1#1 ↔ sW c 2 = true)
    ∧ (k0_cond16 c = 1#1 → k0_off23 c = ![128 * (pc c (oW c (Fin.castSucc 2)) 0).val, 0] ∧ k0_dev21 c = (dn c).val) := by decide +kernel
/-- Device number 22 of the program is the next one on the ring. -/
theorem dev22_eq : ∀ c : Dev nD, k0_dev22 c = (right c).val := by decide +kernel
/-- A piece that came from below is passed on over `x`: when, which rows, with which semaphore, and to the partner. -/
theorem op17 : ∀ c : Dev nD, (k0_cond17 c = 1#1 ↔ aE c (Fin.succ (2 : Fin 3)) = true)
    ∧ (k0_cond17 c = 1#1 → k0_off24 c = ![128 * (pc c (oE c (Fin.succ (2 : Fin 3))) 0).val, 0] ∧ k0_off25 c = ![0, (oE c (Fin.succ (2 : Fin 3))).val] ∧ k0_dev23 c = (xp c).val) := by decide +kernel
/-- A piece that came from above is passed on over `x`: when, which rows, with which semaphore, and to the partner. -/
theorem op18 : ∀ c : Dev nD, (k0_cond18 c = 1#1 ↔ aW c (Fin.succ (2 : Fin 3)) = true)
    ∧ (k0_cond18 c = 1#1 → k0_off26 c = ![128 * (pc c (oW c (Fin.succ (2 : Fin 3))) 0).val, 0] ∧ k0_off27 c = ![0, (oW c (Fin.succ (2 : Fin 3))).val] ∧ k0_dev24 c = (xp c).val) := by decide +kernel
/-- When the wait for a copy upwards to have left is made. -/
theorem op19 : ∀ c : Dev nD, k0_cond19 c = 1#1 ↔ sE c 2 = true := by decide +kernel
/-- When the wait for a copy downwards to have left is made. -/
theorem op20 : ∀ c : Dev nD, k0_cond20 c = 1#1 ↔ sW c 2 = true := by decide +kernel
/-- Device number 25 of the program is the partner over `x`. -/
theorem dev25_eq : ∀ c : Dev nD, k0_dev25 c = (xp c).val := by decide +kernel
/-- The place of the semaphore for the device's own piece over `x`. -/
theorem off30_eq : ∀ c : Dev nD, k0_off30 c = ![1, (zc c).val] := by decide +kernel
/-- A copy upwards: when it is made, of which rows, and to the device above. -/
theorem op21 : ∀ c : Dev nD, (k0_cond21 c = 1#1 ↔ sE c 0 = true)
    ∧ (k0_cond21 c = 1#1 → k0_off31 c = ![128 * (pc c (oE c (Fin.castSucc 0)) 1).val, 0] ∧ k0_dev26 c = (up c).val) := by decide +kernel
/-- A copy downwards: when it is made, of which rows, and to the device below. -/
theorem op22 : ∀ c : Dev nD, (k0_cond22 c = 1#1 ↔ sW c 0 = true)
    ∧ (k0_cond22 c = 1#1 → k0_off32 c = ![128 * (pc c (oW c (Fin.castSucc 0)) 1).val, 0] ∧ k0_dev27 c = (dn c).val) := by decide +kernel
/-- Device number 28 of the program is the next one on the ring. -/
theorem dev28_eq : ∀ c : Dev nD, k0_dev28 c = (right c).val := by decide +kernel
/-- A piece that came from below is passed on over `x`: when, which rows, with which semaphore, and to the partner. -/
theorem op23 : ∀ c : Dev nD, (k0_cond23 c = 1#1 ↔ aE c (Fin.succ (0 : Fin 3)) = true)
    ∧ (k0_cond23 c = 1#1 → k0_off33 c = ![128 * (pc c (oE c (Fin.succ (0 : Fin 3))) 1).val, 0] ∧ k0_off34 c = ![1, (oE c (Fin.succ (0 : Fin 3))).val] ∧ k0_dev29 c = (xp c).val) := by decide +kernel
/-- A piece that came from above is passed on over `x`: when, which rows, with which semaphore, and to the partner. -/
theorem op24 : ∀ c : Dev nD, (k0_cond24 c = 1#1 ↔ aW c (Fin.succ (0 : Fin 3)) = true)
    ∧ (k0_cond24 c = 1#1 → k0_off35 c = ![128 * (pc c (oW c (Fin.succ (0 : Fin 3))) 1).val, 0] ∧ k0_off36 c = ![1, (oW c (Fin.succ (0 : Fin 3))).val] ∧ k0_dev30 c = (xp c).val) := by decide +kernel
/-- When the wait for a copy upwards to have left is made. -/
theorem op25 : ∀ c : Dev nD, k0_cond25 c = 1#1 ↔ sE c 0 = true := by decide +kernel
/-- When the wait for a copy downwards to have left is made. -/
theorem op26 : ∀ c : Dev nD, k0_cond26 c = 1#1 ↔ sW c 0 = true := by decide +kernel
/-- A copy upwards: when it is made, of which rows, and to the device above. -/
theorem op27 : ∀ c : Dev nD, (k0_cond27 c = 1#1 ↔ sE c 1 = true)
    ∧ (k0_cond27 c = 1#1 → k0_off39 c = ![128 * (pc c (oE c (Fin.castSucc 1)) 1).val, 0] ∧ k0_dev31 c = (up c).val) := by decide +kernel
/-- A copy downwards: when it is made, of which rows, and to the device below. -/
theorem op28 : ∀ c : Dev nD, (k0_cond28 c = 1#1 ↔ sW c 1 = true)
    ∧ (k0_cond28 c = 1#1 → k0_off40 c = ![128 * (pc c (oW c (Fin.castSucc 1)) 1).val, 0] ∧ k0_dev32 c = (dn c).val) := by decide +kernel
/-- Device number 33 of the program is the next one on the ring. -/
theorem dev33_eq : ∀ c : Dev nD, k0_dev33 c = (right c).val := by decide +kernel
/-- A piece that came from below is passed on over `x`: when, which rows, with which semaphore, and to the partner. -/
theorem op29 : ∀ c : Dev nD, (k0_cond29 c = 1#1 ↔ aE c (Fin.succ (1 : Fin 3)) = true)
    ∧ (k0_cond29 c = 1#1 → k0_off41 c = ![128 * (pc c (oE c (Fin.succ (1 : Fin 3))) 1).val, 0] ∧ k0_off42 c = ![1, (oE c (Fin.succ (1 : Fin 3))).val] ∧ k0_dev34 c = (xp c).val) := by decide +kernel
/-- A piece that came from above is passed on over `x`: when, which rows, with which semaphore, and to the partner. -/
theorem op30 : ∀ c : Dev nD, (k0_cond30 c = 1#1 ↔ aW c (Fin.succ (1 : Fin 3)) = true)
    ∧ (k0_cond30 c = 1#1 → k0_off43 c = ![128 * (pc c (oW c (Fin.succ (1 : Fin 3))) 1).val, 0] ∧ k0_off44 c = ![1, (oW c (Fin.succ (1 : Fin 3))).val] ∧ k0_dev35 c = (xp c).val) := by decide +kernel
/-- When the wait for a copy upwards to have left is made. -/
theorem op31 : ∀ c : Dev nD, k0_cond31 c = 1#1 ↔ sE c 1 = true := by decide +kernel
/-- When the wait for a copy downwards to have left is made. -/
theorem op32 : ∀ c : Dev nD, k0_cond32 c = 1#1 ↔ sW c 1 = true := by decide +kernel
/-- A copy upwards: when it is made, of which rows, and to the device above. -/
theorem op33 : ∀ c : Dev nD, (k0_cond33 c = 1#1 ↔ sE c 2 = true)
    ∧ (k0_cond33 c = 1#1 → k0_off47 c = ![128 * (pc c (oE c (Fin.castSucc 2)) 1).val, 0] ∧ k0_dev36 c = (up c).val) := by decide +kernel
/-- A copy downwards: when it is made, of which rows, and to the device below. -/
theorem op34 : ∀ c : Dev nD, (k0_cond34 c = 1#1 ↔ sW c 2 = true)
    ∧ (k0_cond34 c = 1#1 → k0_off48 c = ![128 * (pc c (oW c (Fin.castSucc 2)) 1).val, 0] ∧ k0_dev37 c = (dn c).val) := by decide +kernel
/-- Device number 38 of the program is the next one on the ring. -/
theorem dev38_eq : ∀ c : Dev nD, k0_dev38 c = (right c).val := by decide +kernel
/-- A piece that came from below is passed on over `x`: when, which rows, with which semaphore, and to the partner. -/
theorem op35 : ∀ c : Dev nD, (k0_cond35 c = 1#1 ↔ aE c (Fin.succ (2 : Fin 3)) = true)
    ∧ (k0_cond35 c = 1#1 → k0_off49 c = ![128 * (pc c (oE c (Fin.succ (2 : Fin 3))) 1).val, 0] ∧ k0_off50 c = ![1, (oE c (Fin.succ (2 : Fin 3))).val] ∧ k0_dev39 c = (xp c).val) := by decide +kernel
/-- A piece that came from above is passed on over `x`: when, which rows, with which semaphore, and to the partner. -/
theorem op36 : ∀ c : Dev nD, (k0_cond36 c = 1#1 ↔ aW c (Fin.succ (2 : Fin 3)) = true)
    ∧ (k0_cond36 c = 1#1 → k0_off51 c = ![128 * (pc c (oW c (Fin.succ (2 : Fin 3))) 1).val, 0] ∧ k0_off52 c = ![1, (oW c (Fin.succ (2 : Fin 3))).val] ∧ k0_dev40 c = (xp c).val) := by decide +kernel
/-- When the wait for a copy upwards to have left is made. -/
theorem op37 : ∀ c : Dev nD, k0_cond37 c = 1#1 ↔ sE c 2 = true := by decide +kernel
/-- When the wait for a copy downwards to have left is made. -/
theorem op38 : ∀ c : Dev nD, k0_cond38 c = 1#1 ↔ sW c 2 = true := by decide +kernel
/-- Device number 41 of the program is the partner over `x`. -/
theorem dev41_eq : ∀ c : Dev nD, k0_dev41 c = (xp c).val := by decide +kernel
/-- The place of the semaphore for the device's own piece over `x`. -/
theorem off55_eq : ∀ c : Dev nD, k0_off55 c = ![2, (zc c).val] := by decide +kernel
/-- A copy upwards: when it is made, of which rows, and to the device above. -/
theorem op39 : ∀ c : Dev nD, (k0_cond39 c = 1#1 ↔ sE c 0 = true)
    ∧ (k0_cond39 c = 1#1 → k0_off56 c = ![128 * (pc c (oE c (Fin.castSucc 0)) 2).val, 0] ∧ k0_dev42 c = (up c).val) := by decide +kernel
/-- A copy downwards: when it is made, of which rows, and to the device below. -/
theorem op40 : ∀ c : Dev nD, (k0_cond40 c = 1#1 ↔ sW c 0 = true)
    ∧ (k0_cond40 c = 1#1 → k0_off57 c = ![128 * (pc c (oW c (Fin.castSucc 0)) 2).val, 0] ∧ k0_dev43 c = (dn c).val) := by decide +kernel
/-- Device number 44 of the program is the next one on the ring. -/
theorem dev44_eq : ∀ c : Dev nD, k0_dev44 c = (right c).val := by decide +kernel
/-- A piece that came from below is passed on over `x`: when, which rows, with which semaphore, and to the partner. -/
theorem op41 : ∀ c : Dev nD, (k0_cond41 c = 1#1 ↔ aE c (Fin.succ (0 : Fin 3)) = true)
    ∧ (k0_cond41 c = 1#1 → k0_off58 c = ![128 * (pc c (oE c (Fin.succ (0 : Fin 3))) 2).val, 0] ∧ k0_off59 c = ![2, (oE c (Fin.succ (0 : Fin 3))).val] ∧ k0_dev45 c = (xp c).val) := by decide +kernel
/-- A piece that came from above is passed on over `x`: when, which rows, with which semaphore, and to the partner. -/
theorem op42 : ∀ c : Dev nD, (k0_cond42 c = 1#1 ↔ aW c (Fin.succ (0 : Fin 3)) = true)
    ∧ (k0_cond42 c = 1#1 → k0_off60 c = ![128 * (pc c (oW c (Fin.succ (0 : Fin 3))) 2).val, 0] ∧ k0_off61 c = ![2, (oW c (Fin.succ (0 : Fin 3))).val] ∧ k0_dev46 c = (xp c).val) := by decide +kernel
/-- When the wait for a copy upwards to have left is made. -/
theorem op43 : ∀ c : Dev nD, k0_cond43 c = 1#1 ↔ sE c 0 = true := by decide +kernel
/-- When the wait for a copy downwards to have left is made. -/
theorem op44 : ∀ c : Dev nD, k0_cond44 c = 1#1 ↔ sW c 0 = true := by decide +kernel
/-- A copy upwards: when it is made, of which rows, and to the device above. -/
theorem op45 : ∀ c : Dev nD, (k0_cond45 c = 1#1 ↔ sE c 1 = true)
    ∧ (k0_cond45 c = 1#1 → k0_off64 c = ![128 * (pc c (oE c (Fin.castSucc 1)) 2).val, 0] ∧ k0_dev47 c = (up c).val) := by decide +kernel
/-- A copy downwards: when it is made, of which rows, and to the device below. -/
theorem op46 : ∀ c : Dev nD, (k0_cond46 c = 1#1 ↔ sW c 1 = true)
    ∧ (k0_cond46 c = 1#1 → k0_off65 c = ![128 * (pc c (oW c (Fin.castSucc 1)) 2).val, 0] ∧ k0_dev48 c = (dn c).val) := by decide +kernel
/-- Device number 49 of the program is the next one on the ring. -/
theorem dev49_eq : ∀ c : Dev nD, k0_dev49 c = (right c).val := by decide +kernel
/-- A piece that came from below is passed on over `x`: when, which rows, with which semaphore, and to the partner. -/
theorem op47 : ∀ c : Dev nD, (k0_cond47 c = 1#1 ↔ aE c (Fin.succ (1 : Fin 3)) = true)
    ∧ (k0_cond47 c = 1#1 → k0_off66 c = ![128 * (pc c (oE c (Fin.succ (1 : Fin 3))) 2).val, 0] ∧ k0_off67 c = ![2, (oE c (Fin.succ (1 : Fin 3))).val] ∧ k0_dev50 c = (xp c).val) := by decide +kernel
/-- A piece that came from above is passed on over `x`: when, which rows, with which semaphore, and to the partner. -/
theorem op48 : ∀ c : Dev nD, (k0_cond48 c = 1#1 ↔ aW c (Fin.succ (1 : Fin 3)) = true)
    ∧ (k0_cond48 c = 1#1 → k0_off68 c = ![128 * (pc c (oW c (Fin.succ (1 : Fin 3))) 2).val, 0] ∧ k0_off69 c = ![2, (oW c (Fin.succ (1 : Fin 3))).val] ∧ k0_dev51 c = (xp c).val) := by decide +kernel
/-- When the wait for a copy upwards to have left is made. -/
theorem op49 : ∀ c : Dev nD, k0_cond49 c = 1#1 ↔ sE c 1 = true := by decide +kernel
/-- When the wait for a copy downwards to have left is made. -/
theorem op50 : ∀ c : Dev nD, k0_cond50 c = 1#1 ↔ sW c 1 = true := by decide +kernel
/-- A copy upwards: when it is made, of which rows, and to the device above. -/
theorem op51 : ∀ c : Dev nD, (k0_cond51 c = 1#1 ↔ sE c 2 = true)
    ∧ (k0_cond51 c = 1#1 → k0_off72 c = ![128 * (pc c (oE c (Fin.castSucc 2)) 2).val, 0] ∧ k0_dev52 c = (up c).val) := by decide +kernel
/-- A copy downwards: when it is made, of which rows, and to the device below. -/
theorem op52 : ∀ c : Dev nD, (k0_cond52 c = 1#1 ↔ sW c 2 = true)
    ∧ (k0_cond52 c = 1#1 → k0_off73 c = ![128 * (pc c (oW c (Fin.castSucc 2)) 2).val, 0] ∧ k0_dev53 c = (dn c).val) := by decide +kernel
/-- Device number 54 of the program is the next one on the ring. -/
theorem dev54_eq : ∀ c : Dev nD, k0_dev54 c = (right c).val := by decide +kernel
/-- A piece that came from below is passed on over `x`: when, which rows, with which semaphore, and to the partner. -/
theorem op53 : ∀ c : Dev nD, (k0_cond53 c = 1#1 ↔ aE c (Fin.succ (2 : Fin 3)) = true)
    ∧ (k0_cond53 c = 1#1 → k0_off74 c = ![128 * (pc c (oE c (Fin.succ (2 : Fin 3))) 2).val, 0] ∧ k0_off75 c = ![2, (oE c (Fin.succ (2 : Fin 3))).val] ∧ k0_dev55 c = (xp c).val) := by decide +kernel
/-- A piece that came from above is passed on over `x`: when, which rows, with which semaphore, and to the partner. -/
theorem op54 : ∀ c : Dev nD, (k0_cond54 c = 1#1 ↔ aW c (Fin.succ (2 : Fin 3)) = true)
    ∧ (k0_cond54 c = 1#1 → k0_off76 c = ![128 * (pc c (oW c (Fin.succ (2 : Fin 3))) 2).val, 0] ∧ k0_off77 c = ![2, (oW c (Fin.succ (2 : Fin 3))).val] ∧ k0_dev56 c = (xp c).val) := by decide +kernel
/-- When the wait for a copy upwards to have left is made. -/
theorem op55 : ∀ c : Dev nD, k0_cond55 c = 1#1 ↔ sE c 2 = true := by decide +kernel
/-- When the wait for a copy downwards to have left is made. -/
theorem op56 : ∀ c : Dev nD, k0_cond56 c = 1#1 ↔ sW c 2 = true := by decide +kernel
/-- Device number 57 of the program is the partner over `x`. -/
theorem dev57_eq : ∀ c : Dev nD, k0_dev57 c = (xp c).val := by decide +kernel
/-- The place of the semaphore for the device's own piece over `x`. -/
theorem off80_eq : ∀ c : Dev nD, k0_off80 c = ![3, (zc c).val] := by decide +kernel
/-- A copy upwards: when it is made, of which rows, and to the device above. -/
theorem op57 : ∀ c : Dev nD, (k0_cond57 c = 1#1 ↔ sE c 0 = true)
    ∧ (k0_cond57 c = 1#1 → k0_off81 c = ![128 * (pc c (oE c (Fin.castSucc 0)) 3).val, 0] ∧ k0_dev58 c = (up c).val) := by decide +kernel
/-- A copy downwards: when it is made, of which rows, and to the device below. -/
theorem op58 : ∀ c : Dev nD, (k0_cond58 c = 1#1 ↔ sW c 0 = true)
    ∧ (k0_cond58 c = 1#1 → k0_off82 c = ![128 * (pc c (oW c (Fin.castSucc 0)) 3).val, 0] ∧ k0_dev59 c = (dn c).val) := by decide +kernel
/-- A piece that came from below is passed on over `x`: when, which rows, with which semaphore, and to the partner. -/
theorem op59 : ∀ c : Dev nD, (k0_cond59 c = 1#1 ↔ aE c (Fin.succ (0 : Fin 3)) = true)
    ∧ (k0_cond59 c = 1#1 → k0_off83 c = ![128 * (pc c (oE c (Fin.succ (0 : Fin 3))) 3).val, 0] ∧ k0_off84 c = ![3, (oE c (Fin.succ (0 : Fin 3))).val] ∧ k0_dev60 c = (xp c).val) := by decide +kernel
/-- A piece that came from above is passed on over `x`: when, which rows, with which semaphore, and to the partner. -/
theorem op60 : ∀ c : Dev nD, (k0_cond60 c = 1#1 ↔ aW c (Fin.succ (0 : Fin 3)) = true)
    ∧ (k0_cond60 c = 1#1 → k0_off85 c = ![128 * (pc c (oW c (Fin.succ (0 : Fin 3))) 3).val, 0] ∧ k0_off86 c = ![3, (oW c (Fin.succ (0 : Fin 3))).val] ∧ k0_dev61 c = (xp c).val) := by decide +kernel
/-- When the wait for a copy upwards to have left is made. -/
theorem op61 : ∀ c : Dev nD, k0_cond61 c = 1#1 ↔ sE c 0 = true := by decide +kernel
/-- When the wait for a copy downwards to have left is made. -/
theorem op62 : ∀ c : Dev nD, k0_cond62 c = 1#1 ↔ sW c 0 = true := by decide +kernel
/-- A copy upwards: when it is made, of which rows, and to the device above. -/
theorem op63 : ∀ c : Dev nD, (k0_cond63 c = 1#1 ↔ sE c 1 = true)
    ∧ (k0_cond63 c = 1#1 → k0_off89 c = ![128 * (pc c (oE c (Fin.castSucc 1)) 3).val, 0] ∧ k0_dev62 c = (up c).val) := by decide +kernel
/-- A copy downwards: when it is made, of which rows, and to the device below. -/
theorem op64 : ∀ c : Dev nD, (k0_cond64 c = 1#1 ↔ sW c 1 = true)
    ∧ (k0_cond64 c = 1#1 → k0_off90 c = ![128 * (pc c (oW c (Fin.castSucc 1)) 3).val, 0] ∧ k0_dev63 c = (dn c).val) := by decide +kernel
/-- A piece that came from below is passed on over `x`: when, which rows, with which semaphore, and to the partner. -/
theorem op65 : ∀ c : Dev nD, (k0_cond65 c = 1#1 ↔ aE c (Fin.succ (1 : Fin 3)) = true)
    ∧ (k0_cond65 c = 1#1 → k0_off91 c = ![128 * (pc c (oE c (Fin.succ (1 : Fin 3))) 3).val, 0] ∧ k0_off92 c = ![3, (oE c (Fin.succ (1 : Fin 3))).val] ∧ k0_dev64 c = (xp c).val) := by decide +kernel
/-- A piece that came from above is passed on over `x`: when, which rows, with which semaphore, and to the partner. -/
theorem op66 : ∀ c : Dev nD, (k0_cond66 c = 1#1 ↔ aW c (Fin.succ (1 : Fin 3)) = true)
    ∧ (k0_cond66 c = 1#1 → k0_off93 c = ![128 * (pc c (oW c (Fin.succ (1 : Fin 3))) 3).val, 0] ∧ k0_off94 c = ![3, (oW c (Fin.succ (1 : Fin 3))).val] ∧ k0_dev65 c = (xp c).val) := by decide +kernel
/-- When the wait for a copy upwards to have left is made. -/
theorem op67 : ∀ c : Dev nD, k0_cond67 c = 1#1 ↔ sE c 1 = true := by decide +kernel
/-- When the wait for a copy downwards to have left is made. -/
theorem op68 : ∀ c : Dev nD, k0_cond68 c = 1#1 ↔ sW c 1 = true := by decide +kernel
/-- A copy upwards: when it is made, of which rows, and to the device above. -/
theorem op69 : ∀ c : Dev nD, (k0_cond69 c = 1#1 ↔ sE c 2 = true)
    ∧ (k0_cond69 c = 1#1 → k0_off97 c = ![128 * (pc c (oE c (Fin.castSucc 2)) 3).val, 0] ∧ k0_dev66 c = (up c).val) := by decide +kernel
/-- A copy downwards: when it is made, of which rows, and to the device below. -/
theorem op70 : ∀ c : Dev nD, (k0_cond70 c = 1#1 ↔ sW c 2 = true)
    ∧ (k0_cond70 c = 1#1 → k0_off98 c = ![128 * (pc c (oW c (Fin.castSucc 2)) 3).val, 0] ∧ k0_dev67 c = (dn c).val) := by decide +kernel
/-- A piece that came from below is passed on over `x`: when, which rows, with which semaphore, and to the partner. -/
theorem op71 : ∀ c : Dev nD, (k0_cond71 c = 1#1 ↔ aE c (Fin.succ (2 : Fin 3)) = true)
    ∧ (k0_cond71 c = 1#1 → k0_off99 c = ![128 * (pc c (oE c (Fin.succ (2 : Fin 3))) 3).val, 0] ∧ k0_off100 c = ![3, (oE c (Fin.succ (2 : Fin 3))).val] ∧ k0_dev68 c = (xp c).val) := by decide +kernel
/-- A piece that came from above is passed on over `x`: when, which rows, with which semaphore, and to the partner. -/
theorem op72 : ∀ c : Dev nD, (k0_cond72 c = 1#1 ↔ aW c (Fin.succ (2 : Fin 3)) = true)
    ∧ (k0_cond72 c = 1#1 → k0_off101 c = ![128 * (pc c (oW c (Fin.succ (2 : Fin 3))) 3).val, 0] ∧ k0_off102 c = ![3, (oW c (Fin.succ (2 : Fin 3))).val] ∧ k0_dev69 c = (xp c).val) := by decide +kernel
/-- When the wait for a copy upwards to have left is made. -/
theorem op73 : ∀ c : Dev nD, k0_cond73 c = 1#1 ↔ sE c 2 = true := by decide +kernel
/-- When the wait for a copy downwards to have left is made. -/
theorem op74 : ∀ c : Dev nD, k0_cond74 c = 1#1 ↔ sW c 2 = true := by decide +kernel

end Cert.KernelIdeal.Rs
-- ==== Proof.BarrierKernelIdeal.lean ====
/-
# The barrier

Before the transfers a device signals its neighbours and waits for their signals: each signal hands over the regions its
receiver may fill.
-/
module

public import proofs.«01_k».proof.Proof.FactsKernelIdeal
public import proofs.«01_k».proof.Proof.ProgKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names) (Z : Fin 4 → sProp (MT nD τ sig Unit (Elt F) ℕ UU ℕ))

/-- The first signal goes to the device before on the ring, -/
theorem dev1_eq : ∀ c : Dev nD, k0_dev1 c = (left c).val := by decide +kernel
/-- the second to the next one, -/
theorem dev2_eq : ∀ c : Dev nD, k0_dev2 c = (right c).val := by decide +kernel
/-- the third to the partner over `x`. -/
theorem dev3_eq : ∀ c : Dev nD, k0_dev3 c = (xp c).val := by decide +kernel
/-- There is a device before on the axis `z`, and after. -/
abbrev hasDn (c : Dev nD) : Bool := decide (0 < c.val % 4)
/-- There is a device after on the axis `z`. -/
abbrev hasUp (c : Dev nD) : Bool := decide (c.val % 4 < 3)
/-- The fourth signal goes to the device below, if there is one, -/
theorem op1 : ∀ c : Dev nD, (k0_cond1 c = 1#1 ↔ hasDn c = true) ∧ (k0_cond1 c = 1#1 → k0_dev4 c = (dn c).val) := by decide +kernel
/-- the fifth to the device above, if there is one. -/
theorem op2 : ∀ c : Dev nD, (k0_cond2 c = 1#1 ↔ hasUp c = true) ∧ (k0_cond2 c = 1#1 → k0_dev5 c = (up c).val) := by decide +kernel
/-- The wait on the barrier is for one signal from each neighbour. -/
theorem amt_eq : ∀ c : Dev nD, (k0_amt1 c).toInt = (barDuties c).card := by decide +kernel

/-- The next device on the ring signals, -/
theorem mem0 (c : Dev nD) : (0 : Fin 5) ∈ barDuties c := by revert c; decide +kernel
/-- so does the one before, -/
theorem mem1 (c : Dev nD) : (1 : Fin 5) ∈ barDuties c := by revert c; decide +kernel
/-- and the partner over `x`; -/
theorem mem2 (c : Dev nD) : (2 : Fin 5) ∈ barDuties c := by revert c; decide +kernel
/-- a device signals the one above if there is one, -/
theorem mem3 : ∀ c : Dev nD, hasUp c = true → (3 : Fin 5) ∈ barDuties (up c) := by decide +kernel
/-- and the one below if there is one. -/
theorem mem4 : ∀ c : Dev nD, hasDn c = true → (4 : Fin 5) ∈ barDuties (dn c) := by decide +kernel

/-- A cell's unit of the barrier. -/
abbrev bt (c : Dev nD) : CellTallies nD τ sig Unit := tallyAt (barCell c) () 1
/-- What is owed before each of the conditional signals, and at the start. -/
def owed2 (c : Dev nD) : CellTallies nD τ sig Unit := owed c prog + if hasUp c then bt (up c) else 0
/-- What is owed before the signals over `z`. -/
def owed1 (c : Dev nD) : CellTallies nD τ sig Unit := owed2 c + if hasDn c then bt (dn c) else 0
/-- What is owed at the start: five signals at most and what the steps pay. -/
def owed0 (c : Dev nD) : CellTallies nD τ sig Unit := owed1 c + bt (xp c) + bt (right c) + bt (left c)

/-- The right to pay a barrier cell's duty. -/
abbrev btok (c : Dev nD) (b : Fin 5) : sProp 𝕄 := dutyTok (ER (F := F)) (barCell c) 0 b

/-- A signal to a device's barrier cell, paying one of its duties. -/
theorem sig_cell {c c' : Dev nD} {b : Fin 5} (hb : b ∈ barDuties c') {d : Dev nD} (hd : d = c') {O₀ : CellTallies nD τ sig Unit} (O : CellTallies nD τ sig Unit)
    (hO : O₀ = O + bt c') {α : Type} {Q : α → sProp 𝕄} {k : PUnit → Prog (TpuEff nD τ sig (Elt F) Λ₀ .tc) α} :
    iprop(Rec m K ∗ (∃ W, owes (c : Thread nD τ) O₀ W) ∗ btok c' b ∗ barPay c' b)
      ⊢ iprop(((∃ W, owes (c : Thread nD τ) O W) -∗ run c (k ⟨⟩) Q) -∗ run c (.op (.semSignal (d : Thread nD τ) barS 1) k) Q) := by
  subst hd
  iintro ⟨#HR, ⟨%W, HO⟩, Ht, Hp⟩ Hk
  ihave HI := (Rec_at m K (d, 0)) $$ HR
  icases HI with ⟨#HI, #Hop⟩
  iapply (Rounds.wp_signal 𝒱₀ ER (Rd m) (c : Thread nD τ) none (dst := (d : Thread nD τ)) (κ := K (d, 0)) (r := 0) (d := b)
      (by exact hb) (show (Rd m).amount (barCell d) 0 b = 1 from rfl) () O hO) $$ [HO Ht Hp]
  · isplitr; · iexact HI
    isplitl [HO]; · iexact HO
    isplitl [Ht]; · iexact Ht
    isplitl [Hp]; · iapply (Entails.of_eq (show (barPay (F := F) d b) = (Rd m).payload (barCell d) 0 b from rfl)) $$ Hp
    iexact Hop
  iintro HO
  iapply Hk
  iexists _; iexact HO

/-- A duty that is not there would deliver nothing. -/
theorem barPay_not (c : Dev nD) (b : Fin 5) (hb : b ∉ barDuties c) : iprop(emp) ⊢ (barPay (F := F) c b) := by
  have h0 : ∀ (c : Dev nD) (b : Fin 5), b ∉ barDuties c → (b = 3 ∧ ∀ t, sW c t = false) ∨ (b = 4 ∧ ∀ t, sE c t = false) := by decide +kernel
  rcases h0 c b hb with ⟨rfl, h⟩ | ⟨rfl, h⟩
  · show _ ⊢ bigSep Finset.univ fun k : Fin 4 => wDst (F := F) c k
    have e : ∀ k, wDst (F := F) c k = iprop(emp) := fun k => by
      unfold wDst
      rw [bigSep_congr (s := Finset.univ) (Ψ := fun _ : Fin 3 => (iprop(emp) : sProp 𝕄)) fun t _ => by rw [h t]; rfl]
      exact bigSep_emp_const _
    rw [bigSep_congr (s := Finset.univ) (Ψ := fun _ : Fin 4 => (iprop(emp) : sProp 𝕄)) fun k _ => e k]
    exact Entails.of_eq (bigSep_emp_const _).symm
  · show _ ⊢ bigSep Finset.univ fun k : Fin 4 => eDst (F := F) c k
    have e : ∀ k, eDst (F := F) c k = iprop(emp) := fun k => by
      unfold eDst
      rw [bigSep_congr (s := Finset.univ) (Ψ := fun _ : Fin 3 => (iprop(emp) : sProp 𝕄)) fun t _ => by rw [h t]; rfl]
      exact bigSep_emp_const _
    rw [bigSep_congr (s := Finset.univ) (Ψ := fun _ : Fin 4 => (iprop(emp) : sProp 𝕄)) fun k _ => e k]
    exact Entails.of_eq (bigSep_emp_const _).symm

/-- What the barrier's wait delivers. -/
theorem rest_bar (c : Dev nD) : bigSep ((Rd m).duties (barCell c) 0 \ ∅) (fun d => (Rd m).payload (barCell c) 0 d)
    ⊢ iprop(barPay (F := F) c 0 ∗ barPay (F := F) c 1 ∗ barPay (F := F) c 2 ∗ barPay (F := F) c 3 ∗ barPay (F := F) c 4) := by
  rw [Finset.sdiff_empty, duties_bar]
  show bigSep (barDuties c) (fun d => barPay (F := F) c d) ⊢ _
  refine BIBase.Entails.trans ?_ (Entails.of_eq (bigSep_univ_eq_bigSepL [0, 1, 2, 3, 4] (by decide) (by decide) (fun d => barPay (F := F) c d)))
  refine BIBase.Entails.trans ?_ (Entails.of_eq (show iprop(bigSep (Finset.univ.filter fun b : Fin 5 => b ∈ barDuties c) (fun d => barPay (F := F) c d)
    ∗ bigSep (Finset.univ.filter fun b : Fin 5 => ¬ b ∈ barDuties c) (fun d => barPay (F := F) c d)) = _ from
      (BI.bigSep_filter_split Finset.univ (fun b : Fin 5 => b ∈ barDuties c)).symm))
  rw [Finset.filter_univ_mem]
  iintro H
  isplitl; · iexact H
  iapply (show iprop(emp) ⊢ bigSep (Finset.univ.filter fun b : Fin 5 => ¬ b ∈ barDuties c) (fun d => barPay (F := F) c d) from
    (Entails.of_eq (bigSep_emp_const _).symm).trans (bigSep_mono fun b hb => barPay_not c b (Finset.mem_filter.mp hb).2))
  iempintro

/-- A signal's right to pay with what it delivers. -/
abbrev sg (c : Dev nD) (b : Fin 5) : sProp 𝕄 := iprop(btok c b ∗ barPay (F := F) c b)
/-- A device's place at its barrier cell and its promised count. -/
abbrev barAt (c : Dev nD) : sProp 𝕄 := iprop(atPos (ER (F := F)) (barCell c) 0 ∅ 0 ∗ cred (tallyAt (barCell c) () (barDuties c).card))
/-- What it holds after the barrier. -/
def barGot (c : Dev nD) : sProp 𝕄 :=
  iprop(atPos (ER (F := F)) (barCell c) 1 ∅ 0 ∗ barPay (F := F) c 0 ∗ barPay (F := F) c 2 ∗ barPay (F := F) c 3 ∗ barPay (F := F) c 4)
/-- What the barrier leaves to come. -/
abbrev barK (c : Dev nD) : sProp 𝕄 := iprop(barGot c -∗ bigSep Finset.univ fun k : Fin 4 => Th m Z c k (sub k prog))

/-- The records, what is owed, and the rest. -/
abbrev St (c : Dev nD) (O : CellTallies nD τ sig Unit) (R : sProp 𝕄) : sProp 𝕄 := iprop(Rec m K ∗ (∃ W, owes (c : Thread nD τ) O W) ∗ R)
/-- What device `c` holds at the start of the kernel. -/
def B0 (c : Dev nD) : sProp 𝕄 :=
  St m K c (owed0 c) iprop(sg (left c) 0 ∗ sg (right c) 1 ∗ sg (xp c) 2 ∗ sg (dn c) 4 ∗ sg (up c) 3 ∗ barAt c ∗ barK m Z c)
/-- What it holds when it has signalled. -/
def B1 (c : Dev nD) : sProp 𝕄 := St m K c (owed c prog) iprop(barAt c ∗ barK m Z c)

/-- One signal. -/
theorem sig_one {c c' : Dev nD} {b : Fin 5} (hb : b ∈ barDuties c') {d : Dev nD} (hd : d = c') {O : CellTallies nD τ sig Unit} {R : sProp 𝕄}
    {Q : PUnit → sProp 𝕄} (hK : St m K c O R ⊢ Q ⟨⟩) :
    St m K c (O + bt c') iprop(sg c' b ∗ R) ⊢ run c (semSignalWord d barS 1#32) Q := by
  show _ ⊢ run c (.op (.semSignal (d : Thread nD τ) barS 1) .ret) Q
  iintro ⟨#HR, HO, ⟨Ht, Hp⟩, Hr⟩
  iapply (sig_cell m K hb hd O rfl) $$ [HO Ht Hp]
  · isplitr; · iexact HR
    isplitl [HO]; · iexact HO
    isplitl [Ht]; · iexact Ht
    iexact Hp
  iintro HO
  iapply (run_ret hK)
  isplitr; · iexact HR
  isplitl [HO]; · iexact HO
  iexact Hr

/-- A signal on a condition. -/
theorem sig_if {c c' : Dev nD} {b : Fin 5} {h : Bool} (hb : h = true → b ∈ barDuties c') {p : Prop} {i : Decidable p} (hp : p ↔ h = true)
    {d : p → Dev nD} (hd : ∀ h, d h = c') {O O' : CellTallies nD τ sig Unit} (hO : O' = O + if h then bt c' else 0) {R : sProp 𝕄}
    {α : Type} {J : Prog (TpuEff nD τ sig (Elt F) Λ₀ .tc) α} {Q : α → sProp 𝕄} (hK : St m K c O R ⊢ run c J Q) :
    St m K c O' iprop(sg c' b ∗ R) ⊢ run c (@dite _ p i (fun h => semSignalWord (d h) barS 1#32 >>= fun _ => J) (fun _ => J)) Q := by
  subst hO
  refine run_dite hp (fun h' hh => ?_) (fun h' hh => ?_)
  · rw [if_pos hh]; exact run_bind (sig_one m K (hb hh) (hd h') hK)
  · rw [if_neg (by rw [hh]; decide), add_zero]
    exact (show St m K c O iprop(sg c' b ∗ R) ⊢ St m K c O R from sep_mono_right (sep_mono_right sep_elim_right)).trans hK

variable {c : Dev nD} {h0 : in0.IsWhole} {h1 : out0.IsWhole} {h2 : scr0.IsWhole} {h3 : scr1.IsWhole}

/-- The program's first part: the signals. -/
theorem w25 {Q : (Σ' (d0 : Dev nD) (v2 : BitVec 32) (v5 : BitVec 32) (v8 : BitVec 32) (v19 : BitVec 32) (v31 : BitVec 32) (v34 : BitVec 32), Sems sig S_) → sProp 𝕄}
    {X : sProp 𝕄} (hK : ∀ v2 v5 v8 v19 v31 v34, X ⊢ Q ⟨c, v2, v5, v8, v19, v31, v34, SemArray.scalar (sig.barrier 0 rfl)⟩) :
    X ⊢ run c (k0_part25 in0 h0 out0 h1 scr0 h2 scr1 h3 cc0_scratch2 cc0_scratch3 cc0_scratch4 cc0_scratch5 cc0_scratch6 cc0_scratch7 cc0_scratch8 cc0_scratch9 cc0_scratch10) Q := by
  rw [k0_part25_eq_skeleton]; unfold k0_part25_skel
  unfold run
  simp only [Prog.lift, Prog.bind_op, Prog.bind_ret, wp_deviceId]
  exact run_ret (hK _ _ _ _ _ _)

/-- The signals. -/
theorem w26 {Q : PUnit → sProp 𝕄} (v2 v5 v8 v19 v31 : BitVec 32) (hK : B1 m K Z c ⊢ Q ⟨⟩) :
    B0 m K Z c ⊢ run c (k0_part26 in0 h0 out0 h1 scr0 h2 scr1 h3 cc0_scratch2 cc0_scratch3 cc0_scratch4 cc0_scratch5 cc0_scratch6 cc0_scratch7 cc0_scratch8 cc0_scratch9 cc0_scratch10 c v2 v5 v8 v19 v31 (SemArray.scalar (sig.barrier 0 rfl))) Q := by
  rw [k0_part26_eq_skeleton]; unfold k0_part26_skel
  unfold B0 owed0
  refine run_bind (sig_one m K (mem0 (left c)) (Fin.ext (dev1_eq c)) ?_)
  refine run_bind (sig_one m K (mem1 (right c)) (Fin.ext (dev2_eq c)) ?_)
  refine run_bind (sig_one m K (mem2 (xp c)) (Fin.ext (dev3_eq c)) ?_)
  refine sig_if m K (mem4 c) (op1 c).1 (fun h => by exact Fin.ext ((op1 c).2 h)) rfl ?_
  refine sig_if m K (mem3 c) (op2 c).1 (fun h => by exact Fin.ext ((op2 c).2 h)) rfl ?_
  exact run_ret hK

set_option maxRecDepth 65536 in
/-- The barrier's wait. -/
theorem gs_bar {Q : PUnit → sProp 𝕄} (hK : GS m K Z c prog ⊢ Q ⟨⟩) : B1 m K Z c ⊢ run c (semWaitWord barS (k0_amt1 c)) Q := by
  show _ ⊢ run c (.op (.semWait barS (k0_amt1 c).toInt) .ret) Q
  rw [amt_eq c]
  unfold B1
  iintro ⟨#HR, ⟨%W, HO⟩, ⟨Hat, Hc⟩, Hk⟩
  ihave HI := (Rec_at m K (c, 0)) $$ HR
  icases HI with ⟨#HI, #Hop⟩
  iapply (Rounds.wp_wait_rest_token 𝒱₀ ER (Rd m) (c : Thread nD τ) none (κ := K (c, 0))
      (wpE_semWait_eq 𝒱₀ (c : Thread nD τ) none Set.univ) (Set.mem_univ _) () (O := owed c prog) (W := W) (R := 0) (m := 0) (T := ∅)
      (k' := (barDuties c).card) (by rw [Nat.zero_add]; exact (expect_bar m c).symm)) $$ [HO Hat Hc]
  · isplitr; · iexact HI
    isplitl [Hc]; · iexact Hc
    isplitl [HO]; · iexact HO
    isplitr
    · iapply (mayWait c (.reg barS) (owed c prog) (owed_above c 1 prog (by decide +kernel)))
      iapply (Rec_lev m K) $$ HR
    iexact Hat
  iintro ⟨HO, Hat, -, Hp⟩
  ihave Hp := (rest_bar m c) $$ Hp
  icases Hp with ⟨H0, -, H2, H3, H4⟩
  iapply (run_ret hK)
  unfold GS
  isplitr; · iexact HR
  isplitl [HO]; · iexists _; iexact HO
  iapply Hk
  unfold barGot
  isplitl [Hat]; · iexact Hat
  isplitl [H0]; · iexact H0
  isplitl [H2]; · iexact H2
  isplitl [H3]; · iexact H3
  iexact H4

/-- The wait on the barrier and the first copies. -/
theorem w27 {Q : (Σ' (v97 : BitVec 32), BitVec 32) → sProp 𝕄} (v2 v5 v8 v19 v34 : BitVec 32) (hK : ∀ r, GS m K Z c tail28 ⊢ Q r) :
    B1 m K Z c ⊢ run c (k0_part27 in0 h0 out0 h1 scr0 h2 scr1 h3 cc0_scratch2 cc0_scratch3 cc0_scratch4 cc0_scratch5 cc0_scratch6 cc0_scratch7 cc0_scratch8 cc0_scratch9 cc0_scratch10 c v2 v5 v8 v19 v34 (SemArray.scalar (sig.barrier 0 rfl))) Q := by
  rw [k0_part27_eq_skeleton]; unfold k0_part27_skel
  refine run_bind (gs_bar m K Z ?_)
  refine run_bind (gs_H0 m K Z rfl rfl (Fin.ext (dev6_eq c)) (aM_eq (off1_eq c 0 0)) rfl ?_)
  exact run_ret (hK _)

end Cert.KernelIdeal.Rs
-- ==== Proof.CreditsKernelIdeal.lean ====
/-
# The counts promised at the launch

What the devices owe one another at the launch, sorted by the device it is owed to: a unit of its barrier cell for each of its
barrier's duties, and one region's count at each of its cells that another device pays.
-/
module

public import proofs.«01_k».proof.Proof.AccountKernelIdeal
public import proofs.«01_k».proof.Proof.StripKernelIdeal
public import proofs.«01_k».proof.Proof.BarrierKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Counts owed along a permutation `f` of the devices, where `b` holds, are promised to the devices that `f` reaches. -/
theorem lc_move (f g : Dev nD → Dev nD) (hfg : ∀ c, f (g c) = c) (hgf : ∀ c, g (f c) = c) (b : Dev nD → Bool) (sm : Dev nD → SemLoc sig) (n : ℕ) (c : Dev nD) :
    (Pipeline.launchCred (fun d => if b d then tallyAt ((f d : Thread nD τ), sm d) () n else 0) c : sProp 𝕄)
      = opt (b (g c)) (cred (tallyAt ((c : Thread nD τ), sm (g c)) () n)) := by
  rw [Pipeline.launchCred_of_sum (fun d => if b d then tallyAt ((f d : Thread nD τ), sm d) () n else 0)
    (fun d => if b (g d) then tallyAt ((d : Thread nD τ), sm (g d)) () n else 0) ?_ ?_ c]
  · unfold opt; split
    · rfl
    · exact cred_zero
  · exact Fintype.sum_equiv ⟨f, g, hgf, hfg⟩ _ _ fun d => by
      show _ = if b (g (f d)) then tallyAt ((f d : Thread nD τ), sm (g (f d))) () n else 0
      rw [hgf]
  · intro d g' h
    by_contra hne
    apply h
    split
    · exact Finsupp.ext fun u => by
        rw [tallyAt_apply, if_neg (fun hh => hne (congrArg Prod.fst hh.1))]; rfl
    · rfl

/-! ## The transfers -/

/-- What the devices owe device `c` for one step, for the steps of a list, -/
def lcS (c : Dev nD) (k : Fin 4) (s : Stp) : sProp 𝕄 := Pipeline.launchCred (fun d => due d k s) c
/-- The promises that a list of a sub-strip's steps makes to a device. -/
def lcL (c : Dev nD) (k : Fin 4) : List Stp → sProp 𝕄
  | [] => iprop(emp)
  | s :: l => iprop(lcS (F := F) c k s ∗ lcL c k l)

/-- and for all the steps left, a sub-strip at a time. -/
theorem lc_sub (c : Dev nD) : ∀ l : List (Fin 4 × Stp),
    (Pipeline.launchCred (fun d => owed d l) c : sProp 𝕄) ⊢ bigSep Finset.univ fun k : Fin 4 => lcL (F := F) c k (sub k l)
  | [] => by
    have h : (Pipeline.launchCred (fun d => owed d []) c : sProp 𝕄) ⊢ iprop(emp) := by iintro -; iempintro
    exact h.trans (Entails.of_eq (bigSep_emp_const (Finset.univ : Finset (Fin 4))).symm)
  | p :: l => by
    have h : (Pipeline.launchCred (fun d => owed d (p :: l)) c : sProp 𝕄) = iprop(Pipeline.launchCred (fun d => owed d l) c ∗ lcS (F := F) c p.1 p.2) :=
      Pipeline.launchCred_add (fun d => owed d l) (fun d => due d p.1 p.2) c
    rw [h, bigSep_at p.1 (Φ := fun k : Fin 4 => lcL (F := F) c k (sub k (p :: l))),
      bigSep_congr (s := Finset.univ.erase p.1) (Φ := fun k : Fin 4 => lcL (F := F) c k (sub k (p :: l))) (Ψ := fun k : Fin 4 => lcL (F := F) c k (sub k l))
        (fun k hk => by
          have : p.1 ≠ k := fun h => (Finset.mem_erase.mp hk).1 h.symm
          simp only [sub, if_neg this])]
    have ih := lc_sub c l
    rw [bigSep_at p.1 (Φ := fun k : Fin 4 => lcL (F := F) c k (sub k l))] at ih
    simp only [sub, if_true, lcL]
    iintro ⟨H, HS⟩
    ihave H := ih $$ H
    icases H with ⟨H1, H2⟩
    isplitr [H2]
    · isplitl [HS] <;> iassumption
    · iexact H2

/-- The steps that pay a cell of another device. -/
def isDue : Stp → Bool
  | .Hs _ | .Xo | .Es _ | .Ws _ | .ERX _ | .WRX _ => true
  | _ => false

/-- Steps that pay nothing promise nothing. -/
theorem lc_filter (c : Dev nD) (k : Fin 4) : ∀ l : List Stp, lcL (F := F) c k l ⊢ lcL (F := F) c k (l.filter isDue)
  | [] => Entails.of_eq rfl
  | s :: l => by
    have ih := lc_filter c k l
    rw [List.filter_cons]
    split
    · show iprop(lcS (F := F) c k s ∗ lcL (F := F) c k l) ⊢ iprop(lcS (F := F) c k s ∗ lcL (F := F) c k (l.filter isDue))
      iintro ⟨H, HL⟩
      isplitl [H]; · iexact H
      iapply ih $$ HL
    · show iprop(lcS (F := F) c k s ∗ lcL (F := F) c k l) ⊢ _
      iintro ⟨-, HL⟩
      iapply ih $$ HL

/-- The device below sends up just when this one expects a piece from it. -/
theorem dn_place : ∀ (c : Dev nD) (t : Fin 3), sE (dn c) t = aE c t.succ := by decide +kernel
/-- The device above sends down just when this one expects a piece from it. -/
theorem up_place : ∀ (c : Dev nD) (t : Fin 3), sW (up c) t = aW c t.succ := by decide +kernel
/-- The partner over `x` stands at the same place along `z`. -/
theorem xp_place : ∀ c : Dev nD, zc (xp c) = zc c ∧ (∀ t : Fin 3, aE (xp c) t.succ = aE c t.succ ∧ oE (xp c) t.succ = oE c t.succ
    ∧ aW (xp c) t.succ = aW c t.succ ∧ oW (xp c) t.succ = oW c t.succ) := by decide +kernel

/-- A hop promises an arrival on the ring. -/
theorem lc_Hs (c : Dev nD) (k : Fin 4) (s : Fin 3) : lcS (F := F) c k (.Hs s) = crd c (.pr k s) :=
  lc_move right left right_left left_right (fun _ => true) (fun _ => .dma (ix (.pr k s))) N c
/-- A copy upwards promises an arrival from below, -/
theorem lc_Es (c : Dev nD) (k : Fin 4) (t : Fin 3) : lcS (F := F) c k (.Es t) = opt (aE c t.succ) (crd c (.er k t)) := by
  rw [← dn_place]
  exact lc_move up dn up_dn dn_up (fun d => sE d t) (fun _ => .dma (ix (.er k t))) N c
/-- and a copy downwards one from above. -/
theorem lc_Ws (c : Dev nD) (k : Fin 4) (t : Fin 3) : lcS (F := F) c k (.Ws t) = opt (aW c t.succ) (crd c (.wr k t)) := by
  rw [← up_place]
  exact lc_move dn up dn_up up_dn (fun d => sW d t) (fun _ => .dma (ix (.wr k t))) N c
/-- The copy of the partner's own piece promises an arrival over `x`, -/
theorem lc_Xo (c : Dev nD) (k : Fin 4) : lcS (F := F) c k .Xo = crd c (.xr k (zc c)) := by
  rw [← (xp_place c).1]
  exact lc_move xp xp xp_xp xp_xp (fun _ => true) (fun d => .dma (ix (.xr k (zc d)))) N c
/-- so does that of a piece that reached it from below, -/
theorem lc_ERX (c : Dev nD) (k : Fin 4) (t : Fin 3) : lcS (F := F) c k (.ERX t) = opt (aE c t.succ) (crd c (.xr k (oE c t.succ))) := by
  rw [← ((xp_place c).2 t).1, ← ((xp_place c).2 t).2.1]
  exact lc_move xp xp xp_xp xp_xp (fun d => aE d t.succ) (fun d => .dma (ix (.xr k (oE d t.succ)))) N c
/-- and that of one from above. -/
theorem lc_WRX (c : Dev nD) (k : Fin 4) (t : Fin 3) : lcS (F := F) c k (.WRX t) = opt (aW c t.succ) (crd c (.xr k (oW c t.succ))) := by
  rw [← ((xp_place c).2 t).2.2.1, ← ((xp_place c).2 t).2.2.2]
  exact lc_move xp xp xp_xp xp_xp (fun d => aW d t.succ) (fun d => .dma (ix (.xr k (oW d t.succ)))) N c

/-- A sub-strip's promised counts. -/
theorem lc_crds (c : Dev nD) (k : Fin 4) : lcL (F := F) c k (sub k prog) ⊢ crds (F := F) c k := by
  refine (lc_filter c k _).trans ?_
  rw [sub_prog]
  show lcL (F := F) c k [.Hs 0, .Hs 1, .Hs 2, .Xo, .Es 0, .Ws 0, .ERX 0, .WRX 0, .Es 1, .Ws 1, .ERX 1, .WRX 1, .Es 2, .Ws 2, .ERX 2, .WRX 2] ⊢ _
  unfold crds
  rw [byPlace_eq c (fun o : Fin 4 => crd (F := F) c (.xr k o))]
  unfold byPlace
  rw [b3, b3, b3, b3, b3]
  simp only [lcL, lc_Hs, lc_Es, lc_Ws, lc_Xo, lc_ERX, lc_WRX]
  iintro ⟨H0, H1, H2, X, E0, W0, P0, Q0, E1, W1, P1, Q1, E2, W2, P2, Q2, -⟩
  isplitl [H0 H1 H2]
  · isplitl [H0]; · iexact H0
    isplitl [H1] <;> iassumption
  isplitl [E0 E1 E2]
  · isplitl [E0]; · iexact E0
    isplitl [E1] <;> iassumption
  isplitl [W0 W1 W2]
  · isplitl [W0]; · iexact W0
    isplitl [W1] <;> iassumption
  isplitl [X]; · iexact X
  isplitl [P0 P1 P2]
  · isplitl [P0]; · iexact P0
    isplitl [P1] <;> iassumption
  isplitl [Q0]; · iexact Q0
  isplitl [Q1] <;> iassumption

/-! ## The barrier -/

/-- Units promised at a device's barrier cell. -/
abbrev bcr (c : Dev nD) (n : ℕ) : sProp 𝕄 := cred (tallyAt (barCell c) () n)
/-- Promised signals add up. -/
theorem bcr_add (c : Dev nD) (a b : ℕ) : iprop(bcr (F := F) c a ∗ bcr (F := F) c b) ⊢ bcr (F := F) c (a + b) := by
  refine BIBase.Entails.trans (cred_add _ _).2 ?_
  rw [tallyAt_add]
/-- A promised signal under a condition. -/
theorem bcr_opt (c : Dev nD) (b : Bool) : opt b (bcr (F := F) c 1) ⊢ bcr (F := F) c (if b then 1 else 0) := by
  cases b
  · show _ ⊢ cred (tallyAt (barCell c) () 0)
    rw [tallyAt_zero, cred_zero]; rfl
  · exact Entails.of_eq rfl

/-- The promised signals are as many as the barrier expects. -/
theorem bar_card : ∀ c : Dev nD, (((if hasUp (dn c) then 1 else 0) + (if hasDn (up c) then 1 else 0)) + 1 + 1) + 1 = (barDuties c).card := by decide +kernel

/-- All the promised counts: the barrier's and each sub-strip's. -/
theorem creds (c : Dev nD) : (Pipeline.launchCred owed0 c : sProp 𝕄)
    ⊢ iprop(cred (tallyAt (barCell c) () (barDuties c).card) ∗ bigSep Finset.univ fun k : Fin 4 => crds (F := F) c k) := by
  have h : (Pipeline.launchCred owed0 c : sProp 𝕄) = iprop(((((Pipeline.launchCred (fun d => owed d prog) c
        ∗ opt (hasUp (dn c)) (bcr (F := F) c 1)) ∗ opt (hasDn (up c)) (bcr (F := F) c 1)) ∗ bcr (F := F) c 1) ∗ bcr (F := F) c 1) ∗ bcr (F := F) c 1) := by
    have e0 : (Pipeline.launchCred (fun d => if hasUp d then bt (up d) else 0) c : sProp 𝕄) = opt (hasUp (dn c)) (bcr (F := F) c 1) :=
      lc_move up dn up_dn dn_up hasUp (fun _ => .reg barS) 1 c
    have e1 : (Pipeline.launchCred (fun d => if hasDn d then bt (dn d) else 0) c : sProp 𝕄) = opt (hasDn (up c)) (bcr (F := F) c 1) :=
      lc_move dn up dn_up up_dn hasDn (fun _ => .reg barS) 1 c
    have e2 : (Pipeline.launchCred (fun d => bt (xp d)) c : sProp 𝕄) = bcr (F := F) c 1 :=
      lc_move xp xp xp_xp xp_xp (fun _ => true) (fun _ => .reg barS) 1 c
    have e3 : (Pipeline.launchCred (fun d => bt (right d)) c : sProp 𝕄) = bcr (F := F) c 1 :=
      lc_move right left right_left left_right (fun _ => true) (fun _ => .reg barS) 1 c
    have e4 : (Pipeline.launchCred (fun d => bt (left d)) c : sProp 𝕄) = bcr (F := F) c 1 :=
      lc_move left right left_right right_left (fun _ => true) (fun _ => .reg barS) 1 c
    have f0 := Pipeline.launchCred_add (Val := Elt F) (Name := ℕ) (U := UU) (Lvl := ℕ) (fun d => owed d prog) (fun d => if hasUp d then bt (up d) else 0) c
    have f1 := Pipeline.launchCred_add (Val := Elt F) (Name := ℕ) (U := UU) (Lvl := ℕ) owed2 (fun d => if hasDn d then bt (dn d) else 0) c
    have f2 := Pipeline.launchCred_add (Val := Elt F) (Name := ℕ) (U := UU) (Lvl := ℕ) owed1 (fun d => bt (xp d)) c
    have f3 := Pipeline.launchCred_add (Val := Elt F) (Name := ℕ) (U := UU) (Lvl := ℕ) (fun d => owed1 d + bt (xp d)) (fun d => bt (right d)) c
    have f4 := Pipeline.launchCred_add (Val := Elt F) (Name := ℕ) (U := UU) (Lvl := ℕ) (fun d => owed1 d + bt (xp d) + bt (right d)) (fun d => bt (left d)) c
    rw [e0] at f0; rw [e1] at f1; rw [e2] at f2; rw [e3] at f3; rw [e4] at f4
    have g1 : (Pipeline.launchCred owed2 c : sProp 𝕄) = _ := f0
    have g2 : (Pipeline.launchCred owed1 c : sProp 𝕄) = _ := f1
    have g3 : (Pipeline.launchCred owed0 c : sProp 𝕄) = _ := f4
    rw [g3, f3, f2, g2, g1]
  rw [h]
  iintro ⟨⟨⟨⟨⟨H, HU⟩, HD⟩, HX⟩, HR⟩, HL⟩
  isplitr [H]
  · ihave HU := (bcr_opt (F := F) c _) $$ HU
    ihave HD := (bcr_opt (F := F) c _) $$ HD
    ihave H1 := (bcr_add (F := F) c _ _) $$ [HU HD]
    · isplitl [HU] <;> iassumption
    ihave H2 := (bcr_add (F := F) c _ _) $$ [H1 HX]
    · isplitl [H1] <;> iassumption
    ihave H3 := (bcr_add (F := F) c _ _) $$ [H2 HR]
    · isplitl [H2] <;> iassumption
    ihave H4 := (bcr_add (F := F) c _ _) $$ [H3 HL]
    · isplitl [H3] <;> iassumption
    rw [← bar_card c]
    iexact H4
  · ihave H := (lc_sub (F := F) c prog) $$ H
    have h : (bigSep Finset.univ fun k : Fin 4 => lcL (F := F) c k (sub k prog)) ⊢ (bigSep Finset.univ fun k : Fin 4 => crds (F := F) c k) :=
      bigSep_mono fun k _ => lc_crds (F := F) c k
    iapply h $$ H

end Cert.KernelIdeal.Rs
-- ==== Proof.FundKernelIdeal.lean ====
/-
# The cells' ghost state at the launch

Every device's cells are allocated at once: each with its invariant, its owner's place and the rights to pay its rounds. The
rights are then dealt to the devices that pay.
-/
module

public import proofs.«01_k».proof.Proof.CreditsKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the rights to pay -/

/-- The kernel's own semaphores: the pool without the pipeline's. -/
abbrev osem (i : Fin 108) : SemLoc sig := .dma i.succ

/-- The kernel's own semaphores are the pool's but the launch's one. -/
theorem ownSemFacts : Pipeline.OwnSemFacts cfg0.spec osem where
  isScoped := by decide +kernel
  inj i j h := by
    have : i.succ = j.succ := by injection h
    exact Fin.succ_injective _ this
  disj := by decide +kernel

/-- Different names are different cells. -/
theorem kcell_inj : Function.Injective (kcell : Dev nD × Fin 109 → GSem nD τ sig) := by
  rintro ⟨c, i⟩ ⟨c', i'⟩ h
  unfold kcell at h
  by_cases hi : i = 0 <;> by_cases hi' : i' = 0
  · rw [if_pos hi, if_pos hi'] at h
    have h1 : c = c' := congrArg (fun g : GSem nD τ sig => g.1.1) h
    rw [h1, hi, hi']
  · rw [if_pos hi, if_neg hi'] at h; exact absurd (congrArg Prod.snd h) (fun h => by cases h)
  · rw [if_neg hi, if_pos hi'] at h; exact absurd (congrArg Prod.snd h) (fun h => by cases h)
  · rw [if_neg hi, if_neg hi'] at h
    have h1 : c = c' := congrArg (fun g : GSem nD τ sig => g.1.1) h
    have h2 : (SemLoc.dma i : SemLoc sig) = .dma i' := congrArg Prod.snd h
    rw [h1]; injection h2 with h2; rw [h2]
/-- The schedule's cells. -/
def kcells : Finset (GSem nD τ sig) := Finset.univ.map ⟨kcell, kcell_inj⟩

/-- The rights minted: at every cell, for rounds 0 to 2 and every number of a duty. -/
abbrev tokOf (x : (Dev nD × Fin 109) × Fin 3 × Fin 5) : GSem nD τ sig × ℕ × Fin 5 := (kcell x.1, x.2.1.val, x.2.2)
/-- Different rights are rights to different duties. -/
theorem tokOf_inj : Function.Injective tokOf := by
  rintro ⟨ci, r, b⟩ ⟨ci', r', b'⟩ h
  have h1 : ci = ci' := kcell_inj (congrArg Prod.fst h)
  have h2 : r = r' := Fin.ext (congrArg (fun x : GSem nD τ sig × ℕ × Fin 5 => x.2.1) h)
  have h3 : b = b' := congrArg (fun x : GSem nD τ sig × ℕ × Fin 5 => x.2.2) h
  rw [h1, h2, h3]
/-- The rights to pay that are made at the start. -/
def ktoks : Finset (GSem nD τ sig × ℕ × Fin 5) := Finset.univ.map ⟨tokOf, tokOf_inj⟩

/-- The ghost state at the start. -/
def u₀ : UU := (initOf (Pipeline.cells cfgs cellOf_inj) (Pipeline.launchToks cfgs cellOf_inj), initOf kcells ktoks)

/-- The rights at one cell. -/
def allToks (g : GSem nD τ sig) : sProp 𝕄 := bigSep Finset.univ fun rb : Fin 3 × Fin 5 => dutyTok (ER (F := F)) g rb.1.val rb.2

/-- What the launch deals device `c`. -/
def G (c : Dev nD) : sProp 𝕄 :=
  iprop((bigSep Finset.univ fun i : Fin 109 => roundState ER (Rd m) (kcell (c, i)) 0)
    ∗ (bigSep Finset.univ fun i : Fin 109 => iprop(atPos (ER (F := F)) (kcell (c, i)) 0 ∅ 0 ∗ reached (ER (F := F)) (kcell (c, i)) 0))
    ∗ bigSep Finset.univ fun i : Fin 109 => allToks (F := F) (kcell (c, i)))

/-- The schedule's ghost state, dealt to the devices. -/
theorem fund : BI.own (ER (F := F) (initOf kcells ktoks)) ⊢ (|==> bigSep Finset.univ (G m) : sProp 𝕄) := by
  have hX (Φ : GSem nD τ sig → sProp 𝕄) : bigSep kcells Φ = bigSep Finset.univ fun c : Dev nD => bigSep Finset.univ fun i : Fin 109 => Φ (kcell (c, i)) := by
    unfold kcells; rw [bigSep_map, bigSep_univ_prod]; rfl
  have hT : bigSep ktoks (fun x => (dutyTok (ER (F := F)) x.1 x.2.1 x.2.2 : sProp 𝕄))
      = bigSep Finset.univ fun c : Dev nD => bigSep Finset.univ fun i : Fin 109 => allToks (F := F) (kcell (c, i)) := by
    unfold ktoks; rw [bigSep_map, bigSep_univ_prod, bigSep_univ_prod]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The barrier's index and the others. -/
def splitIx : Unit ⊕ Fin 108 → Fin 109
  | .inl _ => 0
  | .inr i => i.succ
/-- A device's cells are the barrier's and the copies'. -/
theorem splitIx_bij : Function.Bijective splitIx := by
  rw [Fintype.bijective_iff_surjective_and_card]
  exact ⟨by intro i; revert i; decide +kernel, by decide +kernel⟩

/-- The barrier's semaphore is the one that outlives the kernel. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The semaphores of a device's cells are the kernel's own and the barrier's. -/
theorem sems_eq (c : Dev nD) :
    (bigSep Finset.univ fun i : Fin 109 => semVal (kcell (c, i)) 0 : sProp 𝕄)
      = iprop(unscopedSems0 c ∗ Pipeline.ownSems0 (Ix := Unit) (Name := ℕ) (U := UU) (Lvl := ℕ) (Val := Elt F) (τ := τ) osem c) := by
  rw [bigSep_univ_equiv (Equiv.ofBijective splitIx splitIx_bij) (fun i : Fin 109 => (semVal (kcell (c, i)) 0 : sProp 𝕄)), bigSep_univ_sum,
    bigSep_univ_eq_bigSepL [()] (by decide) (by decide), unscopedSems0_eq]
  rfl

/-- A device's counters at zero become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 109 => iprop(∃ κ : ℕ, cellInv ER (Rd m) κ (kcell (c, i))))
          ∗ (bigSep Finset.univ fun i : Fin 109 => iprop(atPos (ER (F := F)) (kcell (c, i)) 0 ∅ 0 ∗ reached (ER (F := F)) (kcell (c, i)) 0))
          ∗ bigSep Finset.univ fun i : Fin 109 => allToks (F := F) (kcell (c, i))) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun i : Fin 109 => semVal (kcell (c, i)) 0) ∗ bigSep Finset.univ fun i : Fin 109 => roundState ER (Rd m) (kcell (c, i)) 0)
      ⊢ (|={Set.univ}=> bigSep Finset.univ fun i : Fin 109 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The rights dealt -/

/-- The rights used at one transfer cell. -/
def tk (c : Dev nD) (q : CK) : sProp 𝕄 := match q with
  | .cp k => bigSep Finset.univ fun s : Fin 3 => tok (F := F) c (.cp k) s.val
  | q => tok (F := F) c q 0

/-- All the rights at a cell hold those that a sub-strip uses. -/
theorem tk_intro (c : Dev nD) (q : CK) : allToks (F := F) (cl c q) ⊢ tk (F := F) c q := by
  have h0 : allToks (F := F) (cl c q) ⊢ tok (F := F) c q 0 := bigSep_elim (Finset.mem_univ ((0 : Fin 3), (0 : Fin 5)))
  cases q
  case cp k =>
    unfold allToks tk
    rw [bigSep_univ_prod]
    exact bigSep_mono fun s _ => bigSep_elim (Finset.mem_univ (0 : Fin 5))
  all_goals exact h0

/-- All the rights at the barrier hold the five that are used. -/
theorem bar_toks (c : Dev nD) : allToks (F := F) (barCell c) ⊢ iprop(btok (F := F) c 0 ∗ btok (F := F) c 1 ∗ btok (F := F) c 2 ∗ btok (F := F) c 3 ∗ btok (F := F) c 4) := by
  unfold allToks
  rw [bigSep_univ_prod]
  refine (bigSep_elim (Finset.mem_univ (0 : Fin 3))).trans ?_
  exact Entails.of_eq (bigSep_univ_eq_bigSepL [0, 1, 2, 3, 4] (by decide) (by decide) (fun b : Fin 5 => btok (F := F) c b))

/-- A device's cells' rights, named. -/
theorem own_toks (c : Dev nD) : (bigSep Finset.univ fun i : Fin 109 => allToks (F := F) (kcell (c, i)))
    ⊢ iprop((btok (F := F) c 0 ∗ btok (F := F) c 1 ∗ btok (F := F) c 2 ∗ btok (F := F) c 3 ∗ btok (F := F) c 4)
      ∗ bigSep Finset.univ fun k : Fin 4 => fam (tk (F := F) c) k) := by
  rw [pool_split]
  refine BI.sep_mono (bar_toks c) (bigSep_mono fun k _ => fam_mono k fun q hq => ?_)
  rw [kcell_ix c q hq]; exact tk_intro c q

/-- The equivalences of the devices that the transfers go along. -/
def eR : Dev nD ≃ Dev nD := ⟨right, left, left_right, right_left⟩
/-- The partner over `x`, as a permutation of the devices, -/
def eX : Dev nD ≃ Dev nD := ⟨xp, xp, xp_xp, xp_xp⟩
/-- and one place up. -/
def eU : Dev nD ≃ Dev nD := ⟨up, dn, dn_up, up_dn⟩

/-- A sub-strip's rights, dealt to the devices that pay. -/
theorem deal_sub (k : Fin 4) : (bigSep Finset.univ fun c : Dev nD => fam (tk (F := F) c) k) ⊢ bigSep Finset.univ fun c : Dev nD => toks (F := F) c k := by
  unfold fam toks tk
  simp only [bigSep_sep']
  rw [bigSep_univ_equiv eR (fun c : Dev nD => bigSep Finset.univ fun s : Fin 3 => tok (F := F) c (.pr k s) 0),
    bigSep_univ_equiv eU (fun c : Dev nD => bigSep Finset.univ fun s : Fin 3 => tok (F := F) c (.er k s) 0),
    bigSep_univ_equiv eU.symm (fun c : Dev nD => bigSep Finset.univ fun s : Fin 3 => tok (F := F) c (.wr k s) 0),
    bigSep_univ_equiv eX (fun c : Dev nD => bigSep Finset.univ fun s : Fin 4 => tok (F := F) c (.xr k s) 0)]
  iintro ⟨H1, H2, H3, H4, H5, H6, H7, H8, H9⟩
  isplitl [H2]; · iexact H2
  isplitl [H3]; · iexact H3
  isplitl [H1]; · iexact H1
  isplitl [H4]; · iexact H4
  isplitl [H5]; · iexact H5
  isplitl [H6]; · iexact H6
  isplitl [H7]; · iexact H7
  isplitl [H8]; · iexact H8
  iexact H9

/-- The rights a device pays with. -/
def paid (c : Dev nD) : sProp 𝕄 :=
  iprop((btok (F := F) (left c) 0 ∗ btok (F := F) (right c) 1 ∗ btok (F := F) (xp c) 2 ∗ btok (F := F) (dn c) 4 ∗ btok (F := F) (up c) 3)
    ∗ bigSep Finset.univ fun k : Fin 4 => toks (F := F) c k)

/-- The rights, dealt to the devices that pay. -/
theorem deal : (bigSep Finset.univ fun c : Dev nD => bigSep Finset.univ fun i : Fin 109 => allToks (F := F) (kcell (c, i)))
    ⊢ bigSep Finset.univ fun c : Dev nD => paid (F := F) c := by
  have h0 : (bigSep Finset.univ fun c : Dev nD => bigSep Finset.univ fun i : Fin 109 => allToks (F := F) (kcell (c, i)))
      ⊢ bigSep Finset.univ fun c : Dev nD => iprop((btok (F := F) c 0 ∗ btok (F := F) c 1 ∗ btok (F := F) c 2 ∗ btok (F := F) c 3 ∗ btok (F := F) c 4)
        ∗ bigSep Finset.univ fun k : Fin 4 => fam (tk (F := F) c) k) := bigSep_mono fun c _ => own_toks c
  have h1 : (bigSep Finset.univ fun c : Dev nD => bigSep Finset.univ fun k : Fin 4 => fam (tk (F := F) c) k)
      ⊢ bigSep Finset.univ fun c : Dev nD => bigSep Finset.univ fun k : Fin 4 => toks (F := F) c k := by
    rw [bigSep_univ_comm, bigSep_univ_comm (fun (c : Dev nD) (k : Fin 4) => toks (F := F) c k)]
    exact bigSep_mono fun k _ => deal_sub k
  refine h0.trans ?_
  unfold paid
  simp only [bigSep_sep']
  iintro ⟨⟨H0, H1, H2, H3, H4⟩, HT⟩
  ihave HT := h1 $$ HT
  isplitr [HT]
  · isplitl [H0]; · iapply (Entails.of_eq (bigSep_univ_equiv eR.symm (fun c : Dev nD => btok (F := F) c 0))) $$ H0
    isplitl [H1]; · iapply (Entails.of_eq (bigSep_univ_equiv eR (fun c : Dev nD => btok (F := F) c 1))) $$ H1
    isplitl [H2]; · iapply (Entails.of_eq (bigSep_univ_equiv eX (fun c : Dev nD => btok (F := F) c 2))) $$ H2
    isplitl [H4]; · iapply (Entails.of_eq (bigSep_univ_equiv eU.symm (fun c : Dev nD => btok (F := F) c 4))) $$ H4
    iapply (Entails.of_eq (bigSep_univ_equiv eU (fun c : Dev nD => btok (F := F) c 3))) $$ H3
  · iexact HT

/-! ## All devices at once -/

/-- The cells' invariants and open rounds. -/
def Rec0 (K : Names) : sProp 𝕄 :=
  bigSep Finset.univ fun ci : Dev nD × Fin 109 => iprop(cellInv ER (Rd m) (K ci) (kcell ci) ∗ reached (ER (F := F)) (kcell ci) 0)
/-- The invariants are shared. -/
instance Rec0_persistent (K : Names) : BI.Persistent (Rec0 m K) := by unfold Rec0; infer_instance

/-- A device's places at its cells and the rights it pays with. -/
def lin (c : Dev nD) : sProp 𝕄 := iprop((bigSep Finset.univ fun i : Fin 109 => atPos (ER (F := F)) (kcell (c, i)) 0 ∅ 0) ∗ paid (F := F) c)

/-- What the allocation gives device `c`. -/
def G' (c : Dev nD) : sProp 𝕄 := iprop(∃ K, Rec0 m K ∗ lin (F := F) c)

/-- What a device gets at the launch. -/
theorem G'_intro (K : Names) (c : Dev nD) : iprop(Rec0 m K ∗ lin (F := F) c) ⊢ G' m c := by
  unfold G'; iintro H; iexists K; iexact H

/-- Something shared may be used in every part. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants and the rest, put together over all devices. -/
theorem regroup :
    (bigSep Finset.univ fun c : Dev nD => iprop((bigSep Finset.univ fun i : Fin 109 => iprop(∃ κ : ℕ, cellInv ER (Rd m) κ (kcell (c, i))))
          ∗ (bigSep Finset.univ fun i : Fin 109 => iprop(atPos (ER (F := F)) (kcell (c, i)) 0 ∅ 0 ∗ reached (ER (F := F)) (kcell (c, i)) 0))
          ∗ bigSep Finset.univ fun i : Fin 109 => allToks (F := F) (kcell (c, i))) : sProp 𝕄)
      ⊢ bigSep Finset.univ (G' m) := by
  rw [bigSep_sep', bigSep_sep', ← bigSep_univ_prod (fun ci : Dev nD × Fin 109 => iprop(∃ κ : ℕ, cellInv ER (Rd m) κ (kcell ci))),
    bigSep_congr (s := Finset.univ) (fun (c : Dev nD) _ => bigSep_sep' Finset.univ (fun i : Fin 109 => (atPos (ER (F := F)) (kcell (c, i)) 0 ∅ 0 : sProp 𝕄)) (fun i => reached (ER (F := F)) (kcell (c, i)) 0)),
    bigSep_sep', ← bigSep_univ_prod (fun ci : Dev nD × Fin 109 => (reached (ER (F := F)) (kcell ci) 0 : sProp 𝕄))]
  iintro ⟨HI, ⟨Hat, HR⟩, Htok⟩
  ihave HK := (BI.bigSep_exists_pi Finset.univ (fun (ci : Dev nD × Fin 109) (κ : ℕ) => (cellInv ER (Rd m) κ (kcell ci) : sProp 𝕄))) $$ HI
  icases HK with ⟨%K, HI⟩
  ihave Htk := (deal (F := F)) $$ Htok
  ihave HR0 := (Entails.of_eq (show iprop((bigSep Finset.univ fun ci : Dev nD × Fin 109 => cellInv ER (Rd m) (K ci) (kcell ci))
      ∗ bigSep Finset.univ fun ci : Dev nD × Fin 109 => reached (ER (F := F)) (kcell ci) 0) = Rec0 m K from by unfold Rec0; rw [bigSep_sep'])) $$ [HI HR]
  · isplitl [HI] <;> iassumption
  iapply (with_persistent (R := Rec0 m K) fun c _ => G'_intro m K c)
  isplitl [HR0]; · iexact HR0
  unfold lin; rw [bigSep_sep']
  isplitl [Hat]; · iexact Hat
  iexact Htk

/-- The allocation, over all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- A device's places, named. -/
theorem places (c : Dev nD) : (bigSep Finset.univ fun i : Fin 109 => atPos (ER (F := F)) (kcell (c, i)) 0 ∅ 0)
    ⊢ iprop(atPos (ER (F := F)) (barCell c) 0 ∅ 0 ∗ bigSep Finset.univ fun k : Fin 4 => fam (fun q => pos (F := F) c q 0) k) := by
  rw [pool_split]
  have h : (atPos (ER (F := F)) (barCell c) 0 ∅ 0 : sProp 𝕄) ⊢ atPos (ER (F := F)) (barCell c) 0 ∅ 0 := Entails.of_eq rfl
  refine BI.sep_mono h (bigSep_mono fun k _ => fam_mono k fun q hq => ?_)
  rw [kcell_ix c q hq]

end Cert.KernelIdeal.Rs
-- ==== Proof.RegionsKernelIdeal.lean ====
/-
# The buffers and their regions

The result, the landing buffer and the stage are each cut wholly into the regions the transfers move; of the argument
sixteen blocks are lent to the kernel and come back as they were.
-/
module

public import proofs.«01_k».proof.Proof.AccountKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A region and its contents -/

/-- A cast is injective. -/
theorem cast_inj_of {α β : Type} (h : α = β) {a b : α} (hx : cast h a = cast h b) : a = b := by subst h; exact hx

omit [FloatOps F] in
/-- Two contents of a buffer that read the same through a region are the same on it. -/
theorem eqOn_of_read {sp : Space} (M : Memref sig .tc sp S128x1024 .f32) {f g : M.view.ty.Contents (Elt F)}
    (h : M.view.read (Elt F) f = M.view.read (Elt F) g) : ∀ i ∈ M.view.set, f i = g i := by
  intro i hi
  obtain ⟨x, -, rfl⟩ := Finset.mem_map.mp hi
  have hx := congrFun h x
  rw [View.read_apply, View.read_apply] at hx
  exact cast_inj_of _ hx

/-- A region held with what contents `f` of its buffer read as is the buffer held at `f` there. -/
theorem hold_eq (c : Dev nD) {sp : Space} (M : Memref sig .tc sp S128x1024 .f32) (q : PosShare TreeShare) (f : Buf (Elt F) (M.view.loc (c : Thread nD τ)))
    (v : Blk F) (hv : M.view.read (Elt F) f = v) :
    hold c M q v = (M.view.loc (c : Thread nD τ) ↦[M.view.set]{q} f) := by
  refine ent_eq ?_ (hold_intro c M q v f hv)
  unfold hold owns
  iintro ⟨%g, %hg, H⟩
  iapply (Entails.of_eq (pointsTo_congr (eqOn_of_read M (hg.trans hv.symm)))) $$ H

/-- A region held with any contents. -/
theorem any_eq (c : Dev nD) {sp : Space} (M : Memref sig .tc sp S128x1024 .f32) :
    any (F := F) c M = iprop(∃ f : Buf (Elt F) (M.view.loc (c : Thread nD τ)), (M.view.loc (c : Thread nD τ) ↦[M.view.set]{fullShare} f)) := by
  refine ent_eq ?_ ?_
  · unfold any hold owns
    iintro ⟨%v, %f, -, H⟩
    iexists f; iexact H
  · unfold any
    iintro ⟨%f, H⟩
    iexists _
    iapply (hold_intro c M fullShare _ f rfl) $$ H

/-! ## The elements of a region -/

/-- The places of a piece of the result, -/
abbrev oS (n : Fin 32) : Finset S4096x1024.Idx := (oM n).view.set
/-- of a landing slot, -/
abbrev cS (p : Fin 4 × Fin 3) : Finset S4x3x128x1024.Idx := (cM p.1 p.2).view.set
/-- of a staging slot, -/
abbrev sS (k : Fin 4) : Finset S4x128x1024.Idx := (sM k).view.set
/-- of a block of the argument. -/
abbrev aS (n : Fin 32) (j : Fin 4) : Finset S1x4096x4096.Idx := (aM n j).view.set

/-- The places of a piece are its rows. -/
theorem oS_eq (n : Fin 32) : oS n = (Rect.unit (s := S4096x1024) ![128 * n.val, 0] S128x1024.size (oM_inb n)).set := View.set_slice_whole _ _
/-- The places of a landing slot are a rectangle, -/
theorem cS_eq (p : Fin 4 × Fin 3) : cS p = (Rect.unit (s := S4x3x128x1024) ![p.1.val, p.2.val, 0, 0] S1x1x128x1024.size (cM_inb p.1 p.2)).set :=
  (Memref.set_view_squeeze _ _).trans (View.set_slice_whole _ _)
/-- so are those of a staging slot, -/
theorem sS_eq (k : Fin 4) : sS k = (Rect.unit (s := S4x128x1024) ![k.val, 0, 0] S1x128x1024.size (sM_inb k)).set :=
  (Memref.set_view_squeeze _ _).trans (View.set_slice_whole _ _)
/-- and those of a block of the argument. -/
theorem aS_eq (n : Fin 32) (j : Fin 4) : aS n j = (Rect.unit (s := S1x4096x4096) ![0, 128 * n.val, 1024 * j.val] S1x128x1024.size (aM_inb n j)).set :=
  (Memref.set_view_squeeze _ _).trans (View.set_slice_whole _ _)

/-- Piece `n` of the result is its rows from `128 n`. -/
theorem mem_oM (n : Fin 32) (i : S4096x1024.Idx) : i ∈ oS n ↔ 128 * n.val ≤ (i 0).val ∧ (i 0).val < 128 * n.val + 128 := by
  rw [oS_eq, Rect.mem_set_unit]
  constructor
  · exact fun h => h 0
  · intro h a
    fin_cases a
    · exact h
    · exact ⟨Nat.zero_le _, by have := (i 1).isLt; show _ < 0 + 1024; rw [Nat.zero_add]; exact this⟩

/-- Slot `(k, s)` of the landing buffer is what its first two coordinates say. -/
theorem mem_cM (k : Fin 4) (s : Fin 3) (i : S4x3x128x1024.Idx) : i ∈ cS (k, s) ↔ (i 0).val = k.val ∧ (i 1).val = s.val := by
  rw [cS_eq, Rect.mem_set_unit]
  constructor
  · intro h
    have h0 : k.val ≤ (i 0).val ∧ (i 0).val < k.val + 1 := h 0
    have h1 : s.val ≤ (i 1).val ∧ (i 1).val < s.val + 1 := h 1
    omega
  · intro h a
    fin_cases a
    · show k.val ≤ (i 0).val ∧ (i 0).val < k.val + 1; omega
    · show s.val ≤ (i 1).val ∧ (i 1).val < s.val + 1; omega
    · exact ⟨Nat.zero_le _, by have := (i 2).isLt; show _ < 0 + 128; rw [Nat.zero_add]; exact this⟩
    · exact ⟨Nat.zero_le _, by have := (i 3).isLt; show _ < 0 + 1024; rw [Nat.zero_add]; exact this⟩

/-- Slot `k` of the stage is what its first coordinate says. -/
theorem mem_sM (k : Fin 4) (i : S4x128x1024.Idx) : i ∈ sS k ↔ (i 0).val = k.val := by
  rw [sS_eq, Rect.mem_set_unit]
  constructor
  · intro h
    have h0 : k.val ≤ (i 0).val ∧ (i 0).val < k.val + 1 := h 0
    omega
  · intro h a
    fin_cases a
    · show k.val ≤ (i 0).val ∧ (i 0).val < k.val + 1; omega
    · exact ⟨Nat.zero_le _, by have := (i 1).isLt; show _ < 0 + 128; rw [Nat.zero_add]; exact this⟩
    · exact ⟨Nat.zero_le _, by have := (i 2).isLt; show _ < 0 + 1024; rw [Nat.zero_add]; exact this⟩

/-- A block of the argument is its rows and its columns. -/
theorem mem_aM (n : Fin 32) (j : Fin 4) (i : S1x4096x4096.Idx) (h : i ∈ aS n j) :
    (128 * n.val ≤ (i 1).val ∧ (i 1).val < 128 * n.val + 128) ∧ (1024 * j.val ≤ (i 2).val ∧ (i 2).val < 1024 * j.val + 1024) := by
  rw [aS_eq, Rect.mem_set_unit] at h
  exact ⟨h 1, h 2⟩

/-! ## The result -/

/-- The same as a set of places of the buffer on device `c`. -/
abbrev oT (c : Dev nD) (b : Fin 32) : Finset (Idx ((c : Thread nD τ).loc cc0_stg0_0)) := oS b
/-- The pieces of the result do not meet, -/
theorem oM_disj (c : Dev nD) (n n' : Fin 32) (h : n ≠ n') : Disjoint (oT c n) (oT c n') :=
  Finset.disjoint_left.mpr fun i hi hi' => h (Fin.ext (by
    have h1 := (mem_oM n i).mp hi; have h2 := (mem_oM n' i).mp hi'; omega))
/-- and cover it. -/
theorem oM_cover (c : Dev nD) : Finset.univ.biUnion (oT c) = Finset.univ :=
  Finset.eq_univ_iff_forall.mpr fun i => by
    have h : (i 0).val < 4096 := (i 0).isLt
    exact Finset.mem_biUnion.mpr ⟨⟨(i 0).val / 128, by omega⟩, Finset.mem_univ _, (mem_oM _ i).mpr ⟨by show 128 * ((i 0).val / 128) ≤ _; omega, by show _ < 128 * ((i 0).val / 128) + 128; omega⟩⟩

/-- Column `y` of the result, piece by piece. -/
def outV (y : Fin 4) : Vec F S4096x1024 .f32 := fun i =>
  rv m y ⟨(i 0).val / 128, by have h : (i 0).val < 4096 := (i 0).isLt; omega⟩
    (fun a => match a with | ⟨0, _⟩ => ⟨(i 0).val % 128, Nat.mod_lt _ (by decide)⟩ | ⟨1, _⟩ => i 1)

/-- The column of the result read at a piece is the piece. -/
theorem read_outV (y : Fin 4) (n : Fin 32) : (oM n).view.read (Elt F) (outV m y) = rv m y n := by
  funext x
  rw [View.read_apply]
  have hx : (x 0).val < 128 := (x 0).isLt
  have h0 : (((oM n).view.emb x) 0).val = 128 * n.val + (x 0).val := by show 128 * n.val + 1 * (x 0).val = _; omega
  have h1 : (((oM n).view.emb x) 1).val = (x 1).val := by show 0 + 1 * (x 1).val = _; omega
  show rv m y _ _ = _
  congr 1
  · exact Fin.ext (by show (((oM n).view.emb x) 0).val / 128 = _; rw [h0]; omega)
  · funext a
    fin_cases a
    · exact Fin.ext (by show (((oM n).view.emb x) 0).val % 128 = (x 0).val; rw [h0]; omega)
    · exact Fin.ext h1

/-- The result's buffer held is its pieces held, -/
theorem out_blocks (c : Dev nD) (f : Buf (Elt F) ((c : Thread nD τ).loc cc0_stg0_0)) :
    ((((c : Thread nD τ).loc cc0_stg0_0) ↦{fullShare} f : sProp 𝕄)) = bigSep Finset.univ fun n : Fin 32 => ((c : Thread nD τ).loc cc0_stg0_0) ↦[oT c n]{fullShare} f :=
  Ring.pointsTo_blocks (oT c) (oM_disj c) (oM_cover c) f
/-- A piece held with some contents, as places of the buffer. -/
theorem any_oM (c : Dev nD) (n : Fin 32) : any (F := F) c (oM n)
    = iprop(∃ f : Buf (Elt F) ((c : Thread nD τ).loc cc0_stg0_0), ((c : Thread nD τ).loc cc0_stg0_0) ↦[oT c n]{fullShare} f) := any_eq c (oM n)
/-- A piece held at its value is the buffer held at the column there. -/
theorem piece_oM (c : Dev nD) (n : Fin 32) : piece m c n fullShare
    = (((c : Thread nD τ).loc cc0_stg0_0) ↦[oT c n]{fullShare} (outV m (yc c) : Buf (Elt F) ((c : Thread nD τ).loc cc0_stg0_0))) :=
  hold_eq c (oM n) fullShare (outV m (yc c)) _ (read_outV m (yc c) n)

/-- whatever it holds; -/
theorem out_split (c : Dev nD) (f : Buf (Elt F) ((c : Thread nD τ).loc cc0_stg0_0)) :
    (((c : Thread nD τ).loc cc0_stg0_0) ↦{fullShare} f) ⊢ bigSep Finset.univ fun n : Fin 32 => any (F := F) c (oM n) := by
  rw [out_blocks]
  have h (n : Fin 32) : (((c : Thread nD τ).loc cc0_stg0_0) ↦[oT c n]{fullShare} f) ⊢ any (F := F) c (oM n) := by
    rw [any_oM]
    iintro H; iexists f; iexact H
  exact bigSep_mono fun n _ => h n
/-- and the pieces, each with its sum, are the result. -/
theorem out_join (c : Dev nD) :
    (bigSep Finset.univ fun n : Fin 32 => piece m c n fullShare)
      = (((c : Thread nD τ).loc cc0_stg0_0) ↦{fullShare} (outV m (yc c) : Buf (Elt F) ((c : Thread nD τ).loc cc0_stg0_0))) := by
  rw [out_blocks]
  exact bigSep_congr fun n _ => piece_oM m c n

/-- The pieces of the two halves. -/
def halfIx (c : Dev nD) : (Fin 4 × Fin 4) ⊕ (Fin 4 × Fin 4) → Fin 32
  | .inl x => pc c x.2 x.1
  | .inr x => pc (xp c) x.2 x.1
/-- The pieces of the result are the device's half and its partner's. -/
theorem halfIx_bij (c : Dev nD) : Function.Bijective (halfIx c) := by
  rw [Fintype.bijective_iff_surjective_and_card]
  exact ⟨by revert c; unfold Function.Surjective; decide +kernel, by decide +kernel⟩

omit [FloatOps F] in
/-- A conjunction over the pieces: those of the device's half, by sub-strip and origin, and those of the other half. -/
theorem halves (c : Dev nD) (Φ : Fin 32 → sProp 𝕄) :
    bigSep Finset.univ Φ = iprop((bigSep Finset.univ fun k : Fin 4 => bigSep Finset.univ fun o : Fin 4 => Φ (pc c o k))
      ∗ (bigSep Finset.univ fun k : Fin 4 => bigSep Finset.univ fun o : Fin 4 => Φ (pc (xp c) o k))) := by
  rw [bigSep_univ_equiv (Equiv.ofBijective (halfIx c) (halfIx_bij c)) Φ, bigSep_univ_sum, bigSep_univ_prod, bigSep_univ_prod]
  rfl

/-! ## The landing buffer and the stage -/

/-- The same as a set of places of the buffer on device `c`. -/
abbrev cT (c : Dev nD) (b : Fin 4 × Fin 3) : Finset (Idx ((c : Thread nD τ).loc cc0_scratch0)) := cS b
/-- The landing slots do not meet, -/
theorem cM_disj (c : Dev nD) (p p' : Fin 4 × Fin 3) (h : p ≠ p') : Disjoint (cT c p) (cT c p') :=
  Finset.disjoint_left.mpr fun i hi hi' => h (by
    have h1 := (mem_cM p.1 p.2 i).mp hi; have h2 := (mem_cM p'.1 p'.2 i).mp hi'
    exact Prod.ext (Fin.ext (by omega)) (Fin.ext (by omega)))
/-- and cover the buffer. -/
theorem cM_cover (c : Dev nD) : Finset.univ.biUnion (cT c) = Finset.univ :=
  Finset.eq_univ_iff_forall.mpr fun i => Finset.mem_biUnion.mpr ⟨((i 0 : Fin 4), (i 1 : Fin 3)), Finset.mem_univ _, (mem_cM _ _ i).mpr ⟨rfl, rfl⟩⟩
/-- The same as a set of places of the buffer on device `c`. -/
abbrev sT (c : Dev nD) (b : Fin 4) : Finset (Idx ((c : Thread nD τ).loc cc0_scratch1)) := sS b
/-- The staging slots do not meet, -/
theorem sM_disj (c : Dev nD) (k k' : Fin 4) (h : k ≠ k') : Disjoint (sT c k) (sT c k') :=
  Finset.disjoint_left.mpr fun i hi hi' => h (Fin.ext (((mem_sM k i).mp hi).symm.trans ((mem_sM k' i).mp hi')))
/-- and cover the buffer. -/
theorem sM_cover (c : Dev nD) : Finset.univ.biUnion (sT c) = Finset.univ :=
  Finset.eq_univ_iff_forall.mpr fun i => Finset.mem_biUnion.mpr ⟨(i 0 : Fin 4), Finset.mem_univ _, (mem_sM _ i).mpr rfl⟩

/-- A landing slot held with some contents, as places of the buffer. -/
theorem any_cM (c : Dev nD) (p : Fin 4 × Fin 3) : any (F := F) c (cM p.1 p.2)
    = iprop(∃ f : Buf (Elt F) ((c : Thread nD τ).loc cc0_scratch0), ((c : Thread nD τ).loc cc0_scratch0) ↦[cT c p]{fullShare} f) := any_eq c (cM p.1 p.2)
/-- A staging slot held with some contents, as places of the buffer. -/
theorem any_sM (c : Dev nD) (k : Fin 4) : any (F := F) c (sM k)
    = iprop(∃ f : Buf (Elt F) ((c : Thread nD τ).loc cc0_scratch1), ((c : Thread nD τ).loc cc0_scratch1) ↦[sT c k]{fullShare} f) := any_eq c (sM k)

omit [FloatOps F] in
/-- A buffer held at some contents is each of its parts held at some contents. -/
theorem parts_split {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ f, ℓ ↦{fullShare} f) : sProp 𝕄) ⊢ bigSep Finset.univ fun b => iprop(∃ f, ℓ ↦[I b]{fullShare} f) := by
  iintro ⟨%f, H⟩
  have h := Ring.pointsTo_blocks (Ix := Unit) (Name := ℕ) (U := UU) (Lvl := ℕ) (Val := Elt F) I hd hc (q := fullShare) f
  have h0 (b : B) : (ℓ ↦[I b]{fullShare} f : sProp 𝕄) ⊢ iprop(∃ f, ℓ ↦[I b]{fullShare} f) := by iintro H; iexists f; iexact H
  have h' : (bigSep Finset.univ fun b => ℓ ↦[I b]{fullShare} f : sProp 𝕄) ⊢ bigSep Finset.univ fun b => iprop(∃ f, ℓ ↦[I b]{fullShare} f) :=
    bigSep_mono fun b _ => h0 b
  iapply h'
  iapply (Entails.of_eq h) $$ H

/-- The landing buffer is its slots; -/
theorem com_split (c : Dev nD) : iprop(∃ f : Buf (Elt F) ((c : Thread nD τ).loc cc0_scratch0), ((c : Thread nD τ).loc cc0_scratch0) ↦{fullShare} f)
    ⊢ bigSep Finset.univ fun k : Fin 4 => bigSep Finset.univ fun s : Fin 3 => any (F := F) c (cM k s) := by
  rw [← bigSep_univ_prod (fun p : Fin 4 × Fin 3 => any (F := F) c (cM p.1 p.2)), bigSep_congr (fun p _ => any_cM c p)]
  exact parts_split (cT c) (cM_disj c) (cM_cover c)
include m in
/-- The landing slots make the buffer again. -/
theorem com_join (c : Dev nD) : (bigSep Finset.univ fun k : Fin 4 => bigSep Finset.univ fun s : Fin 3 => any (F := F) c (cM k s))
    ⊢ iprop(∃ f : Buf (Elt F) ((c : Thread nD τ).loc cc0_scratch0), ((c : Thread nD τ).loc cc0_scratch0) ↦{fullShare} f) := by
  rw [← bigSep_univ_prod (fun p : Fin 4 × Fin 3 => any (F := F) c (cM p.1 p.2)), bigSep_congr (fun p _ => any_cM c p)]
  exact Ring.pointsTo_blocks_join_exists (cT c) (cM_disj c) (cM_cover c) (m ((c : Thread nD τ).loc cc0_scratch0))
/-- and so is the stage. -/
theorem stg_split (c : Dev nD) : iprop(∃ f : Buf (Elt F) ((c : Thread nD τ).loc cc0_scratch1), ((c : Thread nD τ).loc cc0_scratch1) ↦{fullShare} f)
    ⊢ bigSep Finset.univ fun k : Fin 4 => any (F := F) c (sM k) := by
  rw [bigSep_congr (fun k _ => any_sM c k)]
  exact parts_split (sT c) (sM_disj c) (sM_cover c)
include m in
/-- The staging slots make the buffer again. -/
theorem stg_join (c : Dev nD) : (bigSep Finset.univ fun k : Fin 4 => any (F := F) c (sM k))
    ⊢ iprop(∃ f : Buf (Elt F) ((c : Thread nD τ).loc cc0_scratch1), ((c : Thread nD τ).loc cc0_scratch1) ↦{fullShare} f) := by
  rw [bigSep_congr (fun k _ => any_sM c k)]
  exact Ring.pointsTo_blocks_join_exists (sT c) (sM_disj c) (sM_cover c) (m ((c : Thread nD τ).loc cc0_scratch1))

/-! ## The argument -/

/-- Sub-strip `k`'s blocks of the argument, chunk by chunk. -/
theorem args_eq (c : Dev nD) (k : Fin 4) :
    args m c k = bigSep Finset.univ fun j : Fin 4 => hold c (aM (nc c k) (ch c j)) fullShare (A m c (nc c k) (ch c j)) := by
  unfold args; rw [b4, b3]; rfl

/-- The same as a set of places of the argument on device `c`. -/
abbrev aT (c : Dev nD) (p : Fin 4 × Fin 4) : Finset (Idx ((c : Thread nD τ).loc main_arg0)) := aS (nc c p.1) (ch c p.2)
/-- The blocks of the argument that a device reads do not meet. -/
theorem aM_disj (c : Dev nD) (p p' : Fin 4 × Fin 4) (h : p ≠ p') :
    Disjoint (aT c p) (aT c p') :=
  Finset.disjoint_left.mpr fun i hi hi' => h (by
    have h1 := mem_aM _ _ i hi; have h2 := mem_aM _ _ i hi'
    have hn : ∀ (c : Dev nD) (k k' : Fin 4), nc c k = nc c k' → k = k' := by decide +kernel
    have hc : ∀ (c : Dev nD) (j j' : Fin 4), ch c j = ch c j' → j = j' := by decide +kernel
    exact Prod.ext (hn c _ _ (Fin.ext (by omega))) (hc c _ _ (Fin.ext (by omega))))

/-- A block of the argument held at its value is the argument held there. -/
theorem hold_aM (c : Dev nD) (k j : Fin 4) : hold c (aM (nc c k) (ch c j)) fullShare (A m c (nc c k) (ch c j))
    = (((c : Thread nD τ).loc main_arg0) ↦[aT c (k, j)]{fullShare} m ((c : Thread nD τ).loc main_arg0)) :=
  hold_eq c (aM (nc c k) (ch c j)) fullShare (m ((c : Thread nD τ).loc main_arg0)) _ rfl

/-- The elements of the argument that the kernel reads. -/
abbrev argS (c : Dev nD) : Finset (Idx ((c : Thread nD τ).loc main_arg0)) := Finset.univ.biUnion (aT c)

/-- The blocks that the kernel reads are the argument held on their places. -/
theorem args_blocks (c : Dev nD) : (bigSep Finset.univ fun k : Fin 4 => args m c k)
    = (((c : Thread nD τ).loc main_arg0) ↦[argS c]{fullShare} m ((c : Thread nD τ).loc main_arg0)) := by
  refine Eq.trans ?_ (pointsTo_biUnion (ℓ := (c : Thread nD τ).loc main_arg0) Finset.univ (aT c) (fun p _ p' _ h => aM_disj c p p' h)).symm
  rw [bigSep_univ_prod]
  refine bigSep_congr fun k _ => ?_
  rw [args_eq]
  exact bigSep_congr fun j _ => hold_aM m c _ _

/-- The blocks of the argument taken out, to be put back. -/
theorem args_take (c : Dev nD) : (((c : Thread nD τ).loc main_arg0) ↦{fullShare} m ((c : Thread nD τ).loc main_arg0))
    ⊢ iprop((bigSep Finset.univ fun k : Fin 4 => args m c k)
      ∗ ((bigSep Finset.univ fun k : Fin 4 => args m c k) -∗ ((c : Thread nD τ).loc main_arg0) ↦{fullShare} m ((c : Thread nD τ).loc main_arg0))) := by
  rw [args_blocks]
  have hS := pointsTo_split_subset (Ix := Unit) (Name := ℕ) (U := UU) (Lvl := ℕ) (Val := Elt F) (ℓ := (c : Thread nD τ).loc main_arg0) (q := fullShare) (f := m ((c : Thread nD τ).loc main_arg0))
    (Finset.subset_univ (argS c))
  have h1 := hS.1
  have h2 := hS.2
  iintro H
  ihave H := h1 $$ H
  icases H with ⟨HA, HR⟩
  isplitl [HA]; · iexact HA
  iintro HA
  iapply h2
  isplitl [HA] <;> iassumption

end Cert.KernelIdeal.Rs
-- ==== Proof.WindowsAKernelIdeal.lean ====
/-
# The program, first part

For each part of the program, `wN` says that it takes what is held when its steps are left to what is held after them.
-/
module

public import proofs.«01_k».proof.Proof.FactsKernelIdeal
public import proofs.«01_k».proof.Proof.ProgKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names) (Z : Fin 4 → sProp (MT nD τ sig Unit (Elt F) ℕ UU ℕ))
  {c : Dev nD} {h0 : in0.IsWhole} {h1 : out0.IsWhole} {h2 : scr0.IsWhole} {h3 : scr1.IsWhole}

/-- Part 28 of the program takes what is held before its steps to what is held after them. -/
theorem w28 {Q : PUnit → sProp 𝕄} (v5 : BitVec 32) (v34 : BitVec 32) (v97 : BitVec 32) (c1_i32_64 : BitVec 32)
    (hK : ∀ r, GS m K Z c tail29 ⊢ Q r) :
    GS m K Z c tail28 ⊢ run c (k0_part28 in0 h0 out0 h1 scr0 h2 scr1 h3 cc0_scratch2 cc0_scratch3 cc0_scratch4 cc0_scratch5 cc0_scratch6 cc0_scratch7 cc0_scratch8 cc0_scratch9 cc0_scratch10 c v5 v34 v97 c1_i32_64) Q := by
  rw [k0_part28_eq_skeleton]; unfold k0_part28_skel
  refine run_bind (gs_Ss m K Z rfl (aM_eq (off1_succ c 0 0)) rfl ?_)
  exact run_ret (hK _)

/-- Part 29 of the program takes what is held before its steps to what is held after them. -/
theorem w29 {Q : (Σ' (v154 : BitVec 32) (v155 : BitVec 32) (v156 : BitVec 1) (v157 : BitVec 1), BitVec 1) → sProp 𝕄} (v2 : BitVec 32) (v5 : BitVec 32) (v8 : BitVec 32) (v19 : BitVec 32)
    (hK : ∀ r, GS m K Z c tail30 ⊢ Q r) :
    GS m K Z c tail29 ⊢ run c (k0_part29 in0 h0 out0 h1 scr0 h2 scr1 h3 cc0_scratch2 cc0_scratch3 cc0_scratch4 cc0_scratch5 cc0_scratch6 cc0_scratch7 cc0_scratch8 cc0_scratch9 cc0_scratch10 c v2 v5 v8 v19) Q := by
  rw [k0_part29_eq_skeleton]; unfold k0_part29_skel
  refine run_bind (gs_HwS m K Z (by decide +kernel) rfl (by exact N_aM 0 0) ?_)
  refine run_bind (gs_HwR m K Z (by decide +kernel) rfl (by exact N_cM 0 0) ?_)
  exact run_ret (hK _)

/-- Part 30 of the program takes what is held before its steps to what is held after them. -/
theorem w30 {Q : PUnit → sProp 𝕄} (v2 : BitVec 32) (v8 : BitVec 32) (v19 : BitVec 32) (v34 : BitVec 32) (v154 : BitVec 32) (v155 : BitVec 32) (v156 : BitVec 1) (v157 : BitVec 1) (v158 : BitVec 1)
    (hK : ∀ r, GS m K Z c tail31 ⊢ Q r) :
    GS m K Z c tail30 ⊢ run c (k0_part30 in0 h0 out0 h1 scr0 h2 scr1 h3 cc0_scratch2 cc0_scratch3 cc0_scratch4 cc0_scratch5 cc0_scratch6 cc0_scratch7 cc0_scratch8 cc0_scratch9 cc0_scratch10 c v2 v8 v19 v34 v154 v155 v156 v157 v158) Q := by
  rw [k0_part30_eq_skeleton]; unfold k0_part30_skel
  refine run_bind (gs_Sw m K Z (by decide +kernel) rfl (by exact N_sM 0) ?_)
  refine run_bind (gs_LdC m K Z rfl fun v hv => ?_)
  refine run_bind (gs_LdS m K Z rfl fun w hw => ?_)
  refine run_bind (gs_LdC' m K Z rfl fun _ => ?_)
  refine run_bind (gs_StC m K Z rfl (sum_cast m hv hw) ?_)
  exact run_ret (hK _)

/-- Part 31 of the program takes what is held before its steps to what is held after them. -/
theorem w31 {Q : PUnit → sProp 𝕄} (v5 : BitVec 32) (v34 : BitVec 32)
    (hK : ∀ r, GS m K Z c tail32 ⊢ Q r) :
    GS m K Z c tail31 ⊢ run c (k0_part31 in0 h0 out0 h1 scr0 h2 scr1 h3 cc0_scratch2 cc0_scratch3 cc0_scratch4 cc0_scratch5 cc0_scratch6 cc0_scratch7 cc0_scratch8 cc0_scratch9 cc0_scratch10 c v5 v34) Q := by
  rw [k0_part31_eq_skeleton]; unfold k0_part31_skel
  refine run_bind (gs_H1 m K Z rfl rfl (Fin.ext (dev7_eq c)) rfl rfl ?_)
  refine run_bind (gs_Ss m K Z rfl (aM_eq (off1_succ c 0 1)) rfl ?_)
  exact run_ret (hK _)

/-- Part 32 of the program takes what is held before its steps to what is held after them. -/
theorem w32 {Q : (BitVec 32) → sProp 𝕄} (v2 : BitVec 32) (v5 : BitVec 32) (v8 : BitVec 32) (v19 : BitVec 32)
    (hK : ∀ r, GS m K Z c tail33 ⊢ Q r) :
    GS m K Z c tail32 ⊢ run c (k0_part32 in0 h0 out0 h1 scr0 h2 scr1 h3 cc0_scratch2 cc0_scratch3 cc0_scratch4 cc0_scratch5 cc0_scratch6 cc0_scratch7 cc0_scratch8 cc0_scratch9 cc0_scratch10 v2 v5 v8 v19) Q := by
  rw [k0_part32_eq_skeleton]; unfold k0_part32_skel
  refine run_bind (gs_HwS m K Z (by decide +kernel) rfl (by exact N_cM 0 0) ?_)
  refine run_bind (gs_HwR m K Z (by decide +kernel) rfl (by exact N_cM 0 0) ?_)
  exact run_ret (hK _)

/-- Part 33 of the program takes what is held before its steps to what is held after them. -/
theorem w33 {Q : PUnit → sProp 𝕄} (v2 : BitVec 32) (v8 : BitVec 32) (v19 : BitVec 32) (v34 : BitVec 32) (v244 : BitVec 32)
    (hK : ∀ r, GS m K Z c tail34 ⊢ Q r) :
    GS m K Z c tail33 ⊢ run c (k0_part33 in0 h0 out0 h1 scr0 h2 scr1 h3 cc0_scratch2 cc0_scratch3 cc0_scratch4 cc0_scratch5 cc0_scratch6 cc0_scratch7 cc0_scratch8 cc0_scratch9 cc0_scratch10 c v2 v8 v19 v34 v244) Q := by
  rw [k0_part33_eq_skeleton]; unfold k0_part33_skel
  refine run_bind (gs_Sw m K Z (by decide +kernel) rfl (by exact N_sM 0) ?_)
  refine run_bind (gs_LdC m K Z rfl fun v hv => ?_)
  refine run_bind (gs_LdS m K Z rfl fun w hw => ?_)
  refine run_bind (gs_LdC' m K Z rfl fun _ => ?_)
  refine run_bind (gs_StC m K Z rfl (sum_cast m hv hw) ?_)
  exact run_ret (hK _)

/-- Part 34 of the program takes what is held before its steps to what is held after them. -/
theorem w34 {Q : PUnit → sProp 𝕄} (v5 : BitVec 32) (v34 : BitVec 32)
    (hK : ∀ r, GS m K Z c tail35 ⊢ Q r) :
    GS m K Z c tail34 ⊢ run c (k0_part34 in0 h0 out0 h1 scr0 h2 scr1 h3 cc0_scratch2 cc0_scratch3 cc0_scratch4 cc0_scratch5 cc0_scratch6 cc0_scratch7 cc0_scratch8 cc0_scratch9 cc0_scratch10 c v5 v34) Q := by
  rw [k0_part34_eq_skeleton]; unfold k0_part34_skel
  refine run_bind (gs_H2 m K Z rfl rfl (Fin.ext (dev8_eq c)) rfl rfl ?_)
  refine run_bind (gs_Ss m K Z rfl (aM_eq (off1_succ c 0 2)) rfl ?_)
  exact run_ret (hK _)

/-- Part 35 of the program takes what is held before its steps to what is held after them. -/
theorem w35 {Q : (Σ' (v323 : FVec F S128x1024 .f32), Vec F S1x128x1024 .f32) → sProp 𝕄} (v2 : BitVec 32) (v5 : BitVec 32) (v8 : BitVec 32) (v19 : BitVec 32) (v34 : BitVec 32)
    (hK : ∀ (u : Blk F) (w : Vec F S1x128x1024 .f32), u = P m c 0 2 → shapeCast S128x1024 w shapeCasts_S1x128x1024_S128x1024 = blkA m c 0 2 → GS m K Z c tail36 ⊢ Q ⟨u, w⟩) :
    GS m K Z c tail35 ⊢ run c (k0_part35 in0 h0 out0 h1 scr0 h2 scr1 h3 cc0_scratch2 cc0_scratch3 cc0_scratch4 cc0_scratch5 cc0_scratch6 cc0_scratch7 cc0_scratch8 cc0_scratch9 cc0_scratch10 c v2 v5 v8 v19 v34) Q := by
  rw [k0_part35_eq_skeleton]; unfold k0_part35_skel
  refine run_bind (gs_HwS m K Z (by decide +kernel) rfl (by exact N_cM 0 0) ?_)
  refine run_bind (gs_HwR m K Z (by decide +kernel) rfl (by exact N_cM 0 0) ?_)
  refine run_bind (gs_Sw m K Z (by decide +kernel) rfl (by exact N_sM 0) ?_)
  refine run_bind (gs_LdC m K Z rfl fun v hv => ?_)
  refine run_bind (gs_LdS m K Z rfl fun w hw => ?_)
  exact run_ret (hK _ _ hv hw)

/-- Part 36 of the program takes what is held before its steps to what is held after them. -/
theorem w36 {Q : (Σ' (v356 : BitVec 1), BitVec 1) → sProp 𝕄} (v2 : BitVec 32) (v5 : BitVec 32) (v8 : BitVec 32) (v34 : BitVec 32) (v323 : FVec F S128x1024 .f32) (v324 : Vec F S1x128x1024 .f32) (hv : v323 = P m c 0 2) (hw : shapeCast S128x1024 v324 shapeCasts_S1x128x1024_S128x1024 = blkA m c 0 2)
    (hK : ∀ r, GS m K Z c tail37 ⊢ Q r) :
    GS m K Z c tail36 ⊢ run c (k0_part36 in0 h0 out0 h1 scr0 h2 scr1 h3 cc0_scratch2 cc0_scratch3 cc0_scratch4 cc0_scratch5 cc0_scratch6 cc0_scratch7 cc0_scratch8 cc0_scratch9 cc0_scratch10 c v2 v5 v8 v34 v323 v324) Q := by
  rw [k0_part36_eq_skeleton]; unfold k0_part36_skel
  refine run_bind (gs_LdO m K Z (off3_eq c 0) fun _ => ?_)
  refine run_bind (gs_StO m K Z (off3_eq c 0) (sum_eq' m (s := 2) hw hv) ?_)
  refine run_bind (gs_Xo m K Z (off5_eq c 0) (xs_eq (off4_eq c)) (xr_eq (off4_eq c)) (Fin.ext (dev9_eq c)) ?_)
  refine gs_Es m K Z (op3 c).1 (fun h => ((op3 c).2 h).1) (fun _ => rfl) (fun _ => rfl) (fun h => by exact Fin.ext ((op3 c).2 h).2) ?_
  exact run_ret (hK _)

/-- Part 37 of the program takes what is held before its steps to what is held after them. -/
theorem w37 {Q : (BitVec 32) → sProp 𝕄} (v2 : BitVec 32) (v5 : BitVec 32) (v8 : BitVec 32) (v19 : BitVec 32) (v34 : BitVec 32) (v356 : BitVec 1) (v358 : BitVec 1)
    (hK : ∀ r, GS m K Z c tail38 ⊢ Q r) :
    GS m K Z c tail37 ⊢ run c (k0_part37 in0 h0 out0 h1 scr0 h2 scr1 h3 cc0_scratch2 cc0_scratch3 cc0_scratch4 cc0_scratch5 cc0_scratch6 cc0_scratch7 cc0_scratch8 cc0_scratch9 cc0_scratch10 c v2 v5 v8 v19 v34 v356 v358) Q := by
  rw [k0_part37_eq_skeleton]; unfold k0_part37_skel
  refine gs_Ws m K Z (op4 c).1 (fun h => ((op4 c).2 h).1) (fun _ => rfl) (fun _ => rfl) (fun h => by exact Fin.ext ((op4 c).2 h).2) ?_
  refine run_bind (gs_H0 m K Z rfl rfl (Fin.ext (dev12_eq c)) (aM_eq (off1_eq c 1 0)) rfl ?_)
  exact run_ret (hK _)

/-- Part 38 of the program takes what is held before its steps to what is held after them. -/
theorem w38 {Q : (BitVec 1) → sProp 𝕄} (v2 : BitVec 32) (v5 : BitVec 32) (v8 : BitVec 32) (v34 : BitVec 32) (c4_i32_346 : BitVec 32)
    (hK : ∀ r, GS m K Z c tail39 ⊢ Q r) :
    GS m K Z c tail38 ⊢ run c (k0_part38 in0 h0 out0 h1 scr0 h2 scr1 h3 cc0_scratch2 cc0_scratch3 cc0_scratch4 cc0_scratch5 cc0_scratch6 cc0_scratch7 cc0_scratch8 cc0_scratch9 cc0_scratch10 c v2 v5 v8 v34 c4_i32_346) Q := by
  rw [k0_part38_eq_skeleton]; unfold k0_part38_skel
  refine run_bind (gs_Ss m K Z rfl (aM_eq (off1_succ c 1 0)) rfl ?_)
  refine gs_ERX m K Z (op5 c).1 (by decide +kernel) (fun h => by rw [k0_part1_eq_skeleton (F := F)]; unfold k0_part1_skel; refine isWait_out (F := F) ?_; rfl)
    (fun h => ((op5 c).2 h).1) (fun h => xs_eq ((op5 c).2 h).2.1) (fun h => xr_eq ((op5 c).2 h).2.1) (fun h => by exact Fin.ext ((op5 c).2 h).2.2) ?_
  refine gs_WRX m K Z (op6 c).1 (by decide +kernel) (fun h => by rw [k0_part2_eq_skeleton (F := F)]; unfold k0_part2_skel; refine isWait_out (F := F) ?_; rfl)
    (fun h => ((op6 c).2 h).1) (fun h => xs_eq ((op6 c).2 h).2.1) (fun h => xr_eq ((op6 c).2 h).2.1) (fun h => by exact Fin.ext ((op6 c).2 h).2.2) ?_
  refine gs_Ew m K Z (op7 c) (by decide +kernel) (fun _ => rfl) ?_
  exact run_ret (hK _)

/-- Part 39 of the program takes what is held before its steps to what is held after them. -/
theorem w39 {Q : PUnit → sProp 𝕄} (v2 : BitVec 32) (v5 : BitVec 32) (v8 : BitVec 32) (v34 : BitVec 32) (v423 : BitVec 1)
    (hK : ∀ r, GS m K Z c tail40 ⊢ Q r) :
    GS m K Z c tail39 ⊢ run c (k0_part39 in0 h0 out0 h1 scr0 h2 scr1 h3 cc0_scratch2 cc0_scratch3 cc0_scratch4 cc0_scratch5 cc0_scratch6 cc0_scratch7 cc0_scratch8 cc0_scratch9 cc0_scratch10 c v2 v5 v8 v34 v423) Q := by
  rw [k0_part39_eq_skeleton]; unfold k0_part39_skel
  refine gs_Ww m K Z (op8 c) (by decide +kernel) (fun _ => rfl) ?_
  refine gs_Es m K Z (op9 c).1 (fun h => ((op9 c).2 h).1) (fun _ => rfl) (fun _ => rfl) (fun h => by exact Fin.ext ((op9 c).2 h).2) ?_
  refine gs_Ws m K Z (op10 c).1 (fun h => ((op10 c).2 h).1) (fun _ => rfl) (fun _ => rfl) (fun h => by exact Fin.ext ((op10 c).2 h).2) ?_
  exact run_ret (hK _)

/-- Part 40 of the program takes what is held before its steps to what is held after them. -/
theorem w40 {Q : (BitVec 32) → sProp 𝕄} (v2 : BitVec 32) (v5 : BitVec 32) (v8 : BitVec 32) (v19 : BitVec 32)
    (hK : ∀ r, GS m K Z c tail41 ⊢ Q r) :
    GS m K Z c tail40 ⊢ run c (k0_part40 in0 h0 out0 h1 scr0 h2 scr1 h3 cc0_scratch2 cc0_scratch3 cc0_scratch4 cc0_scratch5 cc0_scratch6 cc0_scratch7 cc0_scratch8 cc0_scratch9 cc0_scratch10 c v2 v5 v8 v19) Q := by
  rw [k0_part40_eq_skeleton]; unfold k0_part40_skel
  refine run_bind (gs_HwS m K Z (by decide +kernel) rfl (by exact N_aM 0 0) ?_)
  refine run_bind (gs_HwR m K Z (by decide +kernel) rfl (by exact N_cM 0 0) ?_)
  exact run_ret (hK _)

/-- Part 41 of the program takes what is held before its steps to what is held after them. -/
theorem w41 {Q : PUnit → sProp 𝕄} (v2 : BitVec 32) (v8 : BitVec 32) (v19 : BitVec 32) (v34 : BitVec 32) (v485 : BitVec 32)
    (hK : ∀ r, GS m K Z c tail42 ⊢ Q r) :
    GS m K Z c tail41 ⊢ run c (k0_part41 in0 h0 out0 h1 scr0 h2 scr1 h3 cc0_scratch2 cc0_scratch3 cc0_scratch4 cc0_scratch5 cc0_scratch6 cc0_scratch7 cc0_scratch8 cc0_scratch9 cc0_scratch10 c v2 v8 v19 v34 v485) Q := by
  rw [k0_part41_eq_skeleton]; unfold k0_part41_skel
  refine run_bind (gs_Sw m K Z (by decide +kernel) rfl (by exact N_sM 0) ?_)
  refine run_bind (gs_LdC m K Z rfl fun v hv => ?_)
  refine run_bind (gs_LdS m K Z rfl fun w hw => ?_)
  refine run_bind (gs_LdC' m K Z rfl fun _ => ?_)
  refine run_bind (gs_StC m K Z rfl (sum_cast m hv hw) ?_)
  exact run_ret (hK _)

/-- Part 42 of the program takes what is held before its steps to what is held after them. -/
theorem w42 {Q : (Σ' (v543 : BitVec 1), BitVec 32) → sProp 𝕄} (v2 : BitVec 32) (v5 : BitVec 32) (v8 : BitVec 32) (v34 : BitVec 32)
    (hK : ∀ r, GS m K Z c tail43 ⊢ Q r) :
    GS m K Z c tail42 ⊢ run c (k0_part42 in0 h0 out0 h1 scr0 h2 scr1 h3 cc0_scratch2 cc0_scratch3 cc0_scratch4 cc0_scratch5 cc0_scratch6 cc0_scratch7 cc0_scratch8 cc0_scratch9 cc0_scratch10 c v2 v5 v8 v34) Q := by
  rw [k0_part42_eq_skeleton]; unfold k0_part42_skel
  refine run_bind (gs_H1 m K Z rfl rfl (Fin.ext (dev17_eq c)) rfl rfl ?_)
  refine run_bind (gs_Ss m K Z rfl (aM_eq (off1_succ c 1 1)) rfl ?_)
  refine gs_ERX m K Z (op11 c).1 (by decide +kernel) (fun h => by rw [k0_part3_eq_skeleton (F := F)]; unfold k0_part3_skel; refine isWait_out (F := F) ?_; rfl)
    (fun h => ((op11 c).2 h).1) (fun h => xs_eq ((op11 c).2 h).2.1) (fun h => xr_eq ((op11 c).2 h).2.1) (fun h => by exact Fin.ext ((op11 c).2 h).2.2) ?_
  refine gs_WRX m K Z (op12 c).1 (by decide +kernel) (fun h => by rw [k0_part4_eq_skeleton (F := F)]; unfold k0_part4_skel; refine isWait_out (F := F) ?_; rfl)
    (fun h => ((op12 c).2 h).1) (fun h => xs_eq ((op12 c).2 h).2.1) (fun h => xr_eq ((op12 c).2 h).2.1) (fun h => by exact Fin.ext ((op12 c).2 h).2.2) ?_
  exact run_ret (hK _)

/-- Part 43 of the program takes what is held before its steps to what is held after them. -/
theorem w43 {Q : PUnit → sProp 𝕄} (v2 : BitVec 32) (v5 : BitVec 32) (v8 : BitVec 32) (v543 : BitVec 1) (c1_i32_478 : BitVec 32)
    (hK : ∀ r, GS m K Z c tail44 ⊢ Q r) :
    GS m K Z c tail43 ⊢ run c (k0_part43 in0 h0 out0 h1 scr0 h2 scr1 h3 cc0_scratch2 cc0_scratch3 cc0_scratch4 cc0_scratch5 cc0_scratch6 cc0_scratch7 cc0_scratch8 cc0_scratch9 cc0_scratch10 c v2 v5 v8 v543 c1_i32_478) Q := by
  rw [k0_part43_eq_skeleton]; unfold k0_part43_skel
  refine gs_Ew m K Z (op13 c) (by decide +kernel) (fun _ => rfl) ?_
  refine gs_Ww m K Z (op14 c) (by decide +kernel) (fun _ => rfl) ?_
  refine gs_Es m K Z (op15 c).1 (fun h => ((op15 c).2 h).1) (fun _ => rfl) (fun _ => rfl) (fun h => by exact Fin.ext ((op15 c).2 h).2) ?_
  refine gs_Ws m K Z (op16 c).1 (fun h => ((op16 c).2 h).1) (fun _ => rfl) (fun _ => rfl) (fun h => by exact Fin.ext ((op16 c).2 h).2) ?_
  refine run_bind (gs_HwS m K Z (by decide +kernel) rfl (by exact N_cM 0 0) ?_)
  exact run_ret (hK _)

/-- Part 44 of the program takes what is held before its steps to what is held after them. -/
theorem w44 {Q : PUnit → sProp 𝕄} (v2 : BitVec 32) (v5 : BitVec 32) (v8 : BitVec 32) (v19 : BitVec 32) (v34 : BitVec 32)
    (hK : ∀ r, GS m K Z c tail45 ⊢ Q r) :
    GS m K Z c tail44 ⊢ run c (k0_part44 in0 h0 out0 h1 scr0 h2 scr1 h3 cc0_scratch2 cc0_scratch3 cc0_scratch4 cc0_scratch5 cc0_scratch6 cc0_scratch7 cc0_scratch8 cc0_scratch9 cc0_scratch10 v2 v5 v8 v19 v34) Q := by
  rw [k0_part44_eq_skeleton]; unfold k0_part44_skel
  refine run_bind (gs_HwR m K Z (by decide +kernel) rfl (by exact N_cM 0 0) ?_)
  exact run_ret (hK _)

/-- Part 45 of the program takes what is held before its steps to what is held after them. -/
theorem w45 {Q : (Σ' (v627 : BitVec 32), BitVec 32) → sProp 𝕄} (v2 : BitVec 32) (v5 : BitVec 32) (v8 : BitVec 32) (v19 : BitVec 32)
    (hK : ∀ r, GS m K Z c tail46 ⊢ Q r) :
    GS m K Z c tail45 ⊢ run c (k0_part45 in0 h0 out0 h1 scr0 h2 scr1 h3 cc0_scratch2 cc0_scratch3 cc0_scratch4 cc0_scratch5 cc0_scratch6 cc0_scratch7 cc0_scratch8 cc0_scratch9 cc0_scratch10 c v2 v5 v8 v19) Q := by
  rw [k0_part45_eq_skeleton]; unfold k0_part45_skel
  refine run_bind (gs_Sw m K Z (by decide +kernel) rfl (by exact N_sM 0) ?_)
  refine run_bind (gs_LdC m K Z rfl fun v hv => ?_)
  refine run_bind (gs_LdS m K Z rfl fun w hw => ?_)
  refine run_bind (gs_LdC' m K Z rfl fun _ => ?_)
  refine run_bind (gs_StC m K Z rfl (sum_cast m hv hw) ?_)
  refine run_bind (gs_H2 m K Z rfl rfl (Fin.ext (dev22_eq c)) rfl rfl ?_)
  exact run_ret (hK _)

end Cert.KernelIdeal.Rs
-- ==== Proof.WindowsBKernelIdeal.lean ====
/-
# The program, second part

For each part of the program, `wN` says that it takes what is held when its steps are left to what is held after them.
-/
module

public import proofs.«01_k».proof.Proof.FactsKernelIdeal
public import proofs.«01_k».proof.Proof.ProgKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names) (Z : Fin 4 → sProp (MT nD τ sig Unit (Elt F) ℕ UU ℕ))
  {c : Dev nD} {h0 : in0.IsWhole} {h1 : out0.IsWhole} {h2 : scr0.IsWhole} {h3 : scr1.IsWhole}

/-- Part 46 of the program takes what is held before its steps to what is held after them. -/
theorem w46 {Q : (Σ' (v658 : BitVec 1), BitVec 1) → sProp 𝕄} (v2 : BitVec 32) (v5 : BitVec 32) (v8 : BitVec 32) (v34 : BitVec 32) (v627 : BitVec 32) (c3_i32_565 : BitVec 32)
    (hK : ∀ r, GS m K Z c tail47 ⊢ Q r) :
    GS m K Z c tail46 ⊢ run c (k0_part46 in0 h0 out0 h1 scr0 h2 scr1 h3 cc0_scratch2 cc0_scratch3 cc0_scratch4 cc0_scratch5 cc0_scratch6 cc0_scratch7 cc0_scratch8 cc0_scratch9 cc0_scratch10 c v2 v5 v8 v34 v627 c3_i32_565) Q := by
  rw [k0_part46_eq_skeleton]; unfold k0_part46_skel
  refine run_bind (gs_Ss m K Z rfl (aM_eq (off1_succ c 1 2)) rfl ?_)
  refine gs_ERX m K Z (op17 c).1 (by decide +kernel) (fun h => by rw [k0_part5_eq_skeleton (F := F)]; unfold k0_part5_skel; refine isWait_out (F := F) ?_; rfl)
    (fun h => ((op17 c).2 h).1) (fun h => xs_eq ((op17 c).2 h).2.1) (fun h => xr_eq ((op17 c).2 h).2.1) (fun h => by exact Fin.ext ((op17 c).2 h).2.2) ?_
  refine gs_WRX m K Z (op18 c).1 (by decide +kernel) (fun h => by rw [k0_part6_eq_skeleton (F := F)]; unfold k0_part6_skel; refine isWait_out (F := F) ?_; rfl)
    (fun h => ((op18 c).2 h).1) (fun h => xs_eq ((op18 c).2 h).2.1) (fun h => xr_eq ((op18 c).2 h).2.1) (fun h => by exact Fin.ext ((op18 c).2 h).2.2) ?_
  refine gs_Ew m K Z (op19 c) (by decide +kernel) (fun _ => rfl) ?_
  exact run_ret (hK _)

/-- Part 47 of the program takes what is held before its steps to what is held after them. -/
theorem w47 {Q : PUnit → sProp 𝕄} (v2 : BitVec 32) (v5 : BitVec 32) (v8 : BitVec 32) (v19 : BitVec 32) (v34 : BitVec 32) (v658 : BitVec 1) (v660 : BitVec 1)
    (hK : ∀ r, GS m K Z c tail48 ⊢ Q r) :
    GS m K Z c tail47 ⊢ run c (k0_part47 in0 h0 out0 h1 scr0 h2 scr1 h3 cc0_scratch2 cc0_scratch3 cc0_scratch4 cc0_scratch5 cc0_scratch6 cc0_scratch7 cc0_scratch8 cc0_scratch9 cc0_scratch10 c v2 v5 v8 v19 v34 v658 v660) Q := by
  rw [k0_part47_eq_skeleton]; unfold k0_part47_skel
  refine gs_Ww m K Z (op20 c) (by decide +kernel) (fun _ => rfl) ?_
  refine run_bind (gs_HwS m K Z (by decide +kernel) rfl (by exact N_cM 0 0) ?_)
  refine run_bind (gs_HwR m K Z (by decide +kernel) rfl (by exact N_cM 0 0) ?_)
  exact run_ret (hK _)

/-- Part 48 of the program takes what is held before its steps to what is held after them. -/
theorem w48 {Q : PUnit → sProp 𝕄} (v2 : BitVec 32) (v5 : BitVec 32) (v8 : BitVec 32) (v34 : BitVec 32)
    (hK : ∀ r, GS m K Z c tail49 ⊢ Q r) :
    GS m K Z c tail48 ⊢ run c (k0_part48 in0 h0 out0 h1 scr0 h2 scr1 h3 cc0_scratch2 cc0_scratch3 cc0_scratch4 cc0_scratch5 cc0_scratch6 cc0_scratch7 cc0_scratch8 cc0_scratch9 cc0_scratch10 c v2 v5 v8 v34) Q := by
  rw [k0_part48_eq_skeleton]; unfold k0_part48_skel
  refine run_bind (gs_Sw m K Z (by decide +kernel) rfl (by exact N_sM 0) ?_)
  refine run_bind (gs_LdC m K Z rfl fun v hv => ?_)
  refine run_bind (gs_LdS m K Z rfl fun w hw => ?_)
  refine run_bind (gs_LdO m K Z (off3_eq c 1) fun _ => ?_)
  refine run_bind (gs_StO m K Z (off3_eq c 1) (sum_eq m (s := 2) hv hw) ?_)
  exact run_ret (hK _)

/-- Part 49 of the program takes what is held before its steps to what is held after them. -/
theorem w49 {Q : (BitVec 32) → sProp 𝕄} (v2 : BitVec 32) (v5 : BitVec 32) (v8 : BitVec 32) (v34 : BitVec 32)
    (hK : ∀ r, GS m K Z c tail50 ⊢ Q r) :
    GS m K Z c tail49 ⊢ run c (k0_part49 in0 h0 out0 h1 scr0 h2 scr1 h3 cc0_scratch2 cc0_scratch3 cc0_scratch4 cc0_scratch5 cc0_scratch6 cc0_scratch7 cc0_scratch8 cc0_scratch9 cc0_scratch10 c v2 v5 v8 v34) Q := by
  rw [k0_part49_eq_skeleton]; unfold k0_part49_skel
  refine run_bind (gs_Xo m K Z (off5_eq c 1) (xs_eq (off30_eq c)) (xr_eq (off30_eq c)) (Fin.ext (dev25_eq c)) ?_)
  refine gs_Es m K Z (op21 c).1 (fun h => ((op21 c).2 h).1) (fun _ => rfl) (fun _ => rfl) (fun h => by exact Fin.ext ((op21 c).2 h).2) ?_
  refine gs_Ws m K Z (op22 c).1 (fun h => ((op22 c).2 h).1) (fun _ => rfl) (fun _ => rfl) (fun h => by exact Fin.ext ((op22 c).2 h).2) ?_
  exact run_ret (hK _)

/-- Part 50 of the program takes what is held before its steps to what is held after them. -/
theorem w50 {Q : (BitVec 32) → sProp 𝕄} (v5 : BitVec 32) (v8 : BitVec 32) (v19 : BitVec 32) (v34 : BitVec 32) (v745 : BitVec 32)
    (hK : ∀ r, GS m K Z c tail51 ⊢ Q r) :
    GS m K Z c tail50 ⊢ run c (k0_part50 in0 h0 out0 h1 scr0 h2 scr1 h3 cc0_scratch2 cc0_scratch3 cc0_scratch4 cc0_scratch5 cc0_scratch6 cc0_scratch7 cc0_scratch8 cc0_scratch9 cc0_scratch10 c v5 v8 v19 v34 v745) Q := by
  rw [k0_part50_eq_skeleton]; unfold k0_part50_skel
  refine run_bind (gs_H0 m K Z rfl rfl (Fin.ext (dev28_eq c)) (aM_eq (off1_eq c 2 0)) rfl ?_)
  refine run_bind (gs_Ss m K Z rfl (aM_eq (off1_succ c 2 0)) rfl ?_)
  exact run_ret (hK _)

/-- Part 51 of the program takes what is held before its steps to what is held after them. -/
theorem w51 {Q : (Σ' (v811 : BitVec 32) (c4_i32_718 : BitVec 32), BitVec 1) → sProp 𝕄} (v2 : BitVec 32) (v5 : BitVec 32) (v8 : BitVec 32) (v34 : BitVec 32) (v781 : BitVec 32)
    (hK : ∀ r, GS m K Z c tail52 ⊢ Q r) :
    GS m K Z c tail51 ⊢ run c (k0_part51 in0 h0 out0 h1 scr0 h2 scr1 h3 cc0_scratch2 cc0_scratch3 cc0_scratch4 cc0_scratch5 cc0_scratch6 cc0_scratch7 cc0_scratch8 cc0_scratch9 cc0_scratch10 c v2 v5 v8 v34 v781) Q := by
  rw [k0_part51_eq_skeleton]; unfold k0_part51_skel
  refine gs_ERX m K Z (op23 c).1 (by decide +kernel) (fun h => by rw [k0_part7_eq_skeleton (F := F)]; unfold k0_part7_skel; refine isWait_out (F := F) ?_; rfl)
    (fun h => ((op23 c).2 h).1) (fun h => xs_eq ((op23 c).2 h).2.1) (fun h => xr_eq ((op23 c).2 h).2.1) (fun h => by exact Fin.ext ((op23 c).2 h).2.2) ?_
  refine gs_WRX m K Z (op24 c).1 (by decide +kernel) (fun h => by rw [k0_part8_eq_skeleton (F := F)]; unfold k0_part8_skel; refine isWait_out (F := F) ?_; rfl)
    (fun h => ((op24 c).2 h).1) (fun h => xs_eq ((op24 c).2 h).2.1) (fun h => xr_eq ((op24 c).2 h).2.1) (fun h => by exact Fin.ext ((op24 c).2 h).2.2) ?_
  refine gs_Ew m K Z (op25 c) (by decide +kernel) (fun _ => rfl) ?_
  refine gs_Ww m K Z (op26 c) (by decide +kernel) (fun _ => rfl) ?_
  refine gs_Es m K Z (op27 c).1 (fun h => ((op27 c).2 h).1) (fun _ => rfl) (fun _ => rfl) (fun h => by exact Fin.ext ((op27 c).2 h).2) ?_
  refine gs_Ws m K Z (op28 c).1 (fun h => ((op28 c).2 h).1) (fun _ => rfl) (fun _ => rfl) (fun h => by exact Fin.ext ((op28 c).2 h).2) ?_
  exact run_ret (hK _)

/-- Part 52 of the program takes what is held before its steps to what is held after them. -/
theorem w52 {Q : (BitVec 32) → sProp 𝕄} (v2 : BitVec 32) (v5 : BitVec 32) (v8 : BitVec 32) (v19 : BitVec 32) (v811 : BitVec 32) (c4_i32_718 : BitVec 32) (v812 : BitVec 1)
    (hK : ∀ r, GS m K Z c tail53 ⊢ Q r) :
    GS m K Z c tail52 ⊢ run c (k0_part52 in0 h0 out0 h1 scr0 h2 scr1 h3 cc0_scratch2 cc0_scratch3 cc0_scratch4 cc0_scratch5 cc0_scratch6 cc0_scratch7 cc0_scratch8 cc0_scratch9 cc0_scratch10 c v2 v5 v8 v19 v811 c4_i32_718 v812) Q := by
  rw [k0_part52_eq_skeleton]; unfold k0_part52_skel
  refine run_bind (gs_HwS m K Z (by decide +kernel) rfl (by exact N_aM 0 0) ?_)
  refine run_bind (gs_HwR m K Z (by decide +kernel) rfl (by exact N_cM 0 0) ?_)
  exact run_ret (hK _)

/-- Part 53 of the program takes what is held before its steps to what is held after them. -/
theorem w53 {Q : PUnit → sProp 𝕄} (v34 : BitVec 32) (v841 : BitVec 32)
    (hK : ∀ r, GS m K Z c tail54 ⊢ Q r) :
    GS m K Z c tail53 ⊢ run c (k0_part53 in0 h0 out0 h1 scr0 h2 scr1 h3 cc0_scratch2 cc0_scratch3 cc0_scratch4 cc0_scratch5 cc0_scratch6 cc0_scratch7 cc0_scratch8 cc0_scratch9 cc0_scratch10 c v34 v841) Q := by
  rw [k0_part53_eq_skeleton]; unfold k0_part53_skel
  refine run_bind (gs_Sw m K Z (by decide +kernel) rfl (by exact N_sM 0) ?_)
  refine run_bind (gs_LdC m K Z rfl fun v hv => ?_)
  refine run_bind (gs_LdS m K Z rfl fun w hw => ?_)
  refine run_bind (gs_LdC' m K Z rfl fun _ => ?_)
  refine run_bind (gs_StC m K Z rfl (sum_cast m hv hw) ?_)
  exact run_ret (hK _)

/-- Part 54 of the program takes what is held before its steps to what is held after them. -/
theorem w54 {Q : PUnit → sProp 𝕄} (v2 : BitVec 32) (v5 : BitVec 32) (v8 : BitVec 32) (v19 : BitVec 32) (v34 : BitVec 32)
    (hK : ∀ r, GS m K Z c tail55 ⊢ Q r) :
    GS m K Z c tail54 ⊢ run c (k0_part54 in0 h0 out0 h1 scr0 h2 scr1 h3 cc0_scratch2 cc0_scratch3 cc0_scratch4 cc0_scratch5 cc0_scratch6 cc0_scratch7 cc0_scratch8 cc0_scratch9 cc0_scratch10 c v2 v5 v8 v19 v34) Q := by
  rw [k0_part54_eq_skeleton]; unfold k0_part54_skel
  refine run_bind (gs_H1 m K Z rfl rfl (Fin.ext (dev33_eq c)) rfl rfl ?_)
  exact run_ret (hK _)

/-- Part 55 of the program takes what is held before its steps to what is held after them. -/
theorem w55 {Q : PUnit → sProp 𝕄} (v2 : BitVec 32) (v5 : BitVec 32) (v8 : BitVec 32)
    (hK : ∀ r, GS m K Z c tail56 ⊢ Q r) :
    GS m K Z c tail55 ⊢ run c (k0_part55 in0 h0 out0 h1 scr0 h2 scr1 h3 cc0_scratch2 cc0_scratch3 cc0_scratch4 cc0_scratch5 cc0_scratch6 cc0_scratch7 cc0_scratch8 cc0_scratch9 cc0_scratch10 c v2 v5 v8) Q := by
  rw [k0_part55_eq_skeleton]; unfold k0_part55_skel
  refine run_bind (gs_Ss m K Z rfl (aM_eq (off1_succ c 2 1)) rfl ?_)
  refine gs_ERX m K Z (op29 c).1 (by decide +kernel) (fun h => by rw [k0_part9_eq_skeleton (F := F)]; unfold k0_part9_skel; refine isWait_out (F := F) ?_; rfl)
    (fun h => ((op29 c).2 h).1) (fun h => xs_eq ((op29 c).2 h).2.1) (fun h => xr_eq ((op29 c).2 h).2.1) (fun h => by exact Fin.ext ((op29 c).2 h).2.2) ?_
  refine gs_WRX m K Z (op30 c).1 (by decide +kernel) (fun h => by rw [k0_part10_eq_skeleton (F := F)]; unfold k0_part10_skel; refine isWait_out (F := F) ?_; rfl)
    (fun h => ((op30 c).2 h).1) (fun h => xs_eq ((op30 c).2 h).2.1) (fun h => xr_eq ((op30 c).2 h).2.1) (fun h => by exact Fin.ext ((op30 c).2 h).2.2) ?_
  refine gs_Ew m K Z (op31 c) (by decide +kernel) (fun _ => rfl) ?_
  refine gs_Ww m K Z (op32 c) (by decide +kernel) (fun _ => rfl) ?_
  refine gs_Es m K Z (op33 c).1 (fun h => ((op33 c).2 h).1) (fun _ => rfl) (fun _ => rfl) (fun h => by exact Fin.ext ((op33 c).2 h).2) ?_
  refine gs_Ws m K Z (op34 c).1 (fun h => ((op34 c).2 h).1) (fun _ => rfl) (fun _ => rfl) (fun h => by exact Fin.ext ((op34 c).2 h).2) ?_
  exact run_ret (hK _)

/-- Part 56 of the program takes what is held before its steps to what is held after them. -/
theorem w56 {Q : (Σ' (v955 : BitVec 32) (v956 : BitVec 32), BitVec 1) → sProp 𝕄} (v2 : BitVec 32) (v5 : BitVec 32) (v8 : BitVec 32) (v19 : BitVec 32)
    (hK : ∀ r, GS m K Z c tail57 ⊢ Q r) :
    GS m K Z c tail56 ⊢ run c (k0_part56 in0 h0 out0 h1 scr0 h2 scr1 h3 cc0_scratch2 cc0_scratch3 cc0_scratch4 cc0_scratch5 cc0_scratch6 cc0_scratch7 cc0_scratch8 cc0_scratch9 cc0_scratch10 v2 v5 v8 v19) Q := by
  rw [k0_part56_eq_skeleton]; unfold k0_part56_skel
  refine run_bind (gs_HwS m K Z (by decide +kernel) rfl (by exact N_cM 0 0) ?_)
  refine run_bind (gs_HwR m K Z (by decide +kernel) rfl (by exact N_cM 0 0) ?_)
  exact run_ret (hK _)

/-- Part 57 of the program takes what is held before its steps to what is held after them. -/
theorem w57 {Q : (Σ' (v983 : BitVec 32), BitVec 32) → sProp 𝕄} (v2 : BitVec 32) (v19 : BitVec 32) (v34 : BitVec 32) (v955 : BitVec 32) (v956 : BitVec 32) (v957 : BitVec 1)
    (hK : ∀ r, GS m K Z c tail58 ⊢ Q r) :
    GS m K Z c tail57 ⊢ run c (k0_part57 in0 h0 out0 h1 scr0 h2 scr1 h3 cc0_scratch2 cc0_scratch3 cc0_scratch4 cc0_scratch5 cc0_scratch6 cc0_scratch7 cc0_scratch8 cc0_scratch9 cc0_scratch10 c v2 v19 v34 v955 v956 v957) Q := by
  rw [k0_part57_eq_skeleton]; unfold k0_part57_skel
  refine run_bind (gs_Sw m K Z (by decide +kernel) rfl (by exact N_sM 0) ?_)
  refine run_bind (gs_LdC m K Z rfl fun v hv => ?_)
  refine run_bind (gs_LdS m K Z rfl fun w hw => ?_)
  refine run_bind (gs_LdC' m K Z rfl fun _ => ?_)
  refine run_bind (gs_StC m K Z rfl (sum_cast m hv hw) ?_)
  exact run_ret (hK _)

/-- Part 58 of the program takes what is held before its steps to what is held after them. -/
theorem w58 {Q : (BitVec 32) → sProp 𝕄} (v2 : BitVec 32) (v5 : BitVec 32) (v8 : BitVec 32) (v34 : BitVec 32) (v983 : BitVec 32) (c1_i32_892 : BitVec 32)
    (hK : ∀ r, GS m K Z c tail59 ⊢ Q r) :
    GS m K Z c tail58 ⊢ run c (k0_part58 in0 h0 out0 h1 scr0 h2 scr1 h3 cc0_scratch2 cc0_scratch3 cc0_scratch4 cc0_scratch5 cc0_scratch6 cc0_scratch7 cc0_scratch8 cc0_scratch9 cc0_scratch10 c v2 v5 v8 v34 v983 c1_i32_892) Q := by
  rw [k0_part58_eq_skeleton]; unfold k0_part58_skel
  refine run_bind (gs_H2 m K Z rfl rfl (Fin.ext (dev38_eq c)) rfl rfl ?_)
  refine run_bind (gs_Ss m K Z rfl (aM_eq (off1_succ c 2 2)) rfl ?_)
  refine gs_ERX m K Z (op35 c).1 (by decide +kernel) (fun h => by rw [k0_part11_eq_skeleton (F := F)]; unfold k0_part11_skel; refine isWait_out (F := F) ?_; rfl)
    (fun h => ((op35 c).2 h).1) (fun h => xs_eq ((op35 c).2 h).2.1) (fun h => xr_eq ((op35 c).2 h).2.1) (fun h => by exact Fin.ext ((op35 c).2 h).2.2) ?_
  exact run_ret (hK _)

/-- Part 59 of the program takes what is held before its steps to what is held after them. -/
theorem w59 {Q : (BitVec 32) → sProp 𝕄} (v2 : BitVec 32) (v5 : BitVec 32) (v8 : BitVec 32) (v19 : BitVec 32) (c0_i32_915 : BitVec 32)
    (hK : ∀ r, GS m K Z c tail60 ⊢ Q r) :
    GS m K Z c tail59 ⊢ run c (k0_part59 in0 h0 out0 h1 scr0 h2 scr1 h3 cc0_scratch2 cc0_scratch3 cc0_scratch4 cc0_scratch5 cc0_scratch6 cc0_scratch7 cc0_scratch8 cc0_scratch9 cc0_scratch10 c v2 v5 v8 v19 c0_i32_915) Q := by
  rw [k0_part59_eq_skeleton]; unfold k0_part59_skel
  refine gs_WRX m K Z (op36 c).1 (by decide +kernel) (fun h => by rw [k0_part12_eq_skeleton (F := F)]; unfold k0_part12_skel; refine isWait_out (F := F) ?_; rfl)
    (fun h => ((op36 c).2 h).1) (fun h => xs_eq ((op36 c).2 h).2.1) (fun h => xr_eq ((op36 c).2 h).2.1) (fun h => by exact Fin.ext ((op36 c).2 h).2.2) ?_
  refine gs_Ew m K Z (op37 c) (by decide +kernel) (fun _ => rfl) ?_
  refine gs_Ww m K Z (op38 c) (by decide +kernel) (fun _ => rfl) ?_
  refine run_bind (gs_HwS m K Z (by decide +kernel) rfl (by exact N_cM 0 0) ?_)
  exact run_ret (hK _)

end Cert.KernelIdeal.Rs
-- ==== Proof.WindowsCKernelIdeal.lean ====
/-
# The program, third part

For each part of the program, `wN` says that it takes what is held when its steps are left to what is held after them.
-/
module

public import proofs.«01_k».proof.Proof.FactsKernelIdeal
public import proofs.«01_k».proof.Proof.ProgKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names) (Z : Fin 4 → sProp (MT nD τ sig Unit (Elt F) ℕ UU ℕ))
  {c : Dev nD} {h0 : in0.IsWhole} {h1 : out0.IsWhole} {h2 : scr0.IsWhole} {h3 : scr1.IsWhole}

/-- Part 60 of the program takes what is held before its steps to what is held after them. -/
theorem w60 {Q : (BitVec 32) → sProp 𝕄} (v2 : BitVec 32) (v5 : BitVec 32) (v8 : BitVec 32) (v34 : BitVec 32) (v1041 : BitVec 32)
    (hK : ∀ r, GS m K Z c tail61 ⊢ Q r) :
    GS m K Z c tail60 ⊢ run c (k0_part60 in0 h0 out0 h1 scr0 h2 scr1 h3 cc0_scratch2 cc0_scratch3 cc0_scratch4 cc0_scratch5 cc0_scratch6 cc0_scratch7 cc0_scratch8 cc0_scratch9 cc0_scratch10 c v2 v5 v8 v34 v1041) Q := by
  rw [k0_part60_eq_skeleton]; unfold k0_part60_skel
  refine run_bind (gs_HwR m K Z (by decide +kernel) rfl (by exact N_cM 0 0) ?_)
  refine run_bind (gs_Sw m K Z (by decide +kernel) rfl (by exact N_sM 0) ?_)
  refine run_bind (gs_LdC m K Z rfl fun v hv => ?_)
  refine run_bind (gs_LdS m K Z rfl fun w hw => ?_)
  refine run_bind (gs_LdO m K Z (off3_eq c 2) fun _ => ?_)
  refine run_bind (gs_StO m K Z (off3_eq c 2) (sum_eq m (s := 2) hv hw) ?_)
  exact run_ret (hK _)

/-- Part 61 of the program takes what is held before its steps to what is held after them. -/
theorem w61 {Q : (Σ' (v1103 : BitVec 32) (v1104 : BitVec 32), BitVec 32) → sProp 𝕄} (v2 : BitVec 32) (v5 : BitVec 32) (v8 : BitVec 32) (v34 : BitVec 32) (v1072 : BitVec 32)
    (hK : ∀ r, GS m K Z c tail62 ⊢ Q r) :
    GS m K Z c tail61 ⊢ run c (k0_part61 in0 h0 out0 h1 scr0 h2 scr1 h3 cc0_scratch2 cc0_scratch3 cc0_scratch4 cc0_scratch5 cc0_scratch6 cc0_scratch7 cc0_scratch8 cc0_scratch9 cc0_scratch10 c v2 v5 v8 v34 v1072) Q := by
  rw [k0_part61_eq_skeleton]; unfold k0_part61_skel
  refine run_bind (gs_Xo m K Z (off5_eq c 2) (xs_eq (off55_eq c)) (xr_eq (off55_eq c)) (Fin.ext (dev41_eq c)) ?_)
  refine gs_Es m K Z (op39 c).1 (fun h => ((op39 c).2 h).1) (fun _ => rfl) (fun _ => rfl) (fun h => by exact Fin.ext ((op39 c).2 h).2) ?_
  refine gs_Ws m K Z (op40 c).1 (fun h => ((op40 c).2 h).1) (fun _ => rfl) (fun _ => rfl) (fun h => by exact Fin.ext ((op40 c).2 h).2) ?_
  exact run_ret (hK _)

/-- Part 62 of the program takes what is held before its steps to what is held after them. -/
theorem w62 {Q : (Σ' (v1132 : BitVec 32) (v1137 : BitVec 1), BitVec 32) → sProp 𝕄} (v2 : BitVec 32) (v5 : BitVec 32) (v8 : BitVec 32) (v19 : BitVec 32) (v1103 : BitVec 32) (v1104 : BitVec 32) (c0_i32_997 : BitVec 32)
    (hK : ∀ r, GS m K Z c tail63 ⊢ Q r) :
    GS m K Z c tail62 ⊢ run c (k0_part62 in0 h0 out0 h1 scr0 h2 scr1 h3 cc0_scratch2 cc0_scratch3 cc0_scratch4 cc0_scratch5 cc0_scratch6 cc0_scratch7 cc0_scratch8 cc0_scratch9 cc0_scratch10 c v2 v5 v8 v19 v1103 v1104 c0_i32_997) Q := by
  rw [k0_part62_eq_skeleton]; unfold k0_part62_skel
  refine run_bind (gs_H0 m K Z rfl rfl (Fin.ext (dev44_eq c)) (aM_eq (off1_eq c 3 0)) rfl ?_)
  exact run_ret (hK _)

/-- Part 63 of the program takes what is held before its steps to what is held after them. -/
theorem w63 {Q : (BitVec 1) → sProp 𝕄} (v2 : BitVec 32) (v5 : BitVec 32) (v8 : BitVec 32) (v34 : BitVec 32) (v1132 : BitVec 32) (v1137 : BitVec 1) (v1138 : BitVec 32)
    (hK : ∀ r, GS m K Z c tail64 ⊢ Q r) :
    GS m K Z c tail63 ⊢ run c (k0_part63 in0 h0 out0 h1 scr0 h2 scr1 h3 cc0_scratch2 cc0_scratch3 cc0_scratch4 cc0_scratch5 cc0_scratch6 cc0_scratch7 cc0_scratch8 cc0_scratch9 cc0_scratch10 c v2 v5 v8 v34 v1132 v1137 v1138) Q := by
  rw [k0_part63_eq_skeleton]; unfold k0_part63_skel
  refine run_bind (gs_Ss m K Z rfl (aM_eq (off1_succ c 3 0)) rfl ?_)
  refine gs_ERX m K Z (op41 c).1 (by decide +kernel) (fun h => by rw [k0_part13_eq_skeleton (F := F)]; unfold k0_part13_skel; refine isWait_out (F := F) ?_; rfl)
    (fun h => ((op41 c).2 h).1) (fun h => xs_eq ((op41 c).2 h).2.1) (fun h => xr_eq ((op41 c).2 h).2.1) (fun h => by exact Fin.ext ((op41 c).2 h).2.2) ?_
  refine gs_WRX m K Z (op42 c).1 (by decide +kernel) (fun h => by rw [k0_part14_eq_skeleton (F := F)]; unfold k0_part14_skel; refine isWait_out (F := F) ?_; rfl)
    (fun h => ((op42 c).2 h).1) (fun h => xs_eq ((op42 c).2 h).2.1) (fun h => xr_eq ((op42 c).2 h).2.1) (fun h => by exact Fin.ext ((op42 c).2 h).2.2) ?_
  refine gs_Ew m K Z (op43 c) (by decide +kernel) (fun _ => rfl) ?_
  refine gs_Ww m K Z (op44 c) (by decide +kernel) (fun _ => rfl) ?_
  refine gs_Es m K Z (op45 c).1 (fun h => ((op45 c).2 h).1) (fun _ => rfl) (fun _ => rfl) (fun h => by exact Fin.ext ((op45 c).2 h).2) ?_
  exact run_ret (hK _)

/-- Part 64 of the program takes what is held before its steps to what is held after them. -/
theorem w64 {Q : (BitVec 32) → sProp 𝕄} (v2 : BitVec 32) (v5 : BitVec 32) (v8 : BitVec 32) (v34 : BitVec 32) (v1170 : BitVec 1)
    (hK : ∀ r, GS m K Z c tail65 ⊢ Q r) :
    GS m K Z c tail64 ⊢ run c (k0_part64 in0 h0 out0 h1 scr0 h2 scr1 h3 cc0_scratch2 cc0_scratch3 cc0_scratch4 cc0_scratch5 cc0_scratch6 cc0_scratch7 cc0_scratch8 cc0_scratch9 cc0_scratch10 c v2 v5 v8 v34 v1170) Q := by
  rw [k0_part64_eq_skeleton]; unfold k0_part64_skel
  refine gs_Ws m K Z (op46 c).1 (fun h => ((op46 c).2 h).1) (fun _ => rfl) (fun _ => rfl) (fun h => by exact Fin.ext ((op46 c).2 h).2) ?_
  refine run_bind (gs_HwS m K Z (by decide +kernel) rfl (by exact N_aM 0 0) ?_)
  exact run_ret (hK _)

/-- Part 65 of the program takes what is held before its steps to what is held after them. -/
theorem w65 {Q : PUnit → sProp 𝕄} (v2 : BitVec 32) (v5 : BitVec 32) (v8 : BitVec 32) (v19 : BitVec 32) (v34 : BitVec 32) (c16_i32_1076 : BitVec 32)
    (hK : ∀ r, GS m K Z c tail66 ⊢ Q r) :
    GS m K Z c tail65 ⊢ run c (k0_part65 in0 h0 out0 h1 scr0 h2 scr1 h3 cc0_scratch2 cc0_scratch3 cc0_scratch4 cc0_scratch5 cc0_scratch6 cc0_scratch7 cc0_scratch8 cc0_scratch9 cc0_scratch10 c v2 v5 v8 v19 v34 c16_i32_1076) Q := by
  rw [k0_part65_eq_skeleton]; unfold k0_part65_skel
  refine run_bind (gs_HwR m K Z (by decide +kernel) rfl (by exact N_cM 0 0) ?_)
  refine run_bind (gs_Sw m K Z (by decide +kernel) rfl (by exact N_sM 0) ?_)
  exact run_ret (hK _)

/-- Part 66 of the program takes what is held before its steps to what is held after them. -/
theorem w66 {Q : (Σ' (v1256 : BitVec 32) (v1257 : BitVec 32), BitVec 32) → sProp 𝕄} (v2 : BitVec 32) (v5 : BitVec 32) (v8 : BitVec 32) (v19 : BitVec 32)
    (hK : ∀ r, GS m K Z c tail67 ⊢ Q r) :
    GS m K Z c tail66 ⊢ run c (k0_part66 in0 h0 out0 h1 scr0 h2 scr1 h3 cc0_scratch2 cc0_scratch3 cc0_scratch4 cc0_scratch5 cc0_scratch6 cc0_scratch7 cc0_scratch8 cc0_scratch9 cc0_scratch10 c v2 v5 v8 v19) Q := by
  rw [k0_part66_eq_skeleton]; unfold k0_part66_skel
  refine run_bind (gs_LdC m K Z rfl fun v hv => ?_)
  refine run_bind (gs_LdS m K Z rfl fun w hw => ?_)
  refine run_bind (gs_LdC' m K Z rfl fun _ => ?_)
  refine run_bind (gs_StC m K Z rfl (sum_cast m hv hw) ?_)
  refine run_bind (gs_H1 m K Z rfl rfl (Fin.ext (dev49_eq c)) rfl rfl ?_)
  exact run_ret (hK _)

/-- Part 67 of the program takes what is held before its steps to what is held after them. -/
theorem w67 {Q : (Σ' (v1290 : BitVec 1), BitVec 32) → sProp 𝕄} (v2 : BitVec 32) (v5 : BitVec 32) (v8 : BitVec 32) (v34 : BitVec 32) (v1256 : BitVec 32) (v1257 : BitVec 32) (c0_i32_1130 : BitVec 32)
    (hK : ∀ r, GS m K Z c tail68 ⊢ Q r) :
    GS m K Z c tail67 ⊢ run c (k0_part67 in0 h0 out0 h1 scr0 h2 scr1 h3 cc0_scratch2 cc0_scratch3 cc0_scratch4 cc0_scratch5 cc0_scratch6 cc0_scratch7 cc0_scratch8 cc0_scratch9 cc0_scratch10 c v2 v5 v8 v34 v1256 v1257 c0_i32_1130) Q := by
  rw [k0_part67_eq_skeleton]; unfold k0_part67_skel
  refine run_bind (gs_Ss m K Z rfl (aM_eq (off1_succ c 3 1)) rfl ?_)
  refine gs_ERX m K Z (op47 c).1 (by decide +kernel) (fun h => by rw [k0_part15_eq_skeleton (F := F)]; unfold k0_part15_skel; refine isWait_out (F := F) ?_; rfl)
    (fun h => ((op47 c).2 h).1) (fun h => xs_eq ((op47 c).2 h).2.1) (fun h => xr_eq ((op47 c).2 h).2.1) (fun h => by exact Fin.ext ((op47 c).2 h).2.2) ?_
  refine gs_WRX m K Z (op48 c).1 (by decide +kernel) (fun h => by rw [k0_part16_eq_skeleton (F := F)]; unfold k0_part16_skel; refine isWait_out (F := F) ?_; rfl)
    (fun h => ((op48 c).2 h).1) (fun h => xs_eq ((op48 c).2 h).2.1) (fun h => xr_eq ((op48 c).2 h).2.1) (fun h => by exact Fin.ext ((op48 c).2 h).2.2) ?_
  refine gs_Ew m K Z (op49 c) (by decide +kernel) (fun _ => rfl) ?_
  refine gs_Ww m K Z (op50 c) (by decide +kernel) (fun _ => rfl) ?_
  exact run_ret (hK _)

/-- Part 68 of the program takes what is held before its steps to what is held after them. -/
theorem w68 {Q : PUnit → sProp 𝕄} (v2 : BitVec 32) (v5 : BitVec 32) (v8 : BitVec 32) (v19 : BitVec 32) (v1290 : BitVec 1) (c2_i32_1152 : BitVec 32)
    (hK : ∀ r, GS m K Z c tail69 ⊢ Q r) :
    GS m K Z c tail68 ⊢ run c (k0_part68 in0 h0 out0 h1 scr0 h2 scr1 h3 cc0_scratch2 cc0_scratch3 cc0_scratch4 cc0_scratch5 cc0_scratch6 cc0_scratch7 cc0_scratch8 cc0_scratch9 cc0_scratch10 c v2 v5 v8 v19 v1290 c2_i32_1152) Q := by
  rw [k0_part68_eq_skeleton]; unfold k0_part68_skel
  refine gs_Es m K Z (op51 c).1 (fun h => ((op51 c).2 h).1) (fun _ => rfl) (fun _ => rfl) (fun h => by exact Fin.ext ((op51 c).2 h).2) ?_
  refine gs_Ws m K Z (op52 c).1 (fun h => ((op52 c).2 h).1) (fun _ => rfl) (fun _ => rfl) (fun h => by exact Fin.ext ((op52 c).2 h).2) ?_
  refine run_bind (gs_HwS m K Z (by decide +kernel) rfl (by exact N_cM 0 0) ?_)
  exact run_ret (hK _)

/-- Part 69 of the program takes what is held before its steps to what is held after them. -/
theorem w69 {Q : (FVec F S128x1024 .f32) → sProp 𝕄} (v5 : BitVec 32) (v34 : BitVec 32)
    (hK : ∀ u : Blk F, u = U m c 3 1 → GS m K Z c tail70 ⊢ Q u) :
    GS m K Z c tail69 ⊢ run c (k0_part69 in0 h0 out0 h1 scr0 h2 scr1 h3 cc0_scratch2 cc0_scratch3 cc0_scratch4 cc0_scratch5 cc0_scratch6 cc0_scratch7 cc0_scratch8 cc0_scratch9 cc0_scratch10 c v5 v34) Q := by
  rw [k0_part69_eq_skeleton]; unfold k0_part69_skel
  refine run_bind (gs_HwR m K Z (by decide +kernel) rfl (by exact N_cM 0 0) ?_)
  refine run_bind (gs_Sw m K Z (by decide +kernel) rfl (by exact N_sM 0) ?_)
  refine run_bind (gs_LdC m K Z rfl fun v hv => ?_)
  refine run_bind (gs_LdS m K Z rfl fun w hw => ?_)
  exact run_ret (hK _ (sum_eq m hv hw))

/-- Part 70 of the program takes what is held before its steps to what is held after them. -/
theorem w70 {Q : (Σ' (v1374 : BitVec 32), BitVec 32) → sProp 𝕄} (v2 : BitVec 32) (v5 : BitVec 32) (v8 : BitVec 32) (v19 : BitVec 32) (v34 : BitVec 32) (v1344 : FVec F S128x1024 .f32) (hw : v1344 = U m c 3 1)
    (hK : ∀ r, GS m K Z c tail71 ⊢ Q r) :
    GS m K Z c tail70 ⊢ run c (k0_part70 in0 h0 out0 h1 scr0 h2 scr1 h3 cc0_scratch2 cc0_scratch3 cc0_scratch4 cc0_scratch5 cc0_scratch6 cc0_scratch7 cc0_scratch8 cc0_scratch9 cc0_scratch10 c v2 v5 v8 v19 v34 v1344) Q := by
  rw [k0_part70_eq_skeleton]; unfold k0_part70_skel
  refine run_bind (gs_LdC' m K Z rfl fun _ => ?_)
  refine run_bind (gs_StC m K Z rfl (cast_cast m (s := 1) hw) ?_)
  refine run_bind (gs_H2 m K Z rfl rfl (Fin.ext (dev54_eq c)) rfl rfl ?_)
  exact run_ret (hK _)

/-- Part 71 of the program takes what is held before its steps to what is held after them. -/
theorem w71 {Q : PUnit → sProp 𝕄} (v2 : BitVec 32) (v5 : BitVec 32) (v8 : BitVec 32) (v1374 : BitVec 32) (c1024_i32_1240 : BitVec 32)
    (hK : ∀ r, GS m K Z c tail72 ⊢ Q r) :
    GS m K Z c tail71 ⊢ run c (k0_part71 in0 h0 out0 h1 scr0 h2 scr1 h3 cc0_scratch2 cc0_scratch3 cc0_scratch4 cc0_scratch5 cc0_scratch6 cc0_scratch7 cc0_scratch8 cc0_scratch9 cc0_scratch10 c v2 v5 v8 v1374 c1024_i32_1240) Q := by
  rw [k0_part71_eq_skeleton]; unfold k0_part71_skel
  refine run_bind (gs_Ss m K Z rfl (aM_eq (off1_succ c 3 2)) rfl ?_)
  refine gs_ERX m K Z (op53 c).1 (by decide +kernel) (fun h => by rw [k0_part17_eq_skeleton (F := F)]; unfold k0_part17_skel; refine isWait_out (F := F) ?_; rfl)
    (fun h => ((op53 c).2 h).1) (fun h => xs_eq ((op53 c).2 h).2.1) (fun h => xr_eq ((op53 c).2 h).2.1) (fun h => by exact Fin.ext ((op53 c).2 h).2.2) ?_
  refine gs_WRX m K Z (op54 c).1 (by decide +kernel) (fun h => by rw [k0_part18_eq_skeleton (F := F)]; unfold k0_part18_skel; refine isWait_out (F := F) ?_; rfl)
    (fun h => ((op54 c).2 h).1) (fun h => xs_eq ((op54 c).2 h).2.1) (fun h => xr_eq ((op54 c).2 h).2.1) (fun h => by exact Fin.ext ((op54 c).2 h).2.2) ?_
  refine gs_Ew m K Z (op55 c) (by decide +kernel) (fun _ => rfl) ?_
  refine gs_Ww m K Z (op56 c) (by decide +kernel) (fun _ => rfl) ?_
  exact run_ret (hK _)

/-- Part 72 of the program takes what is held before its steps to what is held after them. -/
theorem w72 {Q : (Σ' (v1427 : FVec F S128x1024 .f32), Vec F S1x128x1024 .f32) → sProp 𝕄} (v2 : BitVec 32) (v5 : BitVec 32) (v8 : BitVec 32) (v19 : BitVec 32) (v34 : BitVec 32)
    (hK : ∀ (u : Blk F) (w : Vec F S1x128x1024 .f32), u = P m c 3 2 → shapeCast S128x1024 w shapeCasts_S1x128x1024_S128x1024 = blkA m c 3 2 → GS m K Z c tail73 ⊢ Q ⟨u, w⟩) :
    GS m K Z c tail72 ⊢ run c (k0_part72 in0 h0 out0 h1 scr0 h2 scr1 h3 cc0_scratch2 cc0_scratch3 cc0_scratch4 cc0_scratch5 cc0_scratch6 cc0_scratch7 cc0_scratch8 cc0_scratch9 cc0_scratch10 c v2 v5 v8 v19 v34) Q := by
  rw [k0_part72_eq_skeleton]; unfold k0_part72_skel
  refine run_bind (gs_HwS m K Z (by decide +kernel) rfl (by exact N_cM 0 0) ?_)
  refine run_bind (gs_HwR m K Z (by decide +kernel) rfl (by exact N_cM 0 0) ?_)
  refine run_bind (gs_Sw m K Z (by decide +kernel) rfl (by exact N_sM 0) ?_)
  refine run_bind (gs_LdC m K Z rfl fun v hv => ?_)
  refine run_bind (gs_LdS m K Z rfl fun w hw => ?_)
  exact run_ret (hK _ _ hv hw)

end Cert.KernelIdeal.Rs
-- ==== Proof.WindowsDKernelIdeal.lean ====
/-
# The program, last part

For each part of the program, `wN` says that it takes what is held when its steps are left to what is held after them.
-/
module

public import proofs.«01_k».proof.Proof.FactsKernelIdeal
public import proofs.«01_k».proof.Proof.ProgKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names) (Z : Fin 4 → sProp (MT nD τ sig Unit (Elt F) ℕ UU ℕ))
  {c : Dev nD} {h0 : in0.IsWhole} {h1 : out0.IsWhole} {h2 : scr0.IsWhole} {h3 : scr1.IsWhole}

/-- Part 73 of the program takes what is held before its steps to what is held after them. -/
theorem w73 {Q : (Σ' (v1460 : BitVec 1), BitVec 1) → sProp 𝕄} (v2 : BitVec 32) (v5 : BitVec 32) (v8 : BitVec 32) (v34 : BitVec 32) (v1427 : FVec F S128x1024 .f32) (v1428 : Vec F S1x128x1024 .f32) (hv : v1427 = P m c 3 2) (hw : shapeCast S128x1024 v1428 shapeCasts_S1x128x1024_S128x1024 = blkA m c 3 2)
    (hK : ∀ r, GS m K Z c tail74 ⊢ Q r) :
    GS m K Z c tail73 ⊢ run c (k0_part73 in0 h0 out0 h1 scr0 h2 scr1 h3 cc0_scratch2 cc0_scratch3 cc0_scratch4 cc0_scratch5 cc0_scratch6 cc0_scratch7 cc0_scratch8 cc0_scratch9 cc0_scratch10 c v2 v5 v8 v34 v1427 v1428) Q := by
  rw [k0_part73_eq_skeleton]; unfold k0_part73_skel
  refine run_bind (gs_LdO m K Z (off3_eq c 3) fun _ => ?_)
  refine run_bind (gs_StO m K Z (off3_eq c 3) (sum_eq' m (s := 2) hw hv) ?_)
  refine run_bind (gs_Xo m K Z (off5_eq c 3) (xs_eq (off80_eq c)) (xr_eq (off80_eq c)) (Fin.ext (dev57_eq c)) ?_)
  refine gs_Es m K Z (op57 c).1 (fun h => ((op57 c).2 h).1) (fun _ => rfl) (fun _ => rfl) (fun h => by exact Fin.ext ((op57 c).2 h).2) ?_
  exact run_ret (hK _)

/-- Part 74 of the program takes what is held before its steps to what is held after them. -/
theorem w74 {Q : (BitVec 32) → sProp 𝕄} (v2 : BitVec 32) (v5 : BitVec 32) (v8 : BitVec 32) (v1460 : BitVec 1) (v1462 : BitVec 1)
    (hK : ∀ r, GS m K Z c tail75 ⊢ Q r) :
    GS m K Z c tail74 ⊢ run c (k0_part74 in0 h0 out0 h1 scr0 h2 scr1 h3 cc0_scratch2 cc0_scratch3 cc0_scratch4 cc0_scratch5 cc0_scratch6 cc0_scratch7 cc0_scratch8 cc0_scratch9 cc0_scratch10 c v2 v5 v8 v1460 v1462) Q := by
  rw [k0_part74_eq_skeleton]; unfold k0_part74_skel
  refine gs_Ws m K Z (op58 c).1 (fun h => ((op58 c).2 h).1) (fun _ => rfl) (fun _ => rfl) (fun h => by exact Fin.ext ((op58 c).2 h).2) ?_
  refine gs_ERX m K Z (op59 c).1 (by decide +kernel) (fun h => by rw [k0_part19_eq_skeleton (F := F)]; unfold k0_part19_skel; refine isWait_out (F := F) ?_; rfl)
    (fun h => ((op59 c).2 h).1) (fun h => xs_eq ((op59 c).2 h).2.1) (fun h => xr_eq ((op59 c).2 h).2.1) (fun h => by exact Fin.ext ((op59 c).2 h).2.2) ?_
  refine gs_WRX m K Z (op60 c).1 (by decide +kernel) (fun h => by rw [k0_part20_eq_skeleton (F := F)]; unfold k0_part20_skel; refine isWait_out (F := F) ?_; rfl)
    (fun h => ((op60 c).2 h).1) (fun h => xs_eq ((op60 c).2 h).2.1) (fun h => xr_eq ((op60 c).2 h).2.1) (fun h => by exact Fin.ext ((op60 c).2 h).2.2) ?_
  refine gs_Ew m K Z (op61 c) (by decide +kernel) (fun _ => rfl) ?_
  refine gs_Ww m K Z (op62 c) (by decide +kernel) (fun _ => rfl) ?_
  refine gs_Es m K Z (op63 c).1 (fun h => ((op63 c).2 h).1) (fun _ => rfl) (fun _ => rfl) (fun h => by exact Fin.ext ((op63 c).2 h).2) ?_
  refine gs_Ws m K Z (op64 c).1 (fun h => ((op64 c).2 h).1) (fun _ => rfl) (fun _ => rfl) (fun h => by exact Fin.ext ((op64 c).2 h).2) ?_
  exact run_ret (hK _)

set_option maxHeartbeats 1000000 in
/-- Part 75 of the program takes what is held before its steps to what is held after them. -/
theorem w75 {Q : PUnit → sProp 𝕄} (v2 : BitVec 32) (v5 : BitVec 32) (v8 : BitVec 32) (v1495 : BitVec 32)
    (hK : ∀ r, GS m K Z c tail76 ⊢ Q r) :
    GS m K Z c tail75 ⊢ run c (k0_part75 in0 h0 out0 h1 scr0 h2 scr1 h3 cc0_scratch2 cc0_scratch3 cc0_scratch4 cc0_scratch5 cc0_scratch6 cc0_scratch7 cc0_scratch8 cc0_scratch9 cc0_scratch10 c v2 v5 v8 v1495) Q := by
  rw [k0_part75_eq_skeleton]; unfold k0_part75_skel
  refine gs_ERX m K Z (op65 c).1 (by decide +kernel) (fun h => by rw [k0_part21_eq_skeleton (F := F)]; unfold k0_part21_skel; refine isWait_out (F := F) ?_; rfl)
    (fun h => ((op65 c).2 h).1) (fun h => xs_eq ((op65 c).2 h).2.1) (fun h => xr_eq ((op65 c).2 h).2.1) (fun h => by exact Fin.ext ((op65 c).2 h).2.2) ?_
  refine gs_WRX m K Z (op66 c).1 (by decide +kernel) (fun h => by rw [k0_part22_eq_skeleton (F := F)]; unfold k0_part22_skel; refine isWait_out (F := F) ?_; rfl)
    (fun h => ((op66 c).2 h).1) (fun h => xs_eq ((op66 c).2 h).2.1) (fun h => xr_eq ((op66 c).2 h).2.1) (fun h => by exact Fin.ext ((op66 c).2 h).2.2) ?_
  refine gs_Ew m K Z (op67 c) (by decide +kernel) (fun _ => rfl) ?_
  refine gs_Ww m K Z (op68 c) (by decide +kernel) (fun _ => rfl) ?_
  refine gs_Es m K Z (op69 c).1 (fun h => ((op69 c).2 h).1) (fun _ => rfl) (fun _ => rfl) (fun h => by exact Fin.ext ((op69 c).2 h).2) ?_
  refine gs_Ws m K Z (op70 c).1 (fun h => ((op70 c).2 h).1) (fun _ => rfl) (fun _ => rfl) (fun h => by exact Fin.ext ((op70 c).2 h).2) ?_
  refine gs_ERX m K Z (op71 c).1 (by decide +kernel) (fun h => by rw [k0_part23_eq_skeleton (F := F)]; unfold k0_part23_skel; refine isWait_out (F := F) ?_; rfl)
    (fun h => ((op71 c).2 h).1) (fun h => xs_eq ((op71 c).2 h).2.1) (fun h => xr_eq ((op71 c).2 h).2.1) (fun h => by exact Fin.ext ((op71 c).2 h).2.2) ?_
  exact run_ret (hK _)

/-- Part 76 of the program takes what is held before its steps to what is held after them. -/
theorem w76 {Q : (BitVec 32) → sProp 𝕄} (v2 : BitVec 32) (v5 : BitVec 32) (v8 : BitVec 32)
    (hK : ∀ r, GS m K Z c tail77 ⊢ Q r) :
    GS m K Z c tail76 ⊢ run c (k0_part76 in0 h0 out0 h1 scr0 h2 scr1 h3 cc0_scratch2 cc0_scratch3 cc0_scratch4 cc0_scratch5 cc0_scratch6 cc0_scratch7 cc0_scratch8 cc0_scratch9 cc0_scratch10 c v2 v5 v8) Q := by
  rw [k0_part76_eq_skeleton]; unfold k0_part76_skel
  refine gs_WRX m K Z (op72 c).1 (by decide +kernel) (fun h => by rw [k0_part24_eq_skeleton (F := F)]; unfold k0_part24_skel; refine isWait_out (F := F) ?_; rfl)
    (fun h => ((op72 c).2 h).1) (fun h => xs_eq ((op72 c).2 h).2.1) (fun h => xr_eq ((op72 c).2 h).2.1) (fun h => by exact Fin.ext ((op72 c).2 h).2.2) ?_
  refine gs_Ew m K Z (op73 c) (by decide +kernel) (fun _ => rfl) ?_
  refine gs_Ww m K Z (op74 c) (by decide +kernel) (fun _ => rfl) ?_
  refine run_bind (gs_XRw m K Z (by decide +kernel) rfl (by exact N_oM 0) ?_)
  exact run_ret (hK _)

/-- Part 77 of the program takes what is held before its steps to what is held after them. -/
theorem w77 {Q : (Σ' (v1584 : BitVec 32), BitVec 32) → sProp 𝕄} (v2 : BitVec 32) (v5 : BitVec 32) (v8 : BitVec 32) (v1557 : BitVec 32)
    (hK : ∀ r, GS m K Z c tail78 ⊢ Q r) :
    GS m K Z c tail77 ⊢ run c (k0_part77 in0 h0 out0 h1 scr0 h2 scr1 h3 cc0_scratch2 cc0_scratch3 cc0_scratch4 cc0_scratch5 cc0_scratch6 cc0_scratch7 cc0_scratch8 cc0_scratch9 cc0_scratch10 c v2 v5 v8 v1557) Q := by
  rw [k0_part77_eq_skeleton]; unfold k0_part77_skel
  refine run_bind (gs_XSw m K Z (by decide +kernel) rfl (by exact N_oM 0) ?_)
  refine run_bind (gs_XRw m K Z (by decide +kernel) rfl (by exact N_oM 0) ?_)
  exact run_ret (hK _)

/-- Part 78 of the program takes what is held before its steps to what is held after them. -/
theorem w78 {Q : PUnit → sProp 𝕄} (v2 : BitVec 32) (v5 : BitVec 32) (v8 : BitVec 32) (v1584 : BitVec 32) (c1_i32_1420 : BitVec 32)
    (hK : ∀ r, GS m K Z c tail79 ⊢ Q r) :
    GS m K Z c tail78 ⊢ run c (k0_part78 in0 h0 out0 h1 scr0 h2 scr1 h3 cc0_scratch2 cc0_scratch3 cc0_scratch4 cc0_scratch5 cc0_scratch6 cc0_scratch7 cc0_scratch8 cc0_scratch9 cc0_scratch10 c v2 v5 v8 v1584 c1_i32_1420) Q := by
  rw [k0_part78_eq_skeleton]; unfold k0_part78_skel
  refine run_bind (gs_XSw m K Z (by decide +kernel) rfl (by exact N_oM 0) ?_)
  refine run_bind (gs_XRw m K Z (by decide +kernel) rfl (by exact N_oM 0) ?_)
  exact run_ret (hK _)

/-- Part 79 of the program takes what is held before its steps to what is held after them. -/
theorem w79 {Q : PUnit → sProp 𝕄} (v2 : BitVec 32) (v5 : BitVec 32) (v8 : BitVec 32)
    (hK : ∀ r, GS m K Z c tail80 ⊢ Q r) :
    GS m K Z c tail79 ⊢ run c (k0_part79 in0 h0 out0 h1 scr0 h2 scr1 h3 cc0_scratch2 cc0_scratch3 cc0_scratch4 cc0_scratch5 cc0_scratch6 cc0_scratch7 cc0_scratch8 cc0_scratch9 cc0_scratch10 c v2 v5 v8) Q := by
  rw [k0_part79_eq_skeleton]; unfold k0_part79_skel
  refine run_bind (gs_XSw m K Z (by decide +kernel) rfl (by exact N_oM 0) ?_)
  exact run_ret (hK _)

/-- Part 80 of the program takes what is held before its steps to what is held after them. -/
theorem w80 {Q : PUnit → sProp 𝕄} (v2 : BitVec 32) (v5 : BitVec 32) (v8 : BitVec 32)
    (hK : ∀ r, GS m K Z c tail81 ⊢ Q r) :
    GS m K Z c tail80 ⊢ run c (k0_part80 in0 h0 out0 h1 scr0 h2 scr1 h3 cc0_scratch2 cc0_scratch3 cc0_scratch4 cc0_scratch5 cc0_scratch6 cc0_scratch7 cc0_scratch8 cc0_scratch9 cc0_scratch10 c v2 v5 v8) Q := by
  rw [k0_part80_eq_skeleton]; unfold k0_part80_skel
  refine run_bind (gs_XRw m K Z (by decide +kernel) rfl (by exact N_oM 0) ?_)
  refine run_bind (gs_XSw m K Z (by decide +kernel) rfl (by exact N_oM 0) ?_)
  exact run_ret (hK _)

/-- Part 81 of the program takes what is held before its steps to what is held after them. -/
theorem w81 {Q : (Σ' (v1693 : BitVec 32), BitVec 32) → sProp 𝕄} (v2 : BitVec 32) (v5 : BitVec 32)
    (hK : ∀ r, GS m K Z c tail82 ⊢ Q r) :
    GS m K Z c tail81 ⊢ run c (k0_part81 in0 h0 out0 h1 scr0 h2 scr1 h3 cc0_scratch2 cc0_scratch3 cc0_scratch4 cc0_scratch5 cc0_scratch6 cc0_scratch7 cc0_scratch8 cc0_scratch9 cc0_scratch10 c v2 v5) Q := by
  rw [k0_part81_eq_skeleton]; unfold k0_part81_skel
  refine run_bind (gs_XRw m K Z (by decide +kernel) rfl (by exact N_oM 0) ?_)
  refine run_bind (gs_XSw m K Z (by decide +kernel) rfl (by exact N_oM 0) ?_)
  exact run_ret (hK _)

/-- Part 82 of the program takes what is held before its steps to what is held after them. -/
theorem w82 {Q : (Σ' (v1720 : BitVec 32), BitVec 32) → sProp 𝕄} (v2 : BitVec 32) (v8 : BitVec 32) (v1693 : BitVec 32) (c1_i32_1544 : BitVec 32)
    (hK : ∀ r, GS m K Z c tail83 ⊢ Q r) :
    GS m K Z c tail82 ⊢ run c (k0_part82 in0 h0 out0 h1 scr0 h2 scr1 h3 cc0_scratch2 cc0_scratch3 cc0_scratch4 cc0_scratch5 cc0_scratch6 cc0_scratch7 cc0_scratch8 cc0_scratch9 cc0_scratch10 c v2 v8 v1693 c1_i32_1544) Q := by
  rw [k0_part82_eq_skeleton]; unfold k0_part82_skel
  refine run_bind (gs_XRw m K Z (by decide +kernel) rfl (by exact N_oM 0) ?_)
  refine run_bind (gs_XSw m K Z (by decide +kernel) rfl (by exact N_oM 0) ?_)
  exact run_ret (hK _)

/-- Part 83 of the program takes what is held before its steps to what is held after them. -/
theorem w83 {Q : (BitVec 32) → sProp 𝕄} (v2 : BitVec 32) (v5 : BitVec 32) (v8 : BitVec 32) (v1720 : BitVec 32) (c4_i32_1575 : BitVec 32)
    (hK : ∀ r, GS m K Z c tail84 ⊢ Q r) :
    GS m K Z c tail83 ⊢ run c (k0_part83 in0 h0 out0 h1 scr0 h2 scr1 h3 cc0_scratch2 cc0_scratch3 cc0_scratch4 cc0_scratch5 cc0_scratch6 cc0_scratch7 cc0_scratch8 cc0_scratch9 cc0_scratch10 c v2 v5 v8 v1720 c4_i32_1575) Q := by
  rw [k0_part83_eq_skeleton]; unfold k0_part83_skel
  refine run_bind (gs_XRw m K Z (by decide +kernel) rfl (by exact N_oM 0) ?_)
  refine run_bind (gs_XSw m K Z (by decide +kernel) rfl (by exact N_oM 0) ?_)
  exact run_ret (hK _)

/-- Part 84 of the program takes what is held before its steps to what is held after them. -/
theorem w84 {Q : (BitVec 32) → sProp 𝕄} (v2 : BitVec 32) (v5 : BitVec 32) (v8 : BitVec 32) (v1748 : BitVec 32)
    (hK : ∀ r, GS m K Z c tail85 ⊢ Q r) :
    GS m K Z c tail84 ⊢ run c (k0_part84 in0 h0 out0 h1 scr0 h2 scr1 h3 cc0_scratch2 cc0_scratch3 cc0_scratch4 cc0_scratch5 cc0_scratch6 cc0_scratch7 cc0_scratch8 cc0_scratch9 cc0_scratch10 c v2 v5 v8 v1748) Q := by
  rw [k0_part84_eq_skeleton]; unfold k0_part84_skel
  refine run_bind (gs_XRw m K Z (by decide +kernel) rfl (by exact N_oM 0) ?_)
  refine run_bind (gs_XSw m K Z (by decide +kernel) rfl (by exact N_oM 0) ?_)
  exact run_ret (hK _)

/-- Part 85 of the program takes what is held before its steps to what is held after them. -/
theorem w85 {Q : (BitVec 32) → sProp 𝕄} (v2 : BitVec 32) (v5 : BitVec 32) (v8 : BitVec 32) (v1776 : BitVec 32)
    (hK : ∀ r, GS m K Z c tail86 ⊢ Q r) :
    GS m K Z c tail85 ⊢ run c (k0_part85 in0 h0 out0 h1 scr0 h2 scr1 h3 cc0_scratch2 cc0_scratch3 cc0_scratch4 cc0_scratch5 cc0_scratch6 cc0_scratch7 cc0_scratch8 cc0_scratch9 cc0_scratch10 c v2 v5 v8 v1776) Q := by
  rw [k0_part85_eq_skeleton]; unfold k0_part85_skel
  refine run_bind (gs_XRw m K Z (by decide +kernel) rfl (by exact N_oM 0) ?_)
  refine run_bind (gs_XSw m K Z (by decide +kernel) rfl (by exact N_oM 0) ?_)
  exact run_ret (hK _)

/-- Part 86 of the program takes what is held before its steps to what is held after them. -/
theorem w86 {Q : (Σ' (v1832 : BitVec 32), BitVec 32) → sProp 𝕄} (v2 : BitVec 32) (v5 : BitVec 32) (v8 : BitVec 32) (v1805 : BitVec 32)
    (hK : ∀ r, GS m K Z c tail87 ⊢ Q r) :
    GS m K Z c tail86 ⊢ run c (k0_part86 in0 h0 out0 h1 scr0 h2 scr1 h3 cc0_scratch2 cc0_scratch3 cc0_scratch4 cc0_scratch5 cc0_scratch6 cc0_scratch7 cc0_scratch8 cc0_scratch9 cc0_scratch10 c v2 v5 v8 v1805) Q := by
  rw [k0_part86_eq_skeleton]; unfold k0_part86_skel
  refine run_bind (gs_XRw m K Z (by decide +kernel) rfl (by exact N_oM 0) ?_)
  refine run_bind (gs_XSw m K Z (by decide +kernel) rfl (by exact N_oM 0) ?_)
  exact run_ret (hK _)

/-- Part 87 of the program takes what is held before its steps to what is held after them. -/
theorem w87 {Q : (BitVec 32) → sProp 𝕄} (v2 : BitVec 32) (v5 : BitVec 32) (v8 : BitVec 32) (v1832 : BitVec 32) (c256_i32_1695 : BitVec 32)
    (hK : ∀ r, GS m K Z c tail88 ⊢ Q r) :
    GS m K Z c tail87 ⊢ run c (k0_part87 in0 h0 out0 h1 scr0 h2 scr1 h3 cc0_scratch2 cc0_scratch3 cc0_scratch4 cc0_scratch5 cc0_scratch6 cc0_scratch7 cc0_scratch8 cc0_scratch9 cc0_scratch10 c v2 v5 v8 v1832 c256_i32_1695) Q := by
  rw [k0_part87_eq_skeleton]; unfold k0_part87_skel
  refine run_bind (gs_XRw m K Z (by decide +kernel) rfl (by exact N_oM 0) ?_)
  refine run_bind (gs_XSw m K Z (by decide +kernel) rfl (by exact N_oM 0) ?_)
  exact run_ret (hK _)

/-- Part 88 of the program takes what is held before its steps to what is held after them. -/
theorem w88 {Q : (Σ' (v1887 : BitVec 32), BitVec 32) → sProp 𝕄} (v2 : BitVec 32) (v5 : BitVec 32) (v8 : BitVec 32) (v1860 : BitVec 32)
    (hK : ∀ r, GS m K Z c tail89 ⊢ Q r) :
    GS m K Z c tail88 ⊢ run c (k0_part88 in0 h0 out0 h1 scr0 h2 scr1 h3 cc0_scratch2 cc0_scratch3 cc0_scratch4 cc0_scratch5 cc0_scratch6 cc0_scratch7 cc0_scratch8 cc0_scratch9 cc0_scratch10 c v2 v5 v8 v1860) Q := by
  rw [k0_part88_eq_skeleton]; unfold k0_part88_skel
  refine run_bind (gs_XRw m K Z (by decide +kernel) rfl (by exact N_oM 0) ?_)
  refine run_bind (gs_XSw m K Z (by decide +kernel) rfl (by exact N_oM 0) ?_)
  exact run_ret (hK _)

/-- Part 89 of the program takes what is held before its steps to what is held after them. -/
theorem w89 {Q : PUnit → sProp 𝕄} (v2 : BitVec 32) (v5 : BitVec 32) (v8 : BitVec 32) (v1887 : BitVec 32) (c4_i32_1756 : BitVec 32)
    (hK : ∀ r, GS m K Z c tail90 ⊢ Q r) :
    GS m K Z c tail89 ⊢ run c (k0_part89 in0 h0 out0 h1 scr0 h2 scr1 h3 cc0_scratch2 cc0_scratch3 cc0_scratch4 cc0_scratch5 cc0_scratch6 cc0_scratch7 cc0_scratch8 cc0_scratch9 cc0_scratch10 c v2 v5 v8 v1887 c4_i32_1756) Q := by
  rw [k0_part89_eq_skeleton]; unfold k0_part89_skel
  refine run_bind (gs_XRw m K Z (by decide +kernel) rfl (by exact N_oM 0) ?_)
  refine run_bind (gs_XSw m K Z (by decide +kernel) rfl (by exact N_oM 0) ?_)
  exact run_ret (hK _)

/-- Part 90 of the program takes what is held before its steps to what is held after them. -/
theorem w90 {Q : PUnit → sProp 𝕄} (v2 : BitVec 32) (v5 : BitVec 32) (v8 : BitVec 32)
    (hK : ∀ r, GS m K Z c tail91 ⊢ Q r) :
    GS m K Z c tail90 ⊢ run c (k0_part90 in0 h0 out0 h1 scr0 h2 scr1 h3 cc0_scratch2 cc0_scratch3 cc0_scratch4 cc0_scratch5 cc0_scratch6 cc0_scratch7 cc0_scratch8 cc0_scratch9 cc0_scratch10 c v2 v5 v8) Q := by
  rw [k0_part90_eq_skeleton]; unfold k0_part90_skel
  refine run_bind (gs_XRw m K Z (by decide +kernel) rfl (by exact N_oM 0) ?_)
  exact run_ret (hK _)

/-- Part 91 of the program takes what is held before its steps to what is held after them. -/
theorem w91 {Q : PUnit → sProp 𝕄} (v2 : BitVec 32) (v5 : BitVec 32) (v8 : BitVec 32)
    (hK : ∀ r, GS m K Z c tail92 ⊢ Q r) :
    GS m K Z c tail91 ⊢ run c (k0_part91 in0 h0 out0 h1 scr0 h2 scr1 h3 cc0_scratch2 cc0_scratch3 cc0_scratch4 cc0_scratch5 cc0_scratch6 cc0_scratch7 cc0_scratch8 cc0_scratch9 cc0_scratch10 c v2 v5 v8) Q := by
  rw [k0_part91_eq_skeleton]; unfold k0_part91_skel
  refine run_bind (gs_XSw m K Z (by decide +kernel) rfl (by exact N_oM 0) ?_)
  refine run_bind (gs_XRw m K Z (by decide +kernel) rfl (by exact N_oM 0) ?_)
  exact run_ret (hK _)

/-- Part 92 of the program takes what is held before its steps to what is held after them. -/
theorem w92 {Q : PUnit → sProp 𝕄} (v2 : BitVec 32) (v5 : BitVec 32) (v8 : BitVec 32)
    (hK : ∀ r, GS m K Z c tail99 ⊢ Q r) :
    GS m K Z c tail92 ⊢ run c (k0_part92 in0 h0 out0 h1 scr0 h2 scr1 h3 cc0_scratch2 cc0_scratch3 cc0_scratch4 cc0_scratch5 cc0_scratch6 cc0_scratch7 cc0_scratch8 cc0_scratch9 cc0_scratch10 c v2 v5 v8) Q := by
  rw [k0_part92_eq_skeleton]; unfold k0_part92_skel
  refine run_bind (gs_XSw m K Z (by decide +kernel) rfl (by exact N_oM 0) ?_)
  refine run_bind (gs_XRw m K Z (by decide +kernel) rfl (by exact N_oM 0) ?_)
  exact run_ret (hK _)

end Cert.KernelIdeal.Rs
-- ==== Proof.BodyKernelIdeal.lean ====
/-
# The whole kernel on one device
-/
module

public import proofs.«01_k».proof.Proof.BarrierKernelIdeal
public import proofs.«01_k».proof.Proof.WindowsAKernelIdeal
public import proofs.«01_k».proof.Proof.WindowsBKernelIdeal
public import proofs.«01_k».proof.Proof.WindowsCKernelIdeal
public import proofs.«01_k».proof.Proof.WindowsDKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names) (Z : Fin 4 → sProp (MT nD τ sig Unit (Elt F) ℕ UU ℕ))
  {c : Dev nD} {h0 : in0.IsWhole} {h1 : out0.IsWhole} {h2 : scr0.IsWhole} {h3 : scr1.IsWhole}

set_option maxHeartbeats 4000000 in
/-- The kernel up to its last waits. -/
theorem w93 {Q : (Σ' (d0 : Dev nD) (v2 : BitVec 32) (v5 : BitVec 32) (v8 : BitVec 32), BitVec 32) → sProp 𝕄}
    (hK : ∀ v2 v5 v8 r, GS m K Z c tail85 ⊢ Q ⟨c, v2, v5, v8, r⟩) :
    B0 m K Z c ⊢ run c (k0_part93 in0 h0 out0 h1 scr0 h2 scr1 h3 cc0_scratch2 cc0_scratch3 cc0_scratch4 cc0_scratch5 cc0_scratch6 cc0_scratch7 cc0_scratch8 cc0_scratch9 cc0_scratch10) Q := by
  rw [k0_part93_eq_skeleton]; unfold k0_part93_skel
  refine run_bind (w25 fun _ _ _ _ _ _ => ?_)
  refine run_bind (w26 m K Z _ _ _ _ _ ?_)
  refine run_bind (w27 m K Z _ _ _ _ _ fun r => ?_)
  obtain ⟨a0, a1⟩ := r
  refine run_bind (w28 m K Z _ _ _ _  fun r => ?_)
  refine run_bind (w29 m K Z _ _ _ _  fun r => ?_)
  obtain ⟨a0, a1, a2, a3, a4⟩ := r
  refine run_bind (w30 m K Z _ _ _ _ _ _ _ _ _  fun r => ?_)
  refine run_bind (w31 m K Z _ _  fun r => ?_)
  refine run_bind (w32 m K Z _ _ _ _  fun r => ?_)
  refine run_bind (w33 m K Z _ _ _ _ _  fun r => ?_)
  refine run_bind (w34 m K Z _ _  fun r => ?_)
  refine run_bind (w35 m K Z _ _ _ _ _  fun u w hu hw => ?_)
  refine run_bind (w36 m K Z _ _ _ _ _ _  hu hw fun r => ?_)
  obtain ⟨a0, a1⟩ := r
  refine run_bind (w37 m K Z _ _ _ _ _ _ _  fun r => ?_)
  refine run_bind (w38 m K Z _ _ _ _ _  fun r => ?_)
  refine run_bind (w39 m K Z _ _ _ _ _  fun r => ?_)
  refine run_bind (w40 m K Z _ _ _ _  fun r => ?_)
  refine run_bind (w41 m K Z _ _ _ _ _  fun r => ?_)
  refine run_bind (w42 m K Z _ _ _ _  fun r => ?_)
  obtain ⟨a0, a1⟩ := r
  refine run_bind (w43 m K Z _ _ _ _ _  fun r => ?_)
  refine run_bind (w44 m K Z _ _ _ _ _  fun r => ?_)
  refine run_bind (w45 m K Z _ _ _ _  fun r => ?_)
  obtain ⟨a0, a1⟩ := r
  refine run_bind (w46 m K Z _ _ _ _ _ _  fun r => ?_)
  obtain ⟨a0, a1⟩ := r
  refine run_bind (w47 m K Z _ _ _ _ _ _ _  fun r => ?_)
  refine run_bind (w48 m K Z _ _ _ _  fun r => ?_)
  refine run_bind (w49 m K Z _ _ _ _  fun r => ?_)
  refine run_bind (w50 m K Z _ _ _ _ _  fun r => ?_)
  refine run_bind (w51 m K Z _ _ _ _ _  fun r => ?_)
  obtain ⟨a0, a1, a2⟩ := r
  refine run_bind (w52 m K Z _ _ _ _ _ _ _  fun r => ?_)
  refine run_bind (w53 m K Z _ _  fun r => ?_)
  refine run_bind (w54 m K Z _ _ _ _ _  fun r => ?_)
  refine run_bind (w55 m K Z _ _ _  fun r => ?_)
  refine run_bind (w56 m K Z _ _ _ _  fun r => ?_)
  obtain ⟨a0, a1, a2⟩ := r
  refine run_bind (w57 m K Z _ _ _ _ _ _  fun r => ?_)
  obtain ⟨a0, a1⟩ := r
  refine run_bind (w58 m K Z _ _ _ _ _ _  fun r => ?_)
  refine run_bind (w59 m K Z _ _ _ _ _  fun r => ?_)
  refine run_bind (w60 m K Z _ _ _ _ _  fun r => ?_)
  refine run_bind (w61 m K Z _ _ _ _ _  fun r => ?_)
  obtain ⟨a0, a1, a2⟩ := r
  refine run_bind (w62 m K Z _ _ _ _ _ _ _  fun r => ?_)
  obtain ⟨a0, a1, a2⟩ := r
  refine run_bind (w63 m K Z _ _ _ _ _ _ _  fun r => ?_)
  refine run_bind (w64 m K Z _ _ _ _ _  fun r => ?_)
  refine run_bind (w65 m K Z _ _ _ _ _ _  fun r => ?_)
  refine run_bind (w66 m K Z _ _ _ _  fun r => ?_)
  obtain ⟨a0, a1, a2⟩ := r
  refine run_bind (w67 m K Z _ _ _ _ _ _ _  fun r => ?_)
  obtain ⟨a0, a1⟩ := r
  refine run_bind (w68 m K Z _ _ _ _ _ _  fun r => ?_)
  refine run_bind (w69 m K Z _ _  fun u hu => ?_)
  refine run_bind (w70 m K Z _ _ _ _ _ _  hu fun r => ?_)
  obtain ⟨a0, a1⟩ := r
  refine run_bind (w71 m K Z _ _ _ _ _  fun r => ?_)
  refine run_bind (w72 m K Z _ _ _ _ _  fun u w hu hw => ?_)
  refine run_bind (w73 m K Z _ _ _ _ _ _  hu hw fun r => ?_)
  obtain ⟨a0, a1⟩ := r
  refine run_bind (w74 m K Z _ _ _ _ _  fun r => ?_)
  refine run_bind (w75 m K Z _ _ _ _  fun r => ?_)
  refine run_bind (w76 m K Z _ _ _  fun r => ?_)
  refine run_bind (w77 m K Z _ _ _ _  fun r => ?_)
  obtain ⟨a0, a1⟩ := r
  refine run_bind (w78 m K Z _ _ _ _ _  fun r => ?_)
  refine run_bind (w79 m K Z _ _ _  fun r => ?_)
  refine run_bind (w80 m K Z _ _ _  fun r => ?_)
  refine run_bind (w81 m K Z _ _  fun r => ?_)
  obtain ⟨a0, a1⟩ := r
  refine run_bind (w82 m K Z _ _ _ _  fun r => ?_)
  obtain ⟨a0, a1⟩ := r
  refine run_bind (w83 m K Z _ _ _ _ _  fun r => ?_)
  refine run_bind (w84 m K Z _ _ _ _  fun r => ?_)
  exact run_ret (hK _ _ _ _)

/-- The kernel: from what a device holds at the start to what it holds at the end. -/
theorem body_run {Q : PUnit → sProp 𝕄} (hK : GS m K Z c [] ⊢ Q ⟨⟩) :
    B0 m K Z c ⊢ run c (cc0_body in0 h0 out0 h1 scr0 h2 scr1 h3 cc0_scratch2 cc0_scratch3 cc0_scratch4 cc0_scratch5 cc0_scratch6 cc0_scratch7 cc0_scratch8 cc0_scratch9 cc0_scratch10) Q := by
  rw [cc0_body_eq_skeleton]; unfold cc0_body_skel
  refine run_bind (w93 m K Z fun _ _ _ _ => ?_)
  refine run_bind (w85 m K Z _ _ _ _  fun r => ?_)
  refine run_bind (w86 m K Z _ _ _ _  fun r => ?_)
  obtain ⟨a0, a1⟩ := r
  refine run_bind (w87 m K Z _ _ _ _ _  fun r => ?_)
  refine run_bind (w88 m K Z _ _ _ _  fun r => ?_)
  obtain ⟨a0, a1⟩ := r
  refine run_bind (w89 m K Z _ _ _ _ _  fun r => ?_)
  refine run_bind (w90 m K Z _ _ _  fun r => ?_)
  refine run_bind (w91 m K Z _ _ _  fun r => ?_)
  refine run_bind (w92 m K Z _ _ _  fun r => ?_)
  refine run_bind (gs_XSw m K Z (o := 3) (by decide +kernel) rfl (by exact N_oM 0) ?_)
  exact run_ret hK

end Cert.KernelIdeal.Rs
-- ==== Proof.EndsKernelIdeal.lean ====
/-
# The kernel on one device, from the launch's deal to the end

What the launch deals a device makes up what `body_run` starts with, and what it ends with closes every cell and gives back
the buffers, the result summed.
-/
module

public import proofs.«01_k».proof.Proof.FundKernelIdeal
public import proofs.«01_k».proof.Proof.RegionsKernelIdeal
public import proofs.«01_k».proof.Proof.BodyKernelIdeal

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names)

/-! ## The regions given away at the barrier -/

/-- The piece that the device below sends is the one expected from below. -/
theorem e_piece : ∀ (c : Dev nD) (t : Fin 3) (k : Fin 4), aE c t.succ = true → pc (dn c) (oE (dn c) t.castSucc) k = pc c (oE c t.succ) k := by decide +kernel
/-- The piece that the device above sends is the one expected from above. -/
theorem w_piece : ∀ (c : Dev nD) (t : Fin 3) (k : Fin 4), aW c t.succ = true → pc (up c) (oW (up c) t.castSucc) k = pc c (oW c t.succ) k := by decide +kernel

/-- The pieces that the `z` before fills, -/
theorem e_dst (c : Dev nD) (k : Fin 4) : (bigSep Finset.univ fun t : Fin 3 => opt (aE c t.succ) (any (F := F) c (oM (pc c (oE c t.succ) k)))) = eDst (F := F) (dn c) k := by
  unfold eDst
  refine bigSep_congr fun t _ => ?_
  rw [dn_place, up_dn]
  by_cases h : aE c t.succ = true
  · rw [if_pos h, h, e_piece c t k h, opt_true]
  · rw [if_neg h, Bool.eq_false_iff.mpr h, opt_false]
/-- and that the next `z` fills. -/
theorem w_dst (c : Dev nD) (k : Fin 4) : (bigSep Finset.univ fun t : Fin 3 => opt (aW c t.succ) (any (F := F) c (oM (pc c (oW c t.succ) k)))) = wDst (F := F) (up c) k := by
  unfold wDst
  refine bigSep_congr fun t _ => ?_
  rw [up_place, dn_up]
  by_cases h : aW c t.succ = true
  · rw [if_pos h, h, w_piece c t k h, opt_true]
  · rw [if_neg h, Bool.eq_false_iff.mpr h, opt_false]

/-- The result's pieces: those the device sums itself, and those that others fill. -/
theorem give_out (c : Dev nD) : (bigSep Finset.univ fun n : Fin 32 => any (F := F) c (oM n))
    ⊢ iprop((bigSep Finset.univ fun k : Fin 4 => any (F := F) c (oM (nc c k))) ∗ barPay (F := F) (dn c) 4 ∗ barPay (F := F) (up c) 3 ∗ barPay (F := F) (xp c) 2) := by
  rw [halves c]
  have h1 : (bigSep Finset.univ fun k : Fin 4 => bigSep Finset.univ fun o : Fin 4 => any (F := F) c (oM (pc c o k)))
      = (bigSep Finset.univ fun k : Fin 4 => iprop(any (F := F) c (oM (nc c k)) ∗ eDst (F := F) (dn c) k ∗ wDst (F := F) (up c) k)) :=
    bigSep_congr fun k _ => by
      rw [byPlace_eq c (fun o : Fin 4 => any (F := F) c (oM (pc c o k)))]
      unfold byPlace
      rw [e_dst, w_dst]
  have h2 : (bigSep Finset.univ fun k : Fin 4 => bigSep Finset.univ fun o : Fin 4 => any (F := F) c (oM (pc (xp c) o k))) = barPay (F := F) (xp c) 2 := by
    show _ = bigSep Finset.univ fun k : Fin 4 => xDst (F := F) (xp c) k
    unfold xDst; rw [xp_xp]
  rw [h1, h2, bigSep_sep', bigSep_sep']
  show iprop((_ ∗ barPay (F := F) (dn c) 4 ∗ barPay (F := F) (up c) 3) ∗ _) ⊢ _
  iintro ⟨⟨H1, H2, H3⟩, H4⟩
  isplitl [H1]; · iexact H1
  isplitl [H2]; · iexact H2
  isplitl [H3] <;> iassumption

/-- The landing regions, which the device before on the ring fills. -/
theorem give_com (c : Dev nD) : (bigSep Finset.univ fun k : Fin 4 => bigSep Finset.univ fun s : Fin 3 => any (F := F) c (cM k s)) ⊢ barPay (F := F) (left c) 0 := by
  show _ ⊢ bigSep Finset.univ fun k : Fin 4 => hDst (F := F) (left c) k
  unfold hDst; rw [right_left]

/-! ## The start -/

/-- What is kept aside while the sub-strips run: the place at the barrier cell, and what takes the blocks read back into the
    argument. -/
def aside (c : Dev nD) : sProp 𝕄 :=
  iprop(atPos (ER (F := F)) (barCell c) 1 ∅ 0
    ∗ ((bigSep Finset.univ fun k : Fin 4 => args m c k) -∗ ((c : Thread nD τ).loc main_arg0) ↦{fullShare} m ((c : Thread nD τ).loc main_arg0)))
/-- It is put with the first sub-strip. -/
def asideAt (c : Dev nD) (k : Fin 4) : sProp 𝕄 := if k = 0 then aside m c else iprop(emp)
/-- What the four sub-strips set aside. -/
theorem aside_eq (c : Dev nD) : (bigSep Finset.univ fun k : Fin 4 => asideAt m c k) = aside m c := by
  rw [b4]
  show iprop(aside m c ∗ emp ∗ emp ∗ emp) = _
  refine ent_eq ?_ ?_
  · iintro ⟨H, -⟩; iexact H
  · iintro H; isplitl [H]; · iexact H
    isplitr; · iempintro
    isplitr <;> iempintro
/-- What a sub-strip ends with, with what is kept aside. -/
def End (c : Dev nD) (k : Fin 4) : sProp 𝕄 := iprop(Fin4 m c k ∗ asideAt m c k)

/-- What is put beside a sub-strip's steps is there at their end. -/
theorem th_frame {Z Z' : Fin 4 → sProp 𝕄} {X : sProp 𝕄} (c : Dev nD) (k : Fin 4) (h : iprop(Z k ∗ X) ⊢ Z' k) : ∀ l : List Stp,
    iprop(Th m Z c k l ∗ X) ⊢ Th m Z' c k l
  | [] => h
  | s :: l => by
    have ih := th_frame c k h l
    show iprop((need m c k s ∗ (give m c k s -∗ Th m Z c k l)) ∗ X) ⊢ iprop(need m c k s ∗ (give m c k s -∗ Th m Z' c k l))
    iintro ⟨⟨Hn, Hw⟩, HX⟩
    isplitl [Hn]; · iexact Hn
    iintro Hg
    iapply ih
    isplitr [HX]
    · iapply Hw $$ Hg
    · iexact HX

/-- A sub-strip's start covers its steps, with what is set aside. -/
theorem start_th (c : Dev nD) (k : Fin 4) : iprop(Init m c k ∗ asideAt m c k) ⊢ Th m (End m c) c k (sub k prog) := by
  have h : iprop(Fin4 m c k ∗ asideAt m c k) ⊢ End m c k := Entails.of_eq rfl
  iintro ⟨HI, HX⟩
  iapply (th_frame m (Z := Fin4 m c) (Z' := End m c) c k h _)
  isplitl [HI]
  · iapply (th_intro m c k) $$ HI
  · iexact HX

/-- The first round of a sub-strip's copies' cell is open. -/
theorem opens (c : Dev nD) : Rec m K ⊢ bigSep Finset.univ fun k : Fin 4 => opn (F := F) c (.cp k) 0 :=
  (BI.bigSep_of_persistent (Finset.univ : Finset (Fin 4)) (Rec m K)).trans (bigSep_mono fun k _ => Rec_reached m K c (.cp k) (fun h => by cases h))

/-- What a device holds after the launch's deal, without the records and what it owes. -/
def Deal (c : Dev nD) : sProp 𝕄 :=
  iprop(lin (F := F) c ∗ cred (tallyAt (barCell c) () (barDuties c).card) ∗ (bigSep Finset.univ fun k : Fin 4 => crds (F := F) c k)
    ∗ ((c : Thread nD τ).loc main_arg0) ↦{fullShare} m ((c : Thread nD τ).loc main_arg0))
/-- Its two scratch buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What a device starts with is what the barrier needs, and after it the sub-strips. -/
theorem start_bar (c : Dev nD) :
    iprop(Rec m K ∗ (∃ W, owes (c : Thread nD τ) (owed0 c) W) ∗ Deal m c ∗ scratch (F := F) c
        ∗ (∃ f : Buf (Elt F) ((c : Thread nD τ).loc cc0_stg0_0), ((c : Thread nD τ).loc cc0_stg0_0) ↦{fullShare} f))
      ⊢ B0 m K (End m c) c := by
  unfold Deal lin paid scratch B0
  iintro ⟨#HR, HO, ⟨⟨Hpl, ⟨T0, T1, T2, T4, T3⟩, HT⟩, HcB, Hcr, Harg⟩, ⟨Hcom, Hstg⟩, ⟨%f, Hout⟩⟩
  ihave Hpl := (places (F := F) c) $$ Hpl
  icases Hpl with ⟨HaB, Hpos⟩
  ihave Hout := (out_split (F := F) c f) $$ Hout
  ihave Hout := (give_out (F := F) c) $$ Hout
  icases Hout with ⟨Hnc, P4, P3, P2⟩
  ihave Hcom := (com_split (F := F) c) $$ Hcom
  ihave P0 := (give_com (F := F) c) $$ Hcom
  ihave Hstg := (stg_split (F := F) c) $$ Hstg
  ihave Harg := (args_take m c) $$ Harg
  icases Harg with ⟨Hargs, Hback⟩
  isplitr; · iexact HR
  isplitl [HO]; · iexact HO
  isplitl [T0 P0]; · isplitl [T0] <;> iassumption
  isplitl [T1]
  · isplitl [T1]; · iexact T1
    iapply (show iprop(emp) ⊢ barPay (F := F) (right c) 1 from Entails.of_eq rfl); iempintro
  isplitl [T2 P2]; · isplitl [T2] <;> iassumption
  isplitl [T4 P4]; · isplitl [T4] <;> iassumption
  isplitl [T3 P3]; · isplitl [T3] <;> iassumption
  isplitl [HaB HcB]; · isplitl [HaB] <;> iassumption
  iintro Hgot
  unfold barGot
  icases Hgot with ⟨HaB, D0, D2, D3, D4⟩
  have h : (bigSep Finset.univ fun k : Fin 4 => iprop(Init m c k ∗ asideAt m c k)) ⊢ (bigSep Finset.univ fun k : Fin 4 => Th m (End m c) c k (sub k prog)) :=
    bigSep_mono fun k _ => start_th m c k
  iapply h
  rw [bigSep_sep', aside_eq]
  isplitr [HaB Hback]
  · unfold Init
    simp only [bigSep_sep']
    isplitr; · iapply (opens m K c) $$ HR
    isplitl [Hpos]; · iexact Hpos
    isplitl [HT]; · iexact HT
    isplitl [Hcr]; · iexact Hcr
    isplitl [D0 D2 D3 D4]
    · isplitl [D0]; · iapply (show barPay (F := F) c 0 ⊢ bigSep Finset.univ fun k : Fin 4 => hDst (F := F) c k from Entails.of_eq rfl) $$ D0
      isplitl [D2]; · iapply (show barPay (F := F) c 2 ⊢ bigSep Finset.univ fun k : Fin 4 => xDst (F := F) c k from Entails.of_eq rfl) $$ D2
      isplitl [D4]; · iapply (show barPay (F := F) c 4 ⊢ bigSep Finset.univ fun k : Fin 4 => eDst (F := F) c k from Entails.of_eq rfl) $$ D4
      iapply (show barPay (F := F) c 3 ⊢ bigSep Finset.univ fun k : Fin 4 => wDst (F := F) c k from Entails.of_eq rfl) $$ D3
    isplitl [Hargs]; · iexact Hargs
    isplitl [Hstg]; · iexact Hstg
    iexact Hnc
  · unfold aside
    isplitl [HaB] <;> iassumption

/-! ## The end -/

/-- A cell past its last round is closed; -/
theorem close_cell (c : Dev nD) (q : CK) (hq : q ≠ .st) : iprop(Rec m K ∗ pe (F := F) c q) ⊢ |={Set.univ}=> semVal (cl c q) 0 := by
  unfold pe
  iintro ⟨#HR, ⟨%r, %hr, H⟩⟩
  iapply (Rounds.cell_close ER (Rd m) (Set.mem_univ (K (c, ix q))) (fun h => h) (R := r)
    (fun r' h => by rw [duties_cl, hr r' h]; rfl))
  isplitr
  · iapply (Rec_inv m K c q hq) $$ HR
  · iexact H

/-- All of a sub-strip's cells are closed, with their counters at zero. -/
theorem close_fam (c : Dev nD) (k : Fin 4) : iprop(Rec m K ∗ fam (pe (F := F) c) k) ⊢ |={Set.univ}=> fam (fun q => semVal (cl c q) 0) k := by
  rw [← fam_eq, ← fam_eq]
  haveI : DecidableEq SubIx := Classical.decEq _
  have h : iprop(Rec m K ∗ bigSep Finset.univ fun j : SubIx => pe (F := F) c (subName k j))
      ⊢ bigSep Finset.univ fun j : SubIx => iprop(|={Set.univ}=> semVal (cl c (subName k j)) 0) :=
    with_persistent fun j _ => close_cell m K c _ (by rcases j with _ | _ | _ | _ | _ | _ | _ | _ | _ <;> simp [subName])
  exact h.trans (bigSep_fupd _ _)

/-- and so is the barrier's. -/
theorem close_bar (c : Dev nD) : iprop(Rec m K ∗ atPos (ER (F := F)) (barCell c) 1 ∅ 0) ⊢ |={Set.univ}=> semVal (barCell c) 0 := by
  have hd : ∀ r', 1 ≤ r' → (Rd m).duties (barCell c) r' = ∅ := fun r' h => show (if r' = 0 then barDuties c else ∅) = ∅ from if_neg (by omega)
  iintro ⟨#HR, H⟩
  iapply (Rounds.cell_close ER (Rd m) (Set.mem_univ (K (c, 0))) (fun h => h) (R := 1) hd)
  isplitr
  · ihave HI := (Rec_at m K (c, 0)) $$ HR
    icases HI with ⟨HI, -⟩
    iexact HI
  · iexact H

/-- All the semaphores of a device's cells, at zero. -/
theorem close_all (c : Dev nD) :
    iprop(Rec m K ∗ atPos (ER (F := F)) (barCell c) 1 ∅ 0 ∗ bigSep Finset.univ fun k : Fin 4 => fam (pe (F := F) c) k)
      ⊢ |={Set.univ}=> (bigSep Finset.univ fun i : Fin 109 => semVal (kcell (c, i)) 0 : sProp 𝕄) := by
  rw [pool_split]
  have h : iprop(Rec m K ∗ bigSep Finset.univ fun k : Fin 4 => fam (pe (F := F) c) k)
      ⊢ |={Set.univ}=> bigSep Finset.univ fun k : Fin 4 => fam (fun q => (semVal (cl c q) 0 : sProp 𝕄)) k :=
    (with_persistent fun k _ => close_fam m K c k).trans (bigSep_fupd _ _)
  have h' : (bigSep Finset.univ fun k : Fin 4 => fam (fun q => (semVal (cl c q) 0 : sProp 𝕄)) k)
      ⊢ bigSep Finset.univ fun k : Fin 4 => fam (fun q => (semVal (kcell (c, ix q)) 0 : sProp 𝕄)) k :=
    bigSep_mono fun k _ => fam_mono k fun q hq => by rw [kcell_ix c q hq]
  iintro ⟨#HR, HB, HF⟩
  imod (close_bar m K c) $$ [HB] with HB
  · isplitr; · iexact HR
    iexact HB
  imod h $$ [HF] with HF
  · isplitr; · iexact HR
    iexact HF
  ihave HF := h' $$ HF
  imodintro
  isplitl [HB]
  · iexact HB
  · iexact HF

/-- What the kernel leaves on a device: its semaphores at zero, its scratch buffers, its column of the result and its argument. -/
def Left (c : Dev nD) : sProp 𝕄 :=
  iprop((bigSep Finset.univ fun i : Fin 109 => semVal (kcell (c, i)) 0) ∗ scratch (F := F) c
    ∗ (((c : Thread nD τ).loc main_arg0) ↦{fullShare} m ((c : Thread nD τ).loc main_arg0)))
/-- The result's buffer with the column in it. -/
def outAt (c : Dev nD) : sProp 𝕄 :=
  iprop(((c : Thread nD τ).loc cc0_stg0_0) ↦{fullShare} (outV m (yc c) : Buf (Elt F) ((c : Thread nD τ).loc cc0_stg0_0)))

/-- The sub-strips' ends give the counters at zero, the buffers whole and the result. -/
theorem finish (c : Dev nD) : iprop(Rec m K ∗ bigSep Finset.univ fun k : Fin 4 => End m c k) ⊢ |={Set.univ}=> iprop(Left m c ∗ outAt m c) := by
  unfold End Fin4
  simp only [bigSep_sep']
  rw [aside_eq]
  unfold aside
  iintro ⟨#HR, ⟨HF, Hcom, Hstg, Hargs, Ho, Hx⟩, HaB, Hback⟩
  imod (close_all m K c) $$ [HaB HF] with Hsem
  · isplitr; · iexact HR
    isplitl [HaB] <;> iassumption
  imodintro
  ihave Hcom := (com_join m c) $$ Hcom
  ihave Hstg := (stg_join m c) $$ Hstg
  ihave Hout := (Entails.of_eq (halves c (fun n => piece m c n fullShare)).symm) $$ [Ho Hx]
  · isplitl [Ho] <;> iassumption
  ihave Hout := (Entails.of_eq (out_join m c)) $$ Hout
  isplitr [Hout]
  · unfold Left scratch
    isplitl [Hsem]; · iexact Hsem
    isplitl [Hcom Hstg]
    · isplitl [Hcom] <;> iassumption
    iapply Hback $$ Hargs
  · unfold outAt; iexact Hout

/-- The end of the program gives the same, with nothing owed. -/
theorem finish_gs (c : Dev nD) : GS m K (End m c) c [] ⊢ |={Set.univ}=> iprop((∃ W, owes (c : Thread nD τ) 0 W) ∗ Left m c ∗ outAt m c) := by
  show iprop(Rec m K ∗ (∃ W, owes (c : Thread nD τ) 0 W) ∗ bigSep Finset.univ fun k : Fin 4 => End m c k) ⊢ _
  iintro ⟨HR, HO, H⟩
  imod (finish m K c) $$ [HR H] with H
  · isplitl [HR] <;> iassumption
  imodintro
  isplitl [HO] <;> iassumption

/-- The kernel's run on one device. -/
theorem whole_body (c : Dev nD) {h0 : in0.IsWhole} {h1 : out0.IsWhole} {h2 : scr0.IsWhole} {h3 : scr1.IsWhole} :
    iprop(Rec m K ∗ (∃ W, owes (c : Thread nD τ) (owed0 c) W) ∗ Deal m c ∗ scratch (F := F) c
        ∗ (∃ f : Buf (Elt F) ((c : Thread nD τ).loc cc0_stg0_0), ((c : Thread nD τ).loc cc0_stg0_0) ↦{fullShare} f))
      ⊢ run c (cc0_body in0 h0 out0 h1 scr0 h2 scr1 h3 cc0_scratch2 cc0_scratch3 cc0_scratch4 cc0_scratch5 cc0_scratch6 cc0_scratch7 cc0_scratch8 cc0_scratch9 cc0_scratch10)
          (fun _ => iprop((∃ W, owes (c : Thread nD τ) 0 W) ∗ Left m c ∗ outAt m c)) :=
  (start_bar m K c).trans ((body_run m K (End m c) (Q := fun _ => iprop(|={Set.univ}=> iprop((∃ W, owes (c : Thread nD τ) 0 W) ∗ Left m c ∗ outAt m c)))
    (finish_gs m K c)).trans (wp_fupd _ _ _ _ _))

end Cert.KernelIdeal.Rs
-- ==== Proof.RunKernelIdeal.lean ====
/-
# The run of the whole program

Every execution from a memory whose counters are zero ends with the argument unchanged, every counter at zero, and each
device's column of the sum in its result.
-/
module

public import proofs.«01_k».proof.Proof.EndsKernelIdeal
public import Idealize.ShloMosaic.Lib.Pipeline.CollectiveSegs
public import proofs.«01_k».proof.Proof.Gen.KernelIdeal.Points

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What a device holds when its kernel starts, without its scratch buffers. -/
def Start (c : Dev nD) : sProp 𝕄 := iprop(∃ K, Rec m K ∗ Deal m c)
/-- The same with the scratch buffers. -/
def Φ₀ (c : Dev nD) : sProp 𝕄 := iprop(Start m c ∗ scratch (F := F) c)

/-- The launch's data: the result's contents, what is held before and after the kernel, what is owed. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (outV m (yc c) : (cc0_stg0_0 : Ref sig .tc).ty.Contents (Elt F))
  Φ t := match t with
    | ⟨0, _⟩ => Φ₀ m c
    | ⟨_ + 1, _⟩ => Left m c
  q _ := fullShare
  owed t := match t with
    | ⟨0, _⟩ => owed0 c
    | ⟨_ + 1, _⟩ => 0

/-- The launch has one window. -/
theorem bigSep_W (Φ : Fin cfg0.W → sProp 𝕄) : bigSep Finset.univ Φ = Φ (0 : Fin 1) := bigSep_W0 Φ

/-- A whole buffer held. -/
abbrev stg (c : Dev nD) (b : Ref sig .tc) (X : b.ty.Contents (Elt F)) : sProp 𝕄 := iprop(∃ f : Buf (Elt F) ((c : Thread nD τ).loc b), ⌜f = X⌝ ∗ (((c : Thread nD τ).loc b) ↦{fullShare} f))
/-- Owning the view of a whole buffer is holding the buffer. -/
theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

/-- What a device holds when the kernel's body starts, -/
def bodyPre (c : Dev nD) : sProp 𝕄 :=
  iprop(Φ₀ m c ∗ (dats m ρ 0 c).owesAt () (t0_0 : Fin cfg0.N).castSucc ∗ (∃ d, stg c cc0_stg0_0 ((dats m ρ 0 c).before (0 : Fin 1) (t0_0 : Fin cfg0.N) d)))
/-- and what it holds when the body ends. -/
def bodyPost (c : Dev nD) : sProp 𝕄 :=
  iprop(Left m c ∗ (dats m ρ 0 c).owesAt () (t0_0 : Fin cfg0.N).succ ∗ stg c cc0_stg0_0 (outV m (yc c)))

/-- The end of the kernel in the launch's terms. -/
theorem body_post (c : Dev nD) : iprop((∃ W, owes (c : Thread nD τ) 0 W) ∗ Left m c ∗ outAt m c) ⊢ bodyPost m ρ c := by
  unfold bodyPost outAt
  iintro ⟨⟨%W, HO⟩, HL, Hout⟩
  isplitl [HL]; · iexact HL
  isplitl [HO]
  · unfold Pipeline.Dat.owesAt Pipeline.owesWithin
    rw [show (dats m ρ 0 c).owed (t0_0 : Fin cfg0.N).succ = 0 from rfl]
    iexists W
    isplitr
    · ipureintro; exact fun _ _ => Or.inl trivial
    · iexact HO
  · iexists _
    isplitr
    · ipureintro; rfl
    · iexact Hout

/-- The start of the kernel out of the launch's terms. -/
theorem body_pre (c : Dev nD) : bodyPre m ρ c ⊢ ∃ K, Rec m K ∗ (∃ W, owes (c : Thread nD τ) (owed0 c) W) ∗ Deal m c ∗ scratch (F := F) c
    ∗ (∃ f, ((c : Thread nD τ).loc cc0_stg0_0) ↦{fullShare} f) := by
  unfold bodyPre Φ₀ Start Pipeline.Dat.owesAt Pipeline.owesWithin
  rw [show (dats m ρ 0 c).owed (t0_0 : Fin cfg0.N).castSucc = owed0 c from rfl]
  iintro ⟨⟨⟨%K, HR, HD⟩, Hs⟩, ⟨%W, -, HO⟩, ⟨%d, ⟨%f, -, Hout⟩⟩⟩
  iexists K
  isplitl [HR]; · iexact HR
  isplitl [HO]; · iexists W; iexact HO
  isplitl [HD]; · iexact HD
  isplitl [Hs]; · iexact Hs
  iexists f; iexact Hout

/-- The body takes a device from the one to the other. -/
theorem body_spec (c : Dev nD) {h0 : in0.IsWhole} {h1 : out0.IsWhole} {h2 : scr0.IsWhole} {h3 : scr1.IsWhole} :
    bodyPre m ρ c ⊢ run c (cc0_body in0 h0 out0 h1 scr0 h2 scr1 h3
      cc0_scratch2 cc0_scratch3 cc0_scratch4 cc0_scratch5 cc0_scratch6 cc0_scratch7 cc0_scratch8 cc0_scratch9 cc0_scratch10) (fun _ => bodyPost m ρ c) := by
  refine (body_pre m ρ c).trans ?_
  iintro ⟨%K, H⟩
  have h := (whole_body m K c (h0 := h0) (h1 := h1) (h2 := h2) (h3 := h3)).trans (Idealize.SL.Sem.wp_mono _ _ _ (fun _ => body_post m ρ c))
  iapply h
  iexact H

set_option maxRecDepth 4000 in
/-- The pipeline's one point runs the kernel. -/
theorem body_obligation (c : Dev nD) : Pipeline.BodyObligation (dats (F := F) m ρ 0 c) (defs₀ (F := F)) 𝒱₀ () Set.univ := fun t => by
  rw [fin_N0 t]
  rw [bigSep_W, bigSep_W]
  simp only [owns_whole_eq]
  exact body_spec m ρ c

/-! ## The launch's side conditions -/

/-- Every window's array is held whole. -/
theorem share_eq (c : Dev nD) (w : Fin cfg0.W) : (dats m ρ 0 c).share w = fullShare := by unfold Pipeline.Dat.share; split <;> rfl

/-- What the launch hands a device is what it starts with. -/
theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(Start m c ∗ emp) := by
  rw [Pipeline.unscopedRestP_none, unscopedRest0_eq]
  unfold G' Start Rec Deal
  iintro ⟨Harg, Hlev, Hcr, -, ⟨%K, HR, Hlin⟩⟩
  ihave Hc := (creds (F := F) c) $$ Hcr
  icases Hc with ⟨HB, Hk⟩
  imodintro
  isplitl
  · iexists K
    isplitl [HR Hlev]
    · isplitl [HR]
      · unfold Rec0; iexact HR
      · iexact Hlev
    isplitl [Hlin]; · iexact Hlin
    isplitl [HB]; · iexact HB
    isplitl [Hk]; · iexact Hk
    iexact Harg
  · iempintro

/-- With the scratch buffers it is what the kernel starts with. -/
theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What a device keeps past the kernel: the barrier's semaphore and its argument. -/
def Kept (c : Dev nD) : sProp 𝕄 := iprop(unscopedSems0 c ∗ (((c : Thread nD τ).loc main_arg0) ↦{fullShare} m ((c : Thread nD τ).loc main_arg0)))

/-- What the kernel leaves is what the launch takes back. -/
theorem phi1_exit (c : Dev nD) :
    (dats m ρ 0 c).Φ (Fin.last cfg0.N) ⊢ iprop(Kept m c ∗ Pipeline.ownSems0 osem c ∗ Pipeline.scopedRest cfg0.spec c) := by
  rw [show (dats m ρ 0 c).Φ (Fin.last cfg0.N) = Left m c from rfl, scopedRest0_eq]
  unfold Left Kept scratch
  rw [sems_eq]
  iintro ⟨⟨HU, HO⟩, Hr, Harg⟩
  isplitl [HU Harg]
  · isplitl [HU] <;> iassumption
  isplitl [HO] <;> iassumption

/-- Every step of the program pays above the lowest level. -/
theorem all_above : okL 0 prog = true := by decide +kernel
/-- All that a device owes at the start lies above the lowest level. -/
theorem owed0_above (c : Dev nD) : Above 0 (owed0 c) := by
  have hb (d : Dev nD) : Above 0 (bt d) := Above.tally d (.reg barS) 1 (show 0 < 1 from Nat.one_pos)
  have ho (b : Bool) (d : Dev nD) : Above 0 (if b then bt d else 0) := by
    split
    · exact hb d
    · exact Above.zero 0
  exact (((((owed_above c 0 prog all_above).add (ho _ _)).add (ho _ _)).add (hb _)).add (hb _)).add (hb _)

/-- The launch's own waits are allowed. -/
theorem waits (c : Dev nD) : (levAts L lv : sProp 𝕄) ⊢ Pipeline.cellsWaits cfgs (dats m ρ) () 0 c :=
  Pipeline.cellsWaits_intro cfgs (dats m ρ) () 0 c fun w s t => by
    have hs : (.dma ((cfg0.spec w).sem s) : SemLoc sig) = .dma (ix .st) := by revert w s; decide +kernel
    rcases t with ⟨_ | _, ht⟩
    · exact (congrArg (fun sm => (levAts L lv : sProp 𝕄) ⊢ MayWait (c : Thread nD τ) sm () (owed0 c)) hs).mpr (mayWait_cl c .st (owed0 c) (owed0_above c))
    · exact (congrArg (fun sm => (levAts L lv : sProp 𝕄) ⊢ MayWait (c : Thread nD τ) sm () 0) hs).mpr (mayWait_cl c .st 0 (Above.zero 0))

/-- Past the run: the barrier's counter is zero and the argument is what it was. -/
def AtEnd (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

/-- What is kept says what the memory holds past the run. -/
theorem at_end (c : Dev nD) (s' : Phys nD τ sig (Elt F)) : iprop(Kept m c ∗ emp ∗ SI s') ⊢ |={Set.univ}=> iprop(⌜AtEnd m c s'.mem⌝ ∗ SI s') := by
  unfold Kept
  iintro ⟨⟨HU, Harg⟩, -, HSI⟩
  icombine HSI Harg gives %h
  imod (Pipeline.unscopedSems0_read (X := unscopedSems0 c) (c := c) fupd_intro s') $$ [HU HSI] with ⟨%h', HSI⟩
  · isplitl [HU] <;> iassumption
  imodintro
  isplitr
  · ipureintro
    exact ⟨h', funext fun i => h i (Finset.mem_univ i)⟩
  · iexact HSI

/-! ## The run -/

/-- What a window's array holds past the run. -/
def finalA (c : Dev nD) (w : Fin cfg0.W) : Buf (Elt F) ((cfg0.win w).arr.view.loc (c : Thread nD τ)) := (dats m ρ 0 c).arrAt w cfg0.N

set_option maxRecDepth 8000 in
/-- Every execution ends with each window's array as computed, the argument unchanged and the counters at zero. -/
theorem run_raw : θ_run defs (onTc (τ := τ) (main (F := F))) (s₀ m ρ) (fun r =>
    (∀ c : Dev nD, (∀ w : Fin cfg0.W, r.2.mem ((cfg0.win w).arr.view.loc (c : Thread nD τ)) = finalA m ρ c w) ∧ AtEnd m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := Start m) (Y := Kept m) (Z := fun _ => iprop(emp)) (hX := start_intro m ρ) (hin := phi0_intro m ρ) (hout := phi1_exit m ρ)
    (QY := AtEnd m) (hY := at_end m)
    (hQ := fun _ h hs => ⟨fun c => ⟨(h c).1, (h c).2.2⟩, sem_eq_zero hs fun c => (h c).2.2.1⟩)

/-- The result's array holds what the kernel left in its window. -/
theorem finalA_out (c : Dev nD) : finalA m ρ c (0 : Fin 1) = (outV m (yc c) : (main_v1 : Ref sig .tc).ty.Contents (Elt F)) := by
  have h : (win0_0.blk (0 : Fin 1)).view.read (Elt F) (finalA m ρ c (0 : Fin 1)) = outV m (yc c) := by
    unfold finalA
    rw [show cfg0.N = ((0 : Fin 1) : Fin cfg0.N).val + 1 from rfl, (dats m ρ 0 c).arrAt_succ (0 : Fin 1) (0 : Fin 1)]
    rw [show (cfg0.win (0 : Fin 1)).flush (0 : Fin 1) = true from flush0_0 _, if_pos rfl]
    exact View.read_write_univ _ _
  have hz : (fun a => (win0_0.index (0 : Fin 1)) a * main_v1.ty.shape.size a) = fun _ => 0 :=
    funext fun a => by fin_cases a <;> decide
  have hr := Memref.read_access_unit_zero (Elt F) main_v1 hz (fun a => by fin_cases a <;> decide) (finalA m ρ c (0 : Fin 1))
  exact hr.symm.trans h

/-- Every execution ends with the counters at zero, the argument unchanged and the result its column of the sum. -/
theorem run_main : θ_run defs (onTc (τ := τ) (main (F := F))) (s₀ m ρ) (fun r =>
    (∀ c : Dev nD, r.2.mem ((c : Thread nD τ).loc main_v1) = (outV m (yc c) : (main_v1 : Ref sig .tc).ty.Contents (Elt F))
      ∧ r.2.mem ((c : Thread nD τ).loc main_arg0) = m ((c : Thread nD τ).loc main_arg0)) ∧ r.2.sem = fun _ => 0) :=
  (θ_run defs _ _).mono (fun _ h => ⟨fun c => ⟨((h.1 c).1 (0 : Fin 1)).trans (finalA_out m ρ c), (h.1 c).2.2⟩, h.2⟩) (run_raw m ρ)

end Cert.KernelIdeal.Rs
-- ==== Proof.ValueKernelIdeal.lean ====
/-
# The value

Over the extended reals, each device's column of the result is that column of the sum of the whole array over its first
axis.
-/
module

public import proofs.«01_k».proof.Proof.RunKernelIdeal
public import proofs.«01_k».proof.Proof.Gen.ReferenceIdeal.Run
public import proofs.«01_k».proof.Defs
public import Idealize.ShloMosaic.Lib.Pipeline.Value
public import Idealize.ShloMosaic.Lib.Pointwise.Reduce
public import Idealize.ShloMosaic.PureOps.Ideal.Laws

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The whole array. -/
abbrev Whole : Type := FVec Ideal ⟨3, ![4, 4096, 4096]⟩ .f32

variable (m : (ℓ : Loc nD τ sig) → Buf (Elt Ideal) ℓ) (X : Whole)

/-- Place `(y, a, b)` of the whole array. -/
def at3 (y : Fin 4) (a b : Fin 4096) : (⟨3, ![4, 4096, 4096]⟩ : Shape).Idx := ix3 y a b

/-- Every device's argument is its block of the whole array. -/
def Agree : Prop := ∀ c : Dev nD, m ((c : Thread nD τ).loc main_arg0)
  = Layout.blockN ⟨3, ![1, 4096, 4096]⟩ ⟨3, ![4, 4096, 4096]⟩ (Layout.meshBlock [2, 4, 4] ![[1], [], []] c) X

/-- A device's place along `y`, by the mesh. -/
theorem mesh_y : ∀ c : Dev nD, Layout.meshLin [2, 4, 4] c.val [1] = (yc c).val := by decide +kernel

/-- A block of a device's argument, in the whole array. -/
theorem A_apply (hX : Agree m X) (c : Dev nD) (n : Fin 32) (j : Fin 4) (i : S128x1024.Idx) (a b : Fin 4096)
    (ha : a.val = 128 * n.val + (i 0).val) (hb : b.val = 1024 * j.val + (i 1).val) :
    (A m c n j : Blk Ideal) i = X (at3 (yc c) a b) := by
  unfold A
  have hc : S1x128x1024.ShapeCasts S128x1024 := by decide
  have hr : (aM n j).view.read (Elt Ideal) (m ((c : Thread nD τ).loc main_arg0)) = shapeCast S128x1024
      ((Memref.whole main_arg0 : Memref sig .tc .hbm S1x4096x4096 .f32).view.readAt (Elt Ideal)
        (Rect.unit (s := S1x4096x4096) ![0, 128 * n.val, 1024 * j.val] S1x128x1024.size (aM_inb n j)).toLoadRect (m ((c : Thread nD τ).loc main_arg0))) hc := rfl
  rw [hr]
  refine (shapeCast_dropUnit_apply ![128, 1024] _ hc i).trans ?_
  rw [hX c]
  show X _ = _
  congr 1
  funext d
  fin_cases d
  · refine Fin.ext ?_
    show Layout.meshLin [2, 4, 4] c.val [1] * 1 + (0 + 1 * 0) = (yc c).val
    rw [mesh_y]; omega
  · refine Fin.ext ?_
    show 0 * 4096 + (128 * n.val + 1 * (i 0).val) = a.val
    omega
  · refine Fin.ext ?_
    show 0 * 4096 + (1024 * j.val + 1 * (i 1).val) = b.val
    omega

/-- The devices of a ring, from the one that ends with the sum backwards, cover the four blocks. -/
theorem ring_cover : ∀ (y : Fin 4) (n : Fin 32), let c := dv (n.val / 16) y.val (n.val / 4 % 4); let k := f4 n.val
    (nc c k = n ∧ nc (left c) k = n ∧ nc (left (left c)) k = n ∧ nc (left (left (left c))) k = n)
    ∧ (ch c 3 = y ∧ ch (left c) 2 = y ∧ ch (left (left c)) 1 = y ∧ ch (left (left (left c))) 0 = y)
    ∧ (yc c = y ∧ yc (left c) = y + 3 ∧ yc (left (left c)) = y + 2 ∧ yc (left (left (left c))) = y + 1) := by
  decide +kernel

/-- The four blocks in any of the ring's orders add up to their sum. -/
theorem sum_ring (f : Fin 4 → EReal) (y : Fin 4) : f (y + 1) + f (y + 2) + f (y + 3) + f y = ∑ t : Fin 4, f t := by
  rw [Fin.sum_univ_four]
  fin_cases y
  · show f 1 + f 2 + f 3 + f 0 = _; abel
  · show f 2 + f 3 + f 0 + f 1 = _; abel
  · show f 3 + f 0 + f 1 + f 2 = _; abel
  · rfl

/-- A piece of a column is the sum of the four blocks there. -/
theorem rv_apply (hX : Agree m X) (y : Fin 4) (n : Fin 32) (i : S128x1024.Idx) (a b : Fin 4096)
    (ha : a.val = 128 * n.val + (i 0).val) (hb : b.val = 1024 * y.val + (i 1).val) :
    (rv m y n : Blk Ideal) i = ∑ t : Fin 4, X (at3 t a b) := by
  obtain ⟨⟨n0, n1, n2, n3⟩, ⟨c0, c1, c2, c3⟩, ⟨y0, y1, y2, y3⟩⟩ := ring_cover y n
  have h (c : Dev nD) (k j : Fin 4) (hn : nc c k = n) (hj : ch c j = y) : (A m c (nc c k) (ch c j) : Blk Ideal) i = X (at3 (yc c) a b) := by
    rw [hn, hj]; exact A_apply m X hX c n y i a b ha hb
  have h3 := h _ _ 0 n3 c3
  have h2 := h _ _ 1 n2 c2
  have h1 := h _ _ 2 n1 c1
  have h0 := h _ _ 3 n0 c0
  rw [y3] at h3; rw [y2] at h2; rw [y1] at h1; rw [y0] at h0
  rw [← sum_ring (fun t => X (at3 t a b)) y]
  refine Eq.trans ?_ (congrArg₂ (· + ·) (congrArg₂ (· + ·) (congrArg₂ (· + ·) h3 h2) h1) h0)
  rfl

/-- A device's column of the result is that column of the reference's sum. -/
theorem out_eq (hX : Agree m X) (c : Dev nD) :
    (outV m (yc c) : Vec Ideal S4096x1024 .f32)
      = Layout.blockN ⟨2, ![4096, 1024]⟩ ⟨2, ![4096, 4096]⟩ (Layout.meshBlock [2, 4, 4] ![[], [1]] c)
          (Host.reduceAdd (F := Ideal) (φ := .f32) X (constant Cert.ReferenceIdeal.S_ .f32 0x00000000#32)
            Cert.ReferenceIdeal.Gen.reducesTo_S4x4096x4096_S4096x4096_d0 Cert.ReferenceIdeal.Gen.h_S_) := by
  funext i
  rw [Layout.blockN_apply, Host.reduceAdd_apply, Ideal.hostReduceAdd_def, Ideal.hostReduceAdd_r3_a0]
  have hz : (constant (F := Ideal) Cert.ReferenceIdeal.S_ .f32 0x00000000#32) (Shape.Idx.first Cert.ReferenceIdeal.Gen.h_S_) = (0 : EReal) := Ideal.ofBits_zero_f32
  rw [hz, zero_add]
  have hi0 : (i 0).val < 4096 := (i 0).isLt
  have hi1 : (i 1).val < 1024 := (i 1).isLt
  have hy := (yc c).isLt
  refine (rv_apply m X hX (yc c) _ _ ⟨(i 0).val, hi0⟩ ⟨1024 * (yc c).val + (i 1).val, by omega⟩ ?_ rfl).trans ?_
  · show (i 0).val = 128 * ((i 0).val / 128) + (i 0).val % 128; omega
  · refine Finset.sum_congr rfl fun t _ => ?_
    congr 1
    funext d
    fin_cases d
    · rfl
    · refine Fin.ext ?_
      show (i 0).val = 0 * 4096 + (i 0).val; omega
    · refine Fin.ext ?_
      show 1024 * (yc c).val + (i 1).val = Layout.meshLin [2, 4, 4] c.val [1] * 1024 + (i 1).val
      rw [mesh_y]; omega

/-- The kernel's result is the reference's. -/
theorem value : Cert.algebraic_KernelIdeal_ReferenceIdeal := by
  intro m g m' g' _ hX
  refine ⟨_, ?_, (θ_run Cert.ReferenceIdeal.defs _ _).mono (fun _ h => h 0) (Cert.ReferenceIdeal.Value.run (F := Ideal) m' g')⟩
  exact (θ_run defs _ _).mono (fun _ h c => ⟨((h.1 c).1).trans (out_eq m _ hX c), (h.1 c).2⟩) (run_main (F := Ideal) m g)

end Cert.KernelIdeal.Rs
-- ==== Proof.lean ====
/-
# The proof

The kernel terminates on every device without a fault, leaves its argument unchanged and every semaphore counter at zero, at
both arithmetics, and over the extended reals its result is the reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunKernelIdeal
public import proofs.«01_k».proof.Proof.ValueKernelIdeal
public import Idealize.ShloMosaic.Adequacy
public import Idealize.ShloMosaic.Init

@[expose] public section

noncomputable section

namespace Cert.Proof

open Idealize.ShloMosaic Idealize.SL.Sem

/-! ## The two kernels are one program -/

section Same

variable {F : FTy → Type} [FloatOps F]

/-- The two programs' kernel functions are the same: nothing was replaced in the idealized one. -/
theorem defs₀_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- So are their launches. -/
theorem defs_same : Cert.Kernel.defs (F := F) = Cert.KernelIdeal.defs (F := F) := congrArg (Pipeline.defs _) defs₀_same

end Same

/-! ## The claims -/

/-- On words: the kernel terminates with its argument unchanged and every counter at zero. -/
theorem frame_words : Cert.quiescent_Kernel := by
  intro m g _
  have h := Cert.KernelIdeal.Rs.run_main (F := Bits) m g
  rw [← defs_same] at h
  exact (θ_run Cert.Kernel.defs _ _).mono (fun _ h => ⟨fun c => (h.1 c).2, h.2⟩) h

/-- Over the extended reals, the same. -/
theorem frame_reals : Cert.quiescent_KernelIdeal := by
  intro m g _
  exact (θ_run Cert.KernelIdeal.defs _ _).mono (fun _ h => ⟨fun c => (h.1 c).2, h.2⟩) (Cert.KernelIdeal.Rs.run_main (F := Ideal) m g)

/-- The reference terminates with its argument unchanged; it has no semaphore. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- All five claims. -/
theorem claim : Cert.Claim := ⟨Cert.Kernel.Gen.facts, Cert.KernelIdeal.Gen.facts, Cert.ReferenceIdeal.Gen.facts,
  frame_words, frame_reals, frame_reference, trivial, Cert.KernelIdeal.Rs.value⟩

end Cert.Proof

end
